-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled_KernelIdeal [hPre_finite_and_labelled_KernelIdeal : Cert.Pre_finite_and_labelled_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_labelled_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled_ReferenceIdeal [hPre_finite_and_labelled_ReferenceIdeal : Cert.Pre_finite_and_labelled_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_labelled_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_labelled_KernelIdeal [hKernelIdeal : Cert.KernelIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_labelled_ReferenceIdeal [hReferenceIdeal : Cert.ReferenceIdeal.Facts] [hPre_finite_and_labelled_ReferenceIdeal : Cert.Pre_finite_and_labelled_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_labelled_KernelIdeal [hKernelIdeal : Cert.KernelIdeal.Facts] [hReferenceIdeal : Cert.ReferenceIdeal.Facts] [hPre_finite_and_labelled_KernelIdeal : Cert.Pre_finite_and_labelled_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_labelled_KernelIdeal : Cert.Pre_finite_and_labelled_KernelIdeal.Facts) (hPre_finite_and_labelled_ReferenceIdeal : Cert.Pre_finite_and_labelled_ReferenceIdeal.Facts),
    quiescent_Kernel (hKernel := hKernel)
    ∧ quiescent_KernelIdeal (hKernelIdeal := hKernelIdeal)
    ∧ quiescent_KernelIdeal_pre_finite_and_labelled_KernelIdeal (hKernelIdeal := hKernelIdeal) (hPre_finite_and_labelled_KernelIdeal := hPre_finite_and_labelled_KernelIdeal)
    ∧ quiescent_ReferenceIdeal (hReferenceIdeal := hReferenceIdeal)
    ∧ quiescent_ReferenceIdeal_pre_finite_and_labelled_ReferenceIdeal (hReferenceIdeal := hReferenceIdeal) (hPre_finite_and_labelled_ReferenceIdeal := hPre_finite_and_labelled_ReferenceIdeal)
    ∧ preserves_Kernel_KernelIdeal
    ∧ algebraic_KernelIdeal_ReferenceIdeal_pre_finite_and_labelled_KernelIdeal (hKernelIdeal := hKernelIdeal) (hReferenceIdeal := hReferenceIdeal) (hPre_finite_and_labelled_KernelIdeal := hPre_finite_and_labelled_KernelIdeal)
-- ==== Pre_finite_and_labelled_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)
  bcast_S_S512 : S_.BroadcastsInDim S512 (![] : Fin 0 → Fin S512.rank)

variable [Facts]

def fn {F : FTy → Type} [FloatOps F] (main_arg0 : FVec F S512x1024 .f32) (main_arg1 : FVec F S1024x8192 .f32) (main_arg2 : IVec S512 32) : IVec S512x1024 1 × IVec S1024x8192 1 × IVec S512 1 :=
  let main_cst : FVec F S_ .f32 := constant S_ .f32 0x7F800000#32
  let main_v0 : FVec F S_ .f32 := Host.negf main_cst
  let main_v1 : FVec F S512x1024 .f32 := broadcastInDim S512x1024 ![] bcast_S_S512x1024 main_v0
  let main_v2 : IVec S512x1024 1 := cmpf .olt main_v1 main_arg0
  let main_cst_0 : FVec F S_ .f32 := constant S_ .f32 0x7F800000#32
  let main_v3 : FVec F S512x1024 .f32 := broadcastInDim S512x1024 ![] bcast_S_S512x1024 main_cst_0
  let main_v4 : IVec S512x1024 1 := cmpf .olt main_arg0 main_v3
  let main_v5 : IVec S512x1024 1 := andi main_v2 main_v4
  let main_cst_1 : FVec F S_ .f32 := constant S_ .f32 0x7F800000#32
  let main_v6 : FVec F S_ .f32 := Host.negf main_cst_1
  let main_v7 : FVec F S1024x8192 .f32 := broadcastInDim S1024x8192 ![] bcast_S_S1024x8192 main_v6
  let main_v8 : IVec S1024x8192 1 := cmpf .olt main_v7 main_arg1
  let main_cst_2 : FVec F S_ .f32 := constant S_ .f32 0x7F800000#32
  let main_v9 : FVec F S1024x8192 .f32 := broadcastInDim S1024x8192 ![] bcast_S_S1024x8192 main_cst_2
  let main_v10 : IVec S1024x8192 1 := cmpf .olt main_arg1 main_v9
  let main_v11 : IVec S1024x8192 1 := andi main_v8 main_v10
  let main_c : IVec S_ 32 := constantI S_ 32 0#32
  let main_v12 : IVec S512 32 := broadcastInDim S512 ![] bcast_S_S512 main_c
  let main_v13 : IVec S512 1 := cmpi .sge main_arg2 main_v12
  let main_c_3 : IVec S_ 32 := constantI S_ 32 32768#32
  let main_v14 : IVec S512 32 := broadcastInDim S512 ![] bcast_S_S512 main_c_3
  let main_v15 : IVec S512 1 := cmpi .slt main_arg2 main_v14
  let main_v16 : IVec S512 1 := andi main_v13 main_v15
  (main_v5, main_v11, main_v16)
-- ==== Pre_finite_and_labelled_ReferenceIdeal.lean ====
abbrev S512x1024 : Shape := ⟨2, ![512, 1024]⟩
abbrev S1024x32768 : Shape := ⟨2, ![1024, 32768]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)
  bcast_S_S512 : S_.BroadcastsInDim S512 (![] : Fin 0 → Fin S512.rank)

variable [Facts]

def fn {F : FTy → Type} [FloatOps F] (main_arg0 : FVec F S512x1024 .f32) (main_arg1 : FVec F S1024x32768 .f32) (main_arg2 : IVec S512 32) : IVec S512x1024 1 × IVec S1024x32768 1 × IVec S512 1 :=
  let main_cst : FVec F S_ .f32 := constant S_ .f32 0x7F800000#32
  let main_v0 : FVec F S_ .f32 := Host.negf main_cst
  let main_v1 : FVec F S512x1024 .f32 := broadcastInDim S512x1024 ![] bcast_S_S512x1024 main_v0
  let main_v2 : IVec S512x1024 1 := cmpf .olt main_v1 main_arg0
  let main_cst_0 : FVec F S_ .f32 := constant S_ .f32 0x7F800000#32
  let main_v3 : FVec F S512x1024 .f32 := broadcastInDim S512x1024 ![] bcast_S_S512x1024 main_cst_0
  let main_v4 : IVec S512x1024 1 := cmpf .olt main_arg0 main_v3
  let main_v5 : IVec S512x1024 1 := andi main_v2 main_v4
  let main_cst_1 : FVec F S_ .f32 := constant S_ .f32 0x7F800000#32
  let main_v6 : FVec F S_ .f32 := Host.negf main_cst_1
  let main_v7 : FVec F S1024x32768 .f32 := broadcastInDim S1024x32768 ![] bcast_S_S1024x32768 main_v6
  let main_v8 : IVec S1024x32768 1 := cmpf .olt main_v7 main_arg1
  let main_cst_2 : FVec F S_ .f32 := constant S_ .f32 0x7F800000#32
  let main_v9 : FVec F S1024x32768 .f32 := broadcastInDim S1024x32768 ![] bcast_S_S1024x32768 main_cst_2
  let main_v10 : IVec S1024x32768 1 := cmpf .olt main_arg1 main_v9
  let main_v11 : IVec S1024x32768 1 := andi main_v8 main_v10
  let main_c : IVec S_ 32 := constantI S_ 32 0#32
  let main_v12 : IVec S512 32 := broadcastInDim S512 ![] bcast_S_S512 main_c
  let main_v13 : IVec S512 1 := cmpi .sge main_arg2 main_v12
  let main_c_3 : IVec S_ 32 := constantI S_ 32 32768#32
  let main_v14 : IVec S512 32 := broadcastInDim S512 ![] bcast_S_S512 main_c_3
  let main_v15 : IVec S512 1 := cmpi .slt main_arg2 main_v14
  let main_v16 : IVec S512 1 := andi main_v13 main_v15
  (main_v5, main_v11, main_v16)
-- ==== Kernel.lean ====
abbrev S512x1024 : Shape := ⟨2, ![512, 1024]⟩
abbrev S1024x8192 : Shape := ⟨2, ![1024, 8192]⟩
abbrev S512 : Shape := ⟨1, ![512]⟩
abbrev S4x1024x256 : Shape := ⟨3, ![4, 1024, 256]⟩
abbrev S32x2x512 : Shape := ⟨3, ![32, 2, 512]⟩
abbrev S4 : Shape := ⟨1, ![4]⟩
abbrev S31 : Shape := ⟨1, ![31]⟩
abbrev S_ : Shape := ⟨0, ![]⟩
abbrev S1 : Shape := ⟨1, ![1]⟩
abbrev S1x1024x256 : Shape := ⟨3, ![1, 1024, 256]⟩
abbrev S1024x256 : Shape := ⟨2, ![1024, 256]⟩
abbrev S512x256 : Shape := ⟨2, ![512, 256]⟩
abbrev S512x1 : Shape := ⟨2, ![512, 1]⟩
abbrev S1x1x512 : Shape := ⟨3, ![1, 1, 512]⟩
abbrev S1x2x512 : Shape := ⟨3, ![1, 2, 512]⟩
abbrev S2x512 : Shape := ⟨2, ![2, 512]⟩
abbrev S32x1x512 : Shape := ⟨3, ![32, 1, 512]⟩
abbrev S32x512 : Shape := ⟨2, ![32, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512, .i32⟩
  | .hbm, ⟨3, _⟩ => ⟨S512, .f32⟩
  | .local _ .vmem, ⟨0, _⟩ => ⟨S512x1024, .f32⟩
  | .local _ .vmem, ⟨1, _⟩ => ⟨S512, .i32⟩
  | .local _ .vmem, ⟨2, _⟩ => ⟨S512, .f32⟩
  | .local _ .vmem, ⟨3, _⟩ => ⟨S4x1024x256, .f32⟩
  | .local _ .vmem, ⟨4, _⟩ => ⟨S32x2x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v10 : BitVec 32 := Scalar.addi v2 c0_i32
  let c2_i32_2 : BitVec 32 := 2#32
  let c0_i32_3 : BitVec 32 := 0#32
  let v11 : BitVec 1 := Scalar.cmpi .eq c2_i32_2 c0_i32_3
  let c1_i32_4 : BitVec 32 := 1#32
  let v12 : BitVec 32 := Scalar.select v11 c1_i32_4 c2_i32_2
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c16_i32_23 : BitVec 32 := 16#32
  let v43 : BitVec 32 := Scalar.muli v20 c16_i32_23
  let v44 : BitVec 32 := Scalar.addi c0_i32_24 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_8 : BitVec 32 := 0#32
  let v21 : BitVec 32 := Scalar.addi v5 c0_i32_8
  let c4_i32_9 : BitVec 32 := 4#32
  let c0_i32_10 : BitVec 32 := 0#32
  let v22 : BitVec 1 := Scalar.cmpi .eq c4_i32_9 c0_i32_10
  let c1_i32_11 : BitVec 32 := 1#32
  let v23 : BitVec 32 := Scalar.select v22 c1_i32_11 c4_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c4_i32_25 : BitVec 32 := 4#32
  let v45 : BitVec 32 := Scalar.muli v31 c4_i32_25
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v32 : BitVec 32 := Scalar.addi v8 c1_i32_15
  let c4_i32_16 : BitVec 32 := 4#32
  let c0_i32_17 : BitVec 32 := 0#32
  let v33 : BitVec 1 := Scalar.cmpi .eq c4_i32_16 c0_i32_17
  let c1_i32_18 : BitVec 32 := 1#32
  let v34 : BitVec 32 := Scalar.select v33 c1_i32_18 c4_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let c1_i32_26 : BitVec 32 := 1#32
  let v47 : BitVec 32 := Scalar.muli v42 c1_i32_26
  let v48 : BitVec 32 := Scalar.addi v46 v47
  v48.toNat
def k0_dev2 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_27 : BitVec 32 := 0#32
  let v49 : BitVec 32 := Scalar.addi v2 c0_i32_27
  let c2_i32_28 : BitVec 32 := 2#32
  let c0_i32_29 : BitVec 32 := 0#32
  let v50 : BitVec 1 := Scalar.cmpi .eq c2_i32_28 c0_i32_29
  let c1_i32_30 : BitVec 32 := 1#32
  let v51 : BitVec 32 := Scalar.select v50 c1_i32_30 c2_i32_28
  let v52 : BitVec 32 := Scalar.remsi v49 v51
  let c0_i32_32 : BitVec 32 := 0#32
  let v54 : BitVec 1 := Scalar.cmpi .slt v52 c0_i32_32
  let c0_i32_33 : BitVec 32 := 0#32
  let v55 : BitVec 1 := Scalar.cmpi .slt v51 c0_i32_33
  let v56 : BitVec 1 := Scalar.xori v54 v55
  let c0_i32_31 : BitVec 32 := 0#32
  let v53 : BitVec 1 := Scalar.cmpi .ne v52 c0_i32_31
  let v57 : BitVec 1 := Scalar.andi v56 v53
  let v58 : BitVec 32 := Scalar.addi v52 v51
  let v59 : BitVec 32 := Scalar.select v57 v58 v52
  let c16_i32_49 : BitVec 32 := 16#32
  let v82 : BitVec 32 := Scalar.muli v59 c16_i32_49
  let v83 : BitVec 32 := Scalar.addi c0_i32_50 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_34 : BitVec 32 := 0#32
  let v60 : BitVec 32 := Scalar.addi v5 c0_i32_34
  let c4_i32_35 : BitVec 32 := 4#32
  let c0_i32_36 : BitVec 32 := 0#32
  let v61 : BitVec 1 := Scalar.cmpi .eq c4_i32_35 c0_i32_36
  let c1_i32_37 : BitVec 32 := 1#32
  let v62 : BitVec 32 := Scalar.select v61 c1_i32_37 c4_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c4_i32_51 : BitVec 32 := 4#32
  let v84 : BitVec 32 := Scalar.muli v70 c4_i32_51
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_41 : BitVec 32 := 2#32
  let v71 : BitVec 32 := Scalar.addi v8 c2_i32_41
  let c4_i32_42 : BitVec 32 := 4#32
  let c0_i32_43 : BitVec 32 := 0#32
  let v72 : BitVec 1 := Scalar.cmpi .eq c4_i32_42 c0_i32_43
  let c1_i32_44 : BitVec 32 := 1#32
  let v73 : BitVec 32 := Scalar.select v72 c1_i32_44 c4_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_52 : BitVec 32 := 1#32
  let v86 : BitVec 32 := Scalar.muli v81 c1_i32_52
  let v87 : BitVec 32 := Scalar.addi v85 v86
  v87.toNat
def k0_dev3 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_53 : BitVec 32 := 0#32
  let v88 : BitVec 32 := Scalar.addi v2 c0_i32_53
  let c2_i32_54 : BitVec 32 := 2#32
  let c0_i32_55 : BitVec 32 := 0#32
  let v89 : BitVec 1 := Scalar.cmpi .eq c2_i32_54 c0_i32_55
  let c1_i32_56 : BitVec 32 := 1#32
  let v90 : BitVec 32 := Scalar.select v89 c1_i32_56 c2_i32_54
  let v91 : BitVec 32 := Scalar.remsi v88 v90
  let c0_i32_58 : BitVec 32 := 0#32
  let v93 : BitVec 1 := Scalar.cmpi .slt v91 c0_i32_58
  let c0_i32_59 : BitVec 32 := 0#32
  let v94 : BitVec 1 := Scalar.cmpi .slt v90 c0_i32_59
  let v95 : BitVec 1 := Scalar.xori v93 v94
  let c0_i32_57 : BitVec 32 := 0#32
  let v92 : BitVec 1 := Scalar.cmpi .ne v91 c0_i32_57
  let v96 : BitVec 1 := Scalar.andi v95 v92
  let v97 : BitVec 32 := Scalar.addi v91 v90
  let v98 : BitVec 32 := Scalar.select v96 v97 v91
  let c16_i32_74 : BitVec 32 := 16#32
  let v121 : BitVec 32 := Scalar.muli v98 c16_i32_74
  let v122 : BitVec 32 := Scalar.addi c0_i32_75 v121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_60 : BitVec 32 := 0#32
  let v99 : BitVec 32 := Scalar.addi v5 c0_i32_60
  let c4_i32_61 : BitVec 32 := 4#32
  let c0_i32_62 : BitVec 32 := 0#32
  let v100 : BitVec 1 := Scalar.cmpi .eq c4_i32_61 c0_i32_62
  let c1_i32_63 : BitVec 32 := 1#32
  let v101 : BitVec 32 := Scalar.select v100 c1_i32_63 c4_i32_61
  let v102 : BitVec 32 := Scalar.remsi v99 v101
  let c0_i32_65 : BitVec 32 := 0#32
  let v104 : BitVec 1 := Scalar.cmpi .slt v102 c0_i32_65
  let c0_i32_66 : BitVec 32 := 0#32
  let v105 : BitVec 1 := Scalar.cmpi .slt v101 c0_i32_66
  let v106 : BitVec 1 := Scalar.xori v104 v105
  let c0_i32_64 : BitVec 32 := 0#32
  let v103 : BitVec 1 := Scalar.cmpi .ne v102 c0_i32_64
  let v107 : BitVec 1 := Scalar.andi v106 v103
  let v108 : BitVec 32 := Scalar.addi v102 v101
  let v109 : BitVec 32 := Scalar.select v107 v108 v102
  let c4_i32_76 : BitVec 32 := 4#32
  let v123 : BitVec 32 := Scalar.muli v109 c4_i32_76
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v110 : BitVec 32 := Scalar.addi v8 c3_i32
  let c4_i32_67 : BitVec 32 := 4#32
  let c0_i32_68 : BitVec 32 := 0#32
  let v111 : BitVec 1 := Scalar.cmpi .eq c4_i32_67 c0_i32_68
  let c1_i32_69 : BitVec 32 := 1#32
  let v112 : BitVec 32 := Scalar.select v111 c1_i32_69 c4_i32_67
  let v113 : BitVec 32 := Scalar.remsi v110 v112
  let c0_i32_71 : BitVec 32 := 0#32
  let v115 : BitVec 1 := Scalar.cmpi .slt v113 c0_i32_71
  let c0_i32_72 : BitVec 32 := 0#32
  let v116 : BitVec 1 := Scalar.cmpi .slt v112 c0_i32_72
  let v117 : BitVec 1 := Scalar.xori v115 v116
  let c0_i32_70 : BitVec 32 := 0#32
  let v114 : BitVec 1 := Scalar.cmpi .ne v113 c0_i32_70
  let v118 : BitVec 1 := Scalar.andi v117 v114
  let v119 : BitVec 32 := Scalar.addi v113 v112
  let v120 : BitVec 32 := Scalar.select v118 v119 v113
  let c1_i32_77 : BitVec 32 := 1#32
  let v125 : BitVec 32 := Scalar.muli v120 c1_i32_77
  let v126 : BitVec 32 := Scalar.addi v124 v125
  v126.toNat
def k0_dev4 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_78 : BitVec 32 := 0#32
  let v127 : BitVec 32 := Scalar.addi v2 c0_i32_78
  let c2_i32_79 : BitVec 32 := 2#32
  let c0_i32_80 : BitVec 32 := 0#32
  let v128 : BitVec 1 := Scalar.cmpi .eq c2_i32_79 c0_i32_80
  let c1_i32_81 : BitVec 32 := 1#32
  let v129 : BitVec 32 := Scalar.select v128 c1_i32_81 c2_i32_79
  let v130 : BitVec 32 := Scalar.remsi v127 v129
  let c0_i32_83 : BitVec 32 := 0#32
  let v132 : BitVec 1 := Scalar.cmpi .slt v130 c0_i32_83
  let c0_i32_84 : BitVec 32 := 0#32
  let v133 : BitVec 1 := Scalar.cmpi .slt v129 c0_i32_84
  let v134 : BitVec 1 := Scalar.xori v132 v133
  let c0_i32_82 : BitVec 32 := 0#32
  let v131 : BitVec 1 := Scalar.cmpi .ne v130 c0_i32_82
  let v135 : BitVec 1 := Scalar.andi v134 v131
  let v136 : BitVec 32 := Scalar.addi v130 v129
  let v137 : BitVec 32 := Scalar.select v135 v136 v130
  let c16_i32_100 : BitVec 32 := 16#32
  let v160 : BitVec 32 := Scalar.muli v137 c16_i32_100
  let v161 : BitVec 32 := Scalar.addi c0_i32_101 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_85 : BitVec 32 := 1#32
  let v138 : BitVec 32 := Scalar.addi v5 c1_i32_85
  let c4_i32_86 : BitVec 32 := 4#32
  let c0_i32_87 : BitVec 32 := 0#32
  let v139 : BitVec 1 := Scalar.cmpi .eq c4_i32_86 c0_i32_87
  let c1_i32_88 : BitVec 32 := 1#32
  let v140 : BitVec 32 := Scalar.select v139 c1_i32_88 c4_i32_86
  let v141 : BitVec 32 := Scalar.remsi v138 v140
  let c0_i32_90 : BitVec 32 := 0#32
  let v143 : BitVec 1 := Scalar.cmpi .slt v141 c0_i32_90
  let c0_i32_91 : BitVec 32 := 0#32
  let v144 : BitVec 1 := Scalar.cmpi .slt v140 c0_i32_91
  let v145 : BitVec 1 := Scalar.xori v143 v144
  let c0_i32_89 : BitVec 32 := 0#32
  let v142 : BitVec 1 := Scalar.cmpi .ne v141 c0_i32_89
  let v146 : BitVec 1 := Scalar.andi v145 v142
  let v147 : BitVec 32 := Scalar.addi v141 v140
  let v148 : BitVec 32 := Scalar.select v146 v147 v141
  let c4_i32_102 : BitVec 32 := 4#32
  let v162 : BitVec 32 := Scalar.muli v148 c4_i32_102
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_92 : BitVec 32 := 0#32
  let v149 : BitVec 32 := Scalar.addi v8 c0_i32_92
  let c4_i32_93 : BitVec 32 := 4#32
  let c0_i32_94 : BitVec 32 := 0#32
  let v150 : BitVec 1 := Scalar.cmpi .eq c4_i32_93 c0_i32_94
  let c1_i32_95 : BitVec 32 := 1#32
  let v151 : BitVec 32 := Scalar.select v150 c1_i32_95 c4_i32_93
  let v152 : BitVec 32 := Scalar.remsi v149 v151
  let c0_i32_97 : BitVec 32 := 0#32
  let v154 : BitVec 1 := Scalar.cmpi .slt v152 c0_i32_97
  let c0_i32_98 : BitVec 32 := 0#32
  let v155 : BitVec 1 := Scalar.cmpi .slt v151 c0_i32_98
  let v156 : BitVec 1 := Scalar.xori v154 v155
  let c0_i32_96 : BitVec 32 := 0#32
  let v153 : BitVec 1 := Scalar.cmpi .ne v152 c0_i32_96
  let v157 : BitVec 1 := Scalar.andi v156 v153
  let v158 : BitVec 32 := Scalar.addi v152 v151
  let v159 : BitVec 32 := Scalar.select v157 v158 v152
  let c1_i32_103 : BitVec 32 := 1#32
  let v164 : BitVec 32 := Scalar.muli v159 c1_i32_103
  let v165 : BitVec 32 := Scalar.addi v163 v164
  v165.toNat
def k0_dev5 (d0 : Dev nD) : Nat :=
  let c0_i32_127 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_104 : BitVec 32 := 0#32
  let v166 : BitVec 32 := Scalar.addi v2 c0_i32_104
  let c2_i32_105 : BitVec 32 := 2#32
  let c0_i32_106 : BitVec 32 := 0#32
  let v167 : BitVec 1 := Scalar.cmpi .eq c2_i32_105 c0_i32_106
  let c1_i32_107 : BitVec 32 := 1#32
  let v168 : BitVec 32 := Scalar.select v167 c1_i32_107 c2_i32_105
  let v169 : BitVec 32 := Scalar.remsi v166 v168
  let c0_i32_109 : BitVec 32 := 0#32
  let v171 : BitVec 1 := Scalar.cmpi .slt v169 c0_i32_109
  let c0_i32_110 : BitVec 32 := 0#32
  let v172 : BitVec 1 := Scalar.cmpi .slt v168 c0_i32_110
  let v173 : BitVec 1 := Scalar.xori v171 v172
  let c0_i32_108 : BitVec 32 := 0#32
  let v170 : BitVec 1 := Scalar.cmpi .ne v169 c0_i32_108
  let v174 : BitVec 1 := Scalar.andi v173 v170
  let v175 : BitVec 32 := Scalar.addi v169 v168
  let v176 : BitVec 32 := Scalar.select v174 v175 v169
  let c16_i32_126 : BitVec 32 := 16#32
  let v199 : BitVec 32 := Scalar.muli v176 c16_i32_126
  let v200 : BitVec 32 := Scalar.addi c0_i32_127 v199
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_111 : BitVec 32 := 1#32
  let v177 : BitVec 32 := Scalar.addi v5 c1_i32_111
  let c4_i32_112 : BitVec 32 := 4#32
  let c0_i32_113 : BitVec 32 := 0#32
  let v178 : BitVec 1 := Scalar.cmpi .eq c4_i32_112 c0_i32_113
  let c1_i32_114 : BitVec 32 := 1#32
  let v179 : BitVec 32 := Scalar.select v178 c1_i32_114 c4_i32_112
  let v180 : BitVec 32 := Scalar.remsi v177 v179
  let c0_i32_116 : BitVec 32 := 0#32
  let v182 : BitVec 1 := Scalar.cmpi .slt v180 c0_i32_116
  let c0_i32_117 : BitVec 32 := 0#32
  let v183 : BitVec 1 := Scalar.cmpi .slt v179 c0_i32_117
  let v184 : BitVec 1 := Scalar.xori v182 v183
  let c0_i32_115 : BitVec 32 := 0#32
  let v181 : BitVec 1 := Scalar.cmpi .ne v180 c0_i32_115
  let v185 : BitVec 1 := Scalar.andi v184 v181
  let v186 : BitVec 32 := Scalar.addi v180 v179
  let v187 : BitVec 32 := Scalar.select v185 v186 v180
  let c4_i32_128 : BitVec 32 := 4#32
  let v201 : BitVec 32 := Scalar.muli v187 c4_i32_128
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v188 : BitVec 32 := Scalar.addi v8 c1_i32_118
  let c4_i32_119 : BitVec 32 := 4#32
  let c0_i32_120 : BitVec 32 := 0#32
  let v189 : BitVec 1 := Scalar.cmpi .eq c4_i32_119 c0_i32_120
  let c1_i32_121 : BitVec 32 := 1#32
  let v190 : BitVec 32 := Scalar.select v189 c1_i32_121 c4_i32_119
  let v191 : BitVec 32 := Scalar.remsi v188 v190
  let c0_i32_123 : BitVec 32 := 0#32
  let v193 : BitVec 1 := Scalar.cmpi .slt v191 c0_i32_123
  let c0_i32_124 : BitVec 32 := 0#32
  let v194 : BitVec 1 := Scalar.cmpi .slt v190 c0_i32_124
  let v195 : BitVec 1 := Scalar.xori v193 v194
  let c0_i32_122 : BitVec 32 := 0#32
  let v192 : BitVec 1 := Scalar.cmpi .ne v191 c0_i32_122
  let v196 : BitVec 1 := Scalar.andi v195 v192
  let v197 : BitVec 32 := Scalar.addi v191 v190
  let v198 : BitVec 32 := Scalar.select v196 v197 v191
  let c1_i32_129 : BitVec 32 := 1#32
  let v203 : BitVec 32 := Scalar.muli v198 c1_i32_129
  let v204 : BitVec 32 := Scalar.addi v202 v203
  v204.toNat
def k0_dev6 (d0 : Dev nD) : Nat :=
  let c0_i32_153 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_130 : BitVec 32 := 0#32
  let v205 : BitVec 32 := Scalar.addi v2 c0_i32_130
  let c2_i32_131 : BitVec 32 := 2#32
  let c0_i32_132 : BitVec 32 := 0#32
  let v206 : BitVec 1 := Scalar.cmpi .eq c2_i32_131 c0_i32_132
  let c1_i32_133 : BitVec 32 := 1#32
  let v207 : BitVec 32 := Scalar.select v206 c1_i32_133 c2_i32_131
  let v208 : BitVec 32 := Scalar.remsi v205 v207
  let c0_i32_135 : BitVec 32 := 0#32
  let v210 : BitVec 1 := Scalar.cmpi .slt v208 c0_i32_135
  let c0_i32_136 : BitVec 32 := 0#32
  let v211 : BitVec 1 := Scalar.cmpi .slt v207 c0_i32_136
  let v212 : BitVec 1 := Scalar.xori v210 v211
  let c0_i32_134 : BitVec 32 := 0#32
  let v209 : BitVec 1 := Scalar.cmpi .ne v208 c0_i32_134
  let v213 : BitVec 1 := Scalar.andi v212 v209
  let v214 : BitVec 32 := Scalar.addi v208 v207
  let v215 : BitVec 32 := Scalar.select v213 v214 v208
  let c16_i32_152 : BitVec 32 := 16#32
  let v238 : BitVec 32 := Scalar.muli v215 c16_i32_152
  let v239 : BitVec 32 := Scalar.addi c0_i32_153 v238
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_137 : BitVec 32 := 1#32
  let v216 : BitVec 32 := Scalar.addi v5 c1_i32_137
  let c4_i32_138 : BitVec 32 := 4#32
  let c0_i32_139 : BitVec 32 := 0#32
  let v217 : BitVec 1 := Scalar.cmpi .eq c4_i32_138 c0_i32_139
  let c1_i32_140 : BitVec 32 := 1#32
  let v218 : BitVec 32 := Scalar.select v217 c1_i32_140 c4_i32_138
  let v219 : BitVec 32 := Scalar.remsi v216 v218
  let c0_i32_142 : BitVec 32 := 0#32
  let v221 : BitVec 1 := Scalar.cmpi .slt v219 c0_i32_142
  let c0_i32_143 : BitVec 32 := 0#32
  let v222 : BitVec 1 := Scalar.cmpi .slt v218 c0_i32_143
  let v223 : BitVec 1 := Scalar.xori v221 v222
  let c0_i32_141 : BitVec 32 := 0#32
  let v220 : BitVec 1 := Scalar.cmpi .ne v219 c0_i32_141
  let v224 : BitVec 1 := Scalar.andi v223 v220
  let v225 : BitVec 32 := Scalar.addi v219 v218
  let v226 : BitVec 32 := Scalar.select v224 v225 v219
  let c4_i32_154 : BitVec 32 := 4#32
  let v240 : BitVec 32 := Scalar.muli v226 c4_i32_154
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_144 : BitVec 32 := 2#32
  let v227 : BitVec 32 := Scalar.addi v8 c2_i32_144
  let c4_i32_145 : BitVec 32 := 4#32
  let c0_i32_146 : BitVec 32 := 0#32
  let v228 : BitVec 1 := Scalar.cmpi .eq c4_i32_145 c0_i32_146
  let c1_i32_147 : BitVec 32 := 1#32
  let v229 : BitVec 32 := Scalar.select v228 c1_i32_147 c4_i32_145
  let v230 : BitVec 32 := Scalar.remsi v227 v229
  let c0_i32_149 : BitVec 32 := 0#32
  let v232 : BitVec 1 := Scalar.cmpi .slt v230 c0_i32_149
  let c0_i32_150 : BitVec 32 := 0#32
  let v233 : BitVec 1 := Scalar.cmpi .slt v229 c0_i32_150
  let v234 : BitVec 1 := Scalar.xori v232 v233
  let c0_i32_148 : BitVec 32 := 0#32
  let v231 : BitVec 1 := Scalar.cmpi .ne v230 c0_i32_148
  let v235 : BitVec 1 := Scalar.andi v234 v231
  let v236 : BitVec 32 := Scalar.addi v230 v229
  let v237 : BitVec 32 := Scalar.select v235 v236 v230
  let c1_i32_155 : BitVec 32 := 1#32
  let v242 : BitVec 32 := Scalar.muli v237 c1_i32_155
  let v243 : BitVec 32 := Scalar.addi v241 v242
  v243.toNat
def k0_dev7 (d0 : Dev nD) : Nat :=
  let c0_i32_179 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_156 : BitVec 32 := 0#32
  let v244 : BitVec 32 := Scalar.addi v2 c0_i32_156
  let c2_i32_157 : BitVec 32 := 2#32
  let c0_i32_158 : BitVec 32 := 0#32
  let v245 : BitVec 1 := Scalar.cmpi .eq c2_i32_157 c0_i32_158
  let c1_i32_159 : BitVec 32 := 1#32
  let v246 : BitVec 32 := Scalar.select v245 c1_i32_159 c2_i32_157
  let v247 : BitVec 32 := Scalar.remsi v244 v246
  let c0_i32_161 : BitVec 32 := 0#32
  let v249 : BitVec 1 := Scalar.cmpi .slt v247 c0_i32_161
  let c0_i32_162 : BitVec 32 := 0#32
  let v250 : BitVec 1 := Scalar.cmpi .slt v246 c0_i32_162
  let v251 : BitVec 1 := Scalar.xori v249 v250
  let c0_i32_160 : BitVec 32 := 0#32
  let v248 : BitVec 1 := Scalar.cmpi .ne v247 c0_i32_160
  let v252 : BitVec 1 := Scalar.andi v251 v248
  let v253 : BitVec 32 := Scalar.addi v247 v246
  let v254 : BitVec 32 := Scalar.select v252 v253 v247
  let c16_i32_178 : BitVec 32 := 16#32
  let v277 : BitVec 32 := Scalar.muli v254 c16_i32_178
  let v278 : BitVec 32 := Scalar.addi c0_i32_179 v277
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_163 : BitVec 32 := 1#32
  let v255 : BitVec 32 := Scalar.addi v5 c1_i32_163
  let c4_i32_164 : BitVec 32 := 4#32
  let c0_i32_165 : BitVec 32 := 0#32
  let v256 : BitVec 1 := Scalar.cmpi .eq c4_i32_164 c0_i32_165
  let c1_i32_166 : BitVec 32 := 1#32
  let v257 : BitVec 32 := Scalar.select v256 c1_i32_166 c4_i32_164
  let v258 : BitVec 32 := Scalar.remsi v255 v257
  let c0_i32_168 : BitVec 32 := 0#32
  let v260 : BitVec 1 := Scalar.cmpi .slt v258 c0_i32_168
  let c0_i32_169 : BitVec 32 := 0#32
  let v261 : BitVec 1 := Scalar.cmpi .slt v257 c0_i32_169
  let v262 : BitVec 1 := Scalar.xori v260 v261
  let c0_i32_167 : BitVec 32 := 0#32
  let v259 : BitVec 1 := Scalar.cmpi .ne v258 c0_i32_167
  let v263 : BitVec 1 := Scalar.andi v262 v259
  let v264 : BitVec 32 := Scalar.addi v258 v257
  let v265 : BitVec 32 := Scalar.select v263 v264 v258
  let c4_i32_180 : BitVec 32 := 4#32
  let v279 : BitVec 32 := Scalar.muli v265 c4_i32_180
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_170 : BitVec 32 := 3#32
  let v266 : BitVec 32 := Scalar.addi v8 c3_i32_170
  let c4_i32_171 : BitVec 32 := 4#32
  let c0_i32_172 : BitVec 32 := 0#32
  let v267 : BitVec 1 := Scalar.cmpi .eq c4_i32_171 c0_i32_172
  let c1_i32_173 : BitVec 32 := 1#32
  let v268 : BitVec 32 := Scalar.select v267 c1_i32_173 c4_i32_171
  let v269 : BitVec 32 := Scalar.remsi v266 v268
  let c0_i32_175 : BitVec 32 := 0#32
  let v271 : BitVec 1 := Scalar.cmpi .slt v269 c0_i32_175
  let c0_i32_176 : BitVec 32 := 0#32
  let v272 : BitVec 1 := Scalar.cmpi .slt v268 c0_i32_176
  let v273 : BitVec 1 := Scalar.xori v271 v272
  let c0_i32_174 : BitVec 32 := 0#32
  let v270 : BitVec 1 := Scalar.cmpi .ne v269 c0_i32_174
  let v274 : BitVec 1 := Scalar.andi v273 v270
  let v275 : BitVec 32 := Scalar.addi v269 v268
  let v276 : BitVec 32 := Scalar.select v274 v275 v269
  let c1_i32_181 : BitVec 32 := 1#32
  let v281 : BitVec 32 := Scalar.muli v276 c1_i32_181
  let v282 : BitVec 32 := Scalar.addi v280 v281
  v282.toNat
def k0_dev8 (d0 : Dev nD) : Nat :=
  let c0_i32_205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_182 : BitVec 32 := 0#32
  let v283 : BitVec 32 := Scalar.addi v2 c0_i32_182
  let c2_i32_183 : BitVec 32 := 2#32
  let c0_i32_184 : BitVec 32 := 0#32
  let v284 : BitVec 1 := Scalar.cmpi .eq c2_i32_183 c0_i32_184
  let c1_i32_185 : BitVec 32 := 1#32
  let v285 : BitVec 32 := Scalar.select v284 c1_i32_185 c2_i32_183
  let v286 : BitVec 32 := Scalar.remsi v283 v285
  let c0_i32_187 : BitVec 32 := 0#32
  let v288 : BitVec 1 := Scalar.cmpi .slt v286 c0_i32_187
  let c0_i32_188 : BitVec 32 := 0#32
  let v289 : BitVec 1 := Scalar.cmpi .slt v285 c0_i32_188
  let v290 : BitVec 1 := Scalar.xori v288 v289
  let c0_i32_186 : BitVec 32 := 0#32
  let v287 : BitVec 1 := Scalar.cmpi .ne v286 c0_i32_186
  let v291 : BitVec 1 := Scalar.andi v290 v287
  let v292 : BitVec 32 := Scalar.addi v286 v285
  let v293 : BitVec 32 := Scalar.select v291 v292 v286
  let c16_i32_204 : BitVec 32 := 16#32
  let v316 : BitVec 32 := Scalar.muli v293 c16_i32_204
  let v317 : BitVec 32 := Scalar.addi c0_i32_205 v316
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_189 : BitVec 32 := 2#32
  let v294 : BitVec 32 := Scalar.addi v5 c2_i32_189
  let c4_i32_190 : BitVec 32 := 4#32
  let c0_i32_191 : BitVec 32 := 0#32
  let v295 : BitVec 1 := Scalar.cmpi .eq c4_i32_190 c0_i32_191
  let c1_i32_192 : BitVec 32 := 1#32
  let v296 : BitVec 32 := Scalar.select v295 c1_i32_192 c4_i32_190
  let v297 : BitVec 32 := Scalar.remsi v294 v296
  let c0_i32_194 : BitVec 32 := 0#32
  let v299 : BitVec 1 := Scalar.cmpi .slt v297 c0_i32_194
  let c0_i32_195 : BitVec 32 := 0#32
  let v300 : BitVec 1 := Scalar.cmpi .slt v296 c0_i32_195
  let v301 : BitVec 1 := Scalar.xori v299 v300
  let c0_i32_193 : BitVec 32 := 0#32
  let v298 : BitVec 1 := Scalar.cmpi .ne v297 c0_i32_193
  let v302 : BitVec 1 := Scalar.andi v301 v298
  let v303 : BitVec 32 := Scalar.addi v297 v296
  let v304 : BitVec 32 := Scalar.select v302 v303 v297
  let c4_i32_206 : BitVec 32 := 4#32
  let v318 : BitVec 32 := Scalar.muli v304 c4_i32_206
  let v319 : BitVec 32 := Scalar.addi v317 v318
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_196 : BitVec 32 := 0#32
  let v305 : BitVec 32 := Scalar.addi v8 c0_i32_196
  let c4_i32_197 : BitVec 32 := 4#32
  let c0_i32_198 : BitVec 32 := 0#32
  let v306 : BitVec 1 := Scalar.cmpi .eq c4_i32_197 c0_i32_198
  let c1_i32_199 : BitVec 32 := 1#32
  let v307 : BitVec 32 := Scalar.select v306 c1_i32_199 c4_i32_197
  let v308 : BitVec 32 := Scalar.remsi v305 v307
  let c0_i32_201 : BitVec 32 := 0#32
  let v310 : BitVec 1 := Scalar.cmpi .slt v308 c0_i32_201
  let c0_i32_202 : BitVec 32 := 0#32
  let v311 : BitVec 1 := Scalar.cmpi .slt v307 c0_i32_202
  let v312 : BitVec 1 := Scalar.xori v310 v311
  let c0_i32_200 : BitVec 32 := 0#32
  let v309 : BitVec 1 := Scalar.cmpi .ne v308 c0_i32_200
  let v313 : BitVec 1 := Scalar.andi v312 v309
  let v314 : BitVec 32 := Scalar.addi v308 v307
  let v315 : BitVec 32 := Scalar.select v313 v314 v308
  let c1_i32_207 : BitVec 32 := 1#32
  let v320 : BitVec 32 := Scalar.muli v315 c1_i32_207
  let v321 : BitVec 32 := Scalar.addi v319 v320
  v321.toNat
def k0_dev9 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_208 : BitVec 32 := 0#32
  let v322 : BitVec 32 := Scalar.addi v2 c0_i32_208
  let c2_i32_209 : BitVec 32 := 2#32
  let c0_i32_210 : BitVec 32 := 0#32
  let v323 : BitVec 1 := Scalar.cmpi .eq c2_i32_209 c0_i32_210
  let c1_i32_211 : BitVec 32 := 1#32
  let v324 : BitVec 32 := Scalar.select v323 c1_i32_211 c2_i32_209
  let v325 : BitVec 32 := Scalar.remsi v322 v324
  let c0_i32_213 : BitVec 32 := 0#32
  let v327 : BitVec 1 := Scalar.cmpi .slt v325 c0_i32_213
  let c0_i32_214 : BitVec 32 := 0#32
  let v328 : BitVec 1 := Scalar.cmpi .slt v324 c0_i32_214
  let v329 : BitVec 1 := Scalar.xori v327 v328
  let c0_i32_212 : BitVec 32 := 0#32
  let v326 : BitVec 1 := Scalar.cmpi .ne v325 c0_i32_212
  let v330 : BitVec 1 := Scalar.andi v329 v326
  let v331 : BitVec 32 := Scalar.addi v325 v324
  let v332 : BitVec 32 := Scalar.select v330 v331 v325
  let c16_i32_230 : BitVec 32 := 16#32
  let v355 : BitVec 32 := Scalar.muli v332 c16_i32_230
  let v356 : BitVec 32 := Scalar.addi c0_i32_231 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_215 : BitVec 32 := 2#32
  let v333 : BitVec 32 := Scalar.addi v5 c2_i32_215
  let c4_i32_216 : BitVec 32 := 4#32
  let c0_i32_217 : BitVec 32 := 0#32
  let v334 : BitVec 1 := Scalar.cmpi .eq c4_i32_216 c0_i32_217
  let c1_i32_218 : BitVec 32 := 1#32
  let v335 : BitVec 32 := Scalar.select v334 c1_i32_218 c4_i32_216
  let v336 : BitVec 32 := Scalar.remsi v333 v335
  let c0_i32_220 : BitVec 32 := 0#32
  let v338 : BitVec 1 := Scalar.cmpi .slt v336 c0_i32_220
  let c0_i32_221 : BitVec 32 := 0#32
  let v339 : BitVec 1 := Scalar.cmpi .slt v335 c0_i32_221
  let v340 : BitVec 1 := Scalar.xori v338 v339
  let c0_i32_219 : BitVec 32 := 0#32
  let v337 : BitVec 1 := Scalar.cmpi .ne v336 c0_i32_219
  let v341 : BitVec 1 := Scalar.andi v340 v337
  let v342 : BitVec 32 := Scalar.addi v336 v335
  let v343 : BitVec 32 := Scalar.select v341 v342 v336
  let c4_i32_232 : BitVec 32 := 4#32
  let v357 : BitVec 32 := Scalar.muli v343 c4_i32_232
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v344 : BitVec 32 := Scalar.addi v8 c1_i32_222
  let c4_i32_223 : BitVec 32 := 4#32
  let c0_i32_224 : BitVec 32 := 0#32
  let v345 : BitVec 1 := Scalar.cmpi .eq c4_i32_223 c0_i32_224
  let c1_i32_225 : BitVec 32 := 1#32
  let v346 : BitVec 32 := Scalar.select v345 c1_i32_225 c4_i32_223
  let v347 : BitVec 32 := Scalar.remsi v344 v346
  let c0_i32_227 : BitVec 32 := 0#32
  let v349 : BitVec 1 := Scalar.cmpi .slt v347 c0_i32_227
  let c0_i32_228 : BitVec 32 := 0#32
  let v350 : BitVec 1 := Scalar.cmpi .slt v346 c0_i32_228
  let v351 : BitVec 1 := Scalar.xori v349 v350
  let c0_i32_226 : BitVec 32 := 0#32
  let v348 : BitVec 1 := Scalar.cmpi .ne v347 c0_i32_226
  let v352 : BitVec 1 := Scalar.andi v351 v348
  let v353 : BitVec 32 := Scalar.addi v347 v346
  let v354 : BitVec 32 := Scalar.select v352 v353 v347
  let c1_i32_233 : BitVec 32 := 1#32
  let v359 : BitVec 32 := Scalar.muli v354 c1_i32_233
  let v360 : BitVec 32 := Scalar.addi v358 v359
  v360.toNat
def k0_dev10 (d0 : Dev nD) : Nat :=
  let c0_i32_257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_234 : BitVec 32 := 0#32
  let v361 : BitVec 32 := Scalar.addi v2 c0_i32_234
  let c2_i32_235 : BitVec 32 := 2#32
  let c0_i32_236 : BitVec 32 := 0#32
  let v362 : BitVec 1 := Scalar.cmpi .eq c2_i32_235 c0_i32_236
  let c1_i32_237 : BitVec 32 := 1#32
  let v363 : BitVec 32 := Scalar.select v362 c1_i32_237 c2_i32_235
  let v364 : BitVec 32 := Scalar.remsi v361 v363
  let c0_i32_239 : BitVec 32 := 0#32
  let v366 : BitVec 1 := Scalar.cmpi .slt v364 c0_i32_239
  let c0_i32_240 : BitVec 32 := 0#32
  let v367 : BitVec 1 := Scalar.cmpi .slt v363 c0_i32_240
  let v368 : BitVec 1 := Scalar.xori v366 v367
  let c0_i32_238 : BitVec 32 := 0#32
  let v365 : BitVec 1 := Scalar.cmpi .ne v364 c0_i32_238
  let v369 : BitVec 1 := Scalar.andi v368 v365
  let v370 : BitVec 32 := Scalar.addi v364 v363
  let v371 : BitVec 32 := Scalar.select v369 v370 v364
  let c16_i32_256 : BitVec 32 := 16#32
  let v394 : BitVec 32 := Scalar.muli v371 c16_i32_256
  let v395 : BitVec 32 := Scalar.addi c0_i32_257 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_241 : BitVec 32 := 2#32
  let v372 : BitVec 32 := Scalar.addi v5 c2_i32_241
  let c4_i32_242 : BitVec 32 := 4#32
  let c0_i32_243 : BitVec 32 := 0#32
  let v373 : BitVec 1 := Scalar.cmpi .eq c4_i32_242 c0_i32_243
  let c1_i32_244 : BitVec 32 := 1#32
  let v374 : BitVec 32 := Scalar.select v373 c1_i32_244 c4_i32_242
  let v375 : BitVec 32 := Scalar.remsi v372 v374
  let c0_i32_246 : BitVec 32 := 0#32
  let v377 : BitVec 1 := Scalar.cmpi .slt v375 c0_i32_246
  let c0_i32_247 : BitVec 32 := 0#32
  let v378 : BitVec 1 := Scalar.cmpi .slt v374 c0_i32_247
  let v379 : BitVec 1 := Scalar.xori v377 v378
  let c0_i32_245 : BitVec 32 := 0#32
  let v376 : BitVec 1 := Scalar.cmpi .ne v375 c0_i32_245
  let v380 : BitVec 1 := Scalar.andi v379 v376
  let v381 : BitVec 32 := Scalar.addi v375 v374
  let v382 : BitVec 32 := Scalar.select v380 v381 v375
  let c4_i32_258 : BitVec 32 := 4#32
  let v396 : BitVec 32 := Scalar.muli v382 c4_i32_258
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_248 : BitVec 32 := 2#32
  let v383 : BitVec 32 := Scalar.addi v8 c2_i32_248
  let c4_i32_249 : BitVec 32 := 4#32
  let c0_i32_250 : BitVec 32 := 0#32
  let v384 : BitVec 1 := Scalar.cmpi .eq c4_i32_249 c0_i32_250
  let c1_i32_251 : BitVec 32 := 1#32
  let v385 : BitVec 32 := Scalar.select v384 c1_i32_251 c4_i32_249
  let v386 : BitVec 32 := Scalar.remsi v383 v385
  let c0_i32_253 : BitVec 32 := 0#32
  let v388 : BitVec 1 := Scalar.cmpi .slt v386 c0_i32_253
  let c0_i32_254 : BitVec 32 := 0#32
  let v389 : BitVec 1 := Scalar.cmpi .slt v385 c0_i32_254
  let v390 : BitVec 1 := Scalar.xori v388 v389
  let c0_i32_252 : BitVec 32 := 0#32
  let v387 : BitVec 1 := Scalar.cmpi .ne v386 c0_i32_252
  let v391 : BitVec 1 := Scalar.andi v390 v387
  let v392 : BitVec 32 := Scalar.addi v386 v385
  let v393 : BitVec 32 := Scalar.select v391 v392 v386
  let c1_i32_259 : BitVec 32 := 1#32
  let v398 : BitVec 32 := Scalar.muli v393 c1_i32_259
  let v399 : BitVec 32 := Scalar.addi v397 v398
  v399.toNat
def k0_dev11 (d0 : Dev nD) : Nat :=
  let c0_i32_283 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_260 : BitVec 32 := 0#32
  let v400 : BitVec 32 := Scalar.addi v2 c0_i32_260
  let c2_i32_261 : BitVec 32 := 2#32
  let c0_i32_262 : BitVec 32 := 0#32
  let v401 : BitVec 1 := Scalar.cmpi .eq c2_i32_261 c0_i32_262
  let c1_i32_263 : BitVec 32 := 1#32
  let v402 : BitVec 32 := Scalar.select v401 c1_i32_263 c2_i32_261
  let v403 : BitVec 32 := Scalar.remsi v400 v402
  let c0_i32_265 : BitVec 32 := 0#32
  let v405 : BitVec 1 := Scalar.cmpi .slt v403 c0_i32_265
  let c0_i32_266 : BitVec 32 := 0#32
  let v406 : BitVec 1 := Scalar.cmpi .slt v402 c0_i32_266
  let v407 : BitVec 1 := Scalar.xori v405 v406
  let c0_i32_264 : BitVec 32 := 0#32
  let v404 : BitVec 1 := Scalar.cmpi .ne v403 c0_i32_264
  let v408 : BitVec 1 := Scalar.andi v407 v404
  let v409 : BitVec 32 := Scalar.addi v403 v402
  let v410 : BitVec 32 := Scalar.select v408 v409 v403
  let c16_i32_282 : BitVec 32 := 16#32
  let v433 : BitVec 32 := Scalar.muli v410 c16_i32_282
  let v434 : BitVec 32 := Scalar.addi c0_i32_283 v433
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_267 : BitVec 32 := 2#32
  let v411 : BitVec 32 := Scalar.addi v5 c2_i32_267
  let c4_i32_268 : BitVec 32 := 4#32
  let c0_i32_269 : BitVec 32 := 0#32
  let v412 : BitVec 1 := Scalar.cmpi .eq c4_i32_268 c0_i32_269
  let c1_i32_270 : BitVec 32 := 1#32
  let v413 : BitVec 32 := Scalar.select v412 c1_i32_270 c4_i32_268
  let v414 : BitVec 32 := Scalar.remsi v411 v413
  let c0_i32_272 : BitVec 32 := 0#32
  let v416 : BitVec 1 := Scalar.cmpi .slt v414 c0_i32_272
  let c0_i32_273 : BitVec 32 := 0#32
  let v417 : BitVec 1 := Scalar.cmpi .slt v413 c0_i32_273
  let v418 : BitVec 1 := Scalar.xori v416 v417
  let c0_i32_271 : BitVec 32 := 0#32
  let v415 : BitVec 1 := Scalar.cmpi .ne v414 c0_i32_271
  let v419 : BitVec 1 := Scalar.andi v418 v415
  let v420 : BitVec 32 := Scalar.addi v414 v413
  let v421 : BitVec 32 := Scalar.select v419 v420 v414
  let c4_i32_284 : BitVec 32 := 4#32
  let v435 : BitVec 32 := Scalar.muli v421 c4_i32_284
  let v436 : BitVec 32 := Scalar.addi v434 v435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_274 : BitVec 32 := 3#32
  let v422 : BitVec 32 := Scalar.addi v8 c3_i32_274
  let c4_i32_275 : BitVec 32 := 4#32
  let c0_i32_276 : BitVec 32 := 0#32
  let v423 : BitVec 1 := Scalar.cmpi .eq c4_i32_275 c0_i32_276
  let c1_i32_277 : BitVec 32 := 1#32
  let v424 : BitVec 32 := Scalar.select v423 c1_i32_277 c4_i32_275
  let v425 : BitVec 32 := Scalar.remsi v422 v424
  let c0_i32_279 : BitVec 32 := 0#32
  let v427 : BitVec 1 := Scalar.cmpi .slt v425 c0_i32_279
  let c0_i32_280 : BitVec 32 := 0#32
  let v428 : BitVec 1 := Scalar.cmpi .slt v424 c0_i32_280
  let v429 : BitVec 1 := Scalar.xori v427 v428
  let c0_i32_278 : BitVec 32 := 0#32
  let v426 : BitVec 1 := Scalar.cmpi .ne v425 c0_i32_278
  let v430 : BitVec 1 := Scalar.andi v429 v426
  let v431 : BitVec 32 := Scalar.addi v425 v424
  let v432 : BitVec 32 := Scalar.select v430 v431 v425
  let c1_i32_285 : BitVec 32 := 1#32
  let v437 : BitVec 32 := Scalar.muli v432 c1_i32_285
  let v438 : BitVec 32 := Scalar.addi v436 v437
  v438.toNat
def k0_dev12 (d0 : Dev nD) : Nat :=
  let c0_i32_309 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_286 : BitVec 32 := 0#32
  let v439 : BitVec 32 := Scalar.addi v2 c0_i32_286
  let c2_i32_287 : BitVec 32 := 2#32
  let c0_i32_288 : BitVec 32 := 0#32
  let v440 : BitVec 1 := Scalar.cmpi .eq c2_i32_287 c0_i32_288
  let c1_i32_289 : BitVec 32 := 1#32
  let v441 : BitVec 32 := Scalar.select v440 c1_i32_289 c2_i32_287
  let v442 : BitVec 32 := Scalar.remsi v439 v441
  let c0_i32_291 : BitVec 32 := 0#32
  let v444 : BitVec 1 := Scalar.cmpi .slt v442 c0_i32_291
  let c0_i32_292 : BitVec 32 := 0#32
  let v445 : BitVec 1 := Scalar.cmpi .slt v441 c0_i32_292
  let v446 : BitVec 1 := Scalar.xori v444 v445
  let c0_i32_290 : BitVec 32 := 0#32
  let v443 : BitVec 1 := Scalar.cmpi .ne v442 c0_i32_290
  let v447 : BitVec 1 := Scalar.andi v446 v443
  let v448 : BitVec 32 := Scalar.addi v442 v441
  let v449 : BitVec 32 := Scalar.select v447 v448 v442
  let c16_i32_308 : BitVec 32 := 16#32
  let v472 : BitVec 32 := Scalar.muli v449 c16_i32_308
  let v473 : BitVec 32 := Scalar.addi c0_i32_309 v472
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_293 : BitVec 32 := 3#32
  let v450 : BitVec 32 := Scalar.addi v5 c3_i32_293
  let c4_i32_294 : BitVec 32 := 4#32
  let c0_i32_295 : BitVec 32 := 0#32
  let v451 : BitVec 1 := Scalar.cmpi .eq c4_i32_294 c0_i32_295
  let c1_i32_296 : BitVec 32 := 1#32
  let v452 : BitVec 32 := Scalar.select v451 c1_i32_296 c4_i32_294
  let v453 : BitVec 32 := Scalar.remsi v450 v452
  let c0_i32_298 : BitVec 32 := 0#32
  let v455 : BitVec 1 := Scalar.cmpi .slt v453 c0_i32_298
  let c0_i32_299 : BitVec 32 := 0#32
  let v456 : BitVec 1 := Scalar.cmpi .slt v452 c0_i32_299
  let v457 : BitVec 1 := Scalar.xori v455 v456
  let c0_i32_297 : BitVec 32 := 0#32
  let v454 : BitVec 1 := Scalar.cmpi .ne v453 c0_i32_297
  let v458 : BitVec 1 := Scalar.andi v457 v454
  let v459 : BitVec 32 := Scalar.addi v453 v452
  let v460 : BitVec 32 := Scalar.select v458 v459 v453
  let c4_i32_310 : BitVec 32 := 4#32
  let v474 : BitVec 32 := Scalar.muli v460 c4_i32_310
  let v475 : BitVec 32 := Scalar.addi v473 v474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_300 : BitVec 32 := 0#32
  let v461 : BitVec 32 := Scalar.addi v8 c0_i32_300
  let c4_i32_301 : BitVec 32 := 4#32
  let c0_i32_302 : BitVec 32 := 0#32
  let v462 : BitVec 1 := Scalar.cmpi .eq c4_i32_301 c0_i32_302
  let c1_i32_303 : BitVec 32 := 1#32
  let v463 : BitVec 32 := Scalar.select v462 c1_i32_303 c4_i32_301
  let v464 : BitVec 32 := Scalar.remsi v461 v463
  let c0_i32_305 : BitVec 32 := 0#32
  let v466 : BitVec 1 := Scalar.cmpi .slt v464 c0_i32_305
  let c0_i32_306 : BitVec 32 := 0#32
  let v467 : BitVec 1 := Scalar.cmpi .slt v463 c0_i32_306
  let v468 : BitVec 1 := Scalar.xori v466 v467
  let c0_i32_304 : BitVec 32 := 0#32
  let v465 : BitVec 1 := Scalar.cmpi .ne v464 c0_i32_304
  let v469 : BitVec 1 := Scalar.andi v468 v465
  let v470 : BitVec 32 := Scalar.addi v464 v463
  let v471 : BitVec 32 := Scalar.select v469 v470 v464
  let c1_i32_311 : BitVec 32 := 1#32
  let v476 : BitVec 32 := Scalar.muli v471 c1_i32_311
  let v477 : BitVec 32 := Scalar.addi v475 v476
  v477.toNat
def k0_dev13 (d0 : Dev nD) : Nat :=
  let c0_i32_335 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_312 : BitVec 32 := 0#32
  let v478 : BitVec 32 := Scalar.addi v2 c0_i32_312
  let c2_i32_313 : BitVec 32 := 2#32
  let c0_i32_314 : BitVec 32 := 0#32
  let v479 : BitVec 1 := Scalar.cmpi .eq c2_i32_313 c0_i32_314
  let c1_i32_315 : BitVec 32 := 1#32
  let v480 : BitVec 32 := Scalar.select v479 c1_i32_315 c2_i32_313
  let v481 : BitVec 32 := Scalar.remsi v478 v480
  let c0_i32_317 : BitVec 32 := 0#32
  let v483 : BitVec 1 := Scalar.cmpi .slt v481 c0_i32_317
  let c0_i32_318 : BitVec 32 := 0#32
  let v484 : BitVec 1 := Scalar.cmpi .slt v480 c0_i32_318
  let v485 : BitVec 1 := Scalar.xori v483 v484
  let c0_i32_316 : BitVec 32 := 0#32
  let v482 : BitVec 1 := Scalar.cmpi .ne v481 c0_i32_316
  let v486 : BitVec 1 := Scalar.andi v485 v482
  let v487 : BitVec 32 := Scalar.addi v481 v480
  let v488 : BitVec 32 := Scalar.select v486 v487 v481
  let c16_i32_334 : BitVec 32 := 16#32
  let v511 : BitVec 32 := Scalar.muli v488 c16_i32_334
  let v512 : BitVec 32 := Scalar.addi c0_i32_335 v511
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_319 : BitVec 32 := 3#32
  let v489 : BitVec 32 := Scalar.addi v5 c3_i32_319
  let c4_i32_320 : BitVec 32 := 4#32
  let c0_i32_321 : BitVec 32 := 0#32
  let v490 : BitVec 1 := Scalar.cmpi .eq c4_i32_320 c0_i32_321
  let c1_i32_322 : BitVec 32 := 1#32
  let v491 : BitVec 32 := Scalar.select v490 c1_i32_322 c4_i32_320
  let v492 : BitVec 32 := Scalar.remsi v489 v491
  let c0_i32_324 : BitVec 32 := 0#32
  let v494 : BitVec 1 := Scalar.cmpi .slt v492 c0_i32_324
  let c0_i32_325 : BitVec 32 := 0#32
  let v495 : BitVec 1 := Scalar.cmpi .slt v491 c0_i32_325
  let v496 : BitVec 1 := Scalar.xori v494 v495
  let c0_i32_323 : BitVec 32 := 0#32
  let v493 : BitVec 1 := Scalar.cmpi .ne v492 c0_i32_323
  let v497 : BitVec 1 := Scalar.andi v496 v493
  let v498 : BitVec 32 := Scalar.addi v492 v491
  let v499 : BitVec 32 := Scalar.select v497 v498 v492
  let c4_i32_336 : BitVec 32 := 4#32
  let v513 : BitVec 32 := Scalar.muli v499 c4_i32_336
  let v514 : BitVec 32 := Scalar.addi v512 v513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v500 : BitVec 32 := Scalar.addi v8 c1_i32_326
  let c4_i32_327 : BitVec 32 := 4#32
  let c0_i32_328 : BitVec 32 := 0#32
  let v501 : BitVec 1 := Scalar.cmpi .eq c4_i32_327 c0_i32_328
  let c1_i32_329 : BitVec 32 := 1#32
  let v502 : BitVec 32 := Scalar.select v501 c1_i32_329 c4_i32_327
  let v503 : BitVec 32 := Scalar.remsi v500 v502
  let c0_i32_331 : BitVec 32 := 0#32
  let v505 : BitVec 1 := Scalar.cmpi .slt v503 c0_i32_331
  let c0_i32_332 : BitVec 32 := 0#32
  let v506 : BitVec 1 := Scalar.cmpi .slt v502 c0_i32_332
  let v507 : BitVec 1 := Scalar.xori v505 v506
  let c0_i32_330 : BitVec 32 := 0#32
  let v504 : BitVec 1 := Scalar.cmpi .ne v503 c0_i32_330
  let v508 : BitVec 1 := Scalar.andi v507 v504
  let v509 : BitVec 32 := Scalar.addi v503 v502
  let v510 : BitVec 32 := Scalar.select v508 v509 v503
  let c1_i32_337 : BitVec 32 := 1#32
  let v515 : BitVec 32 := Scalar.muli v510 c1_i32_337
  let v516 : BitVec 32 := Scalar.addi v514 v515
  v516.toNat
def k0_dev14 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_338 : BitVec 32 := 0#32
  let v517 : BitVec 32 := Scalar.addi v2 c0_i32_338
  let c2_i32_339 : BitVec 32 := 2#32
  let c0_i32_340 : BitVec 32 := 0#32
  let v518 : BitVec 1 := Scalar.cmpi .eq c2_i32_339 c0_i32_340
  let c1_i32_341 : BitVec 32 := 1#32
  let v519 : BitVec 32 := Scalar.select v518 c1_i32_341 c2_i32_339
  let v520 : BitVec 32 := Scalar.remsi v517 v519
  let c0_i32_343 : BitVec 32 := 0#32
  let v522 : BitVec 1 := Scalar.cmpi .slt v520 c0_i32_343
  let c0_i32_344 : BitVec 32 := 0#32
  let v523 : BitVec 1 := Scalar.cmpi .slt v519 c0_i32_344
  let v524 : BitVec 1 := Scalar.xori v522 v523
  let c0_i32_342 : BitVec 32 := 0#32
  let v521 : BitVec 1 := Scalar.cmpi .ne v520 c0_i32_342
  let v525 : BitVec 1 := Scalar.andi v524 v521
  let v526 : BitVec 32 := Scalar.addi v520 v519
  let v527 : BitVec 32 := Scalar.select v525 v526 v520
  let c16_i32_360 : BitVec 32 := 16#32
  let v550 : BitVec 32 := Scalar.muli v527 c16_i32_360
  let v551 : BitVec 32 := Scalar.addi c0_i32_361 v550
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_345 : BitVec 32 := 3#32
  let v528 : BitVec 32 := Scalar.addi v5 c3_i32_345
  let c4_i32_346 : BitVec 32 := 4#32
  let c0_i32_347 : BitVec 32 := 0#32
  let v529 : BitVec 1 := Scalar.cmpi .eq c4_i32_346 c0_i32_347
  let c1_i32_348 : BitVec 32 := 1#32
  let v530 : BitVec 32 := Scalar.select v529 c1_i32_348 c4_i32_346
  let v531 : BitVec 32 := Scalar.remsi v528 v530
  let c0_i32_350 : BitVec 32 := 0#32
  let v533 : BitVec 1 := Scalar.cmpi .slt v531 c0_i32_350
  let c0_i32_351 : BitVec 32 := 0#32
  let v534 : BitVec 1 := Scalar.cmpi .slt v530 c0_i32_351
  let v535 : BitVec 1 := Scalar.xori v533 v534
  let c0_i32_349 : BitVec 32 := 0#32
  let v532 : BitVec 1 := Scalar.cmpi .ne v531 c0_i32_349
  let v536 : BitVec 1 := Scalar.andi v535 v532
  let v537 : BitVec 32 := Scalar.addi v531 v530
  let v538 : BitVec 32 := Scalar.select v536 v537 v531
  let c4_i32_362 : BitVec 32 := 4#32
  let v552 : BitVec 32 := Scalar.muli v538 c4_i32_362
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_352 : BitVec 32 := 2#32
  let v539 : BitVec 32 := Scalar.addi v8 c2_i32_352
  let c4_i32_353 : BitVec 32 := 4#32
  let c0_i32_354 : BitVec 32 := 0#32
  let v540 : BitVec 1 := Scalar.cmpi .eq c4_i32_353 c0_i32_354
  let c1_i32_355 : BitVec 32 := 1#32
  let v541 : BitVec 32 := Scalar.select v540 c1_i32_355 c4_i32_353
  let v542 : BitVec 32 := Scalar.remsi v539 v541
  let c0_i32_357 : BitVec 32 := 0#32
  let v544 : BitVec 1 := Scalar.cmpi .slt v542 c0_i32_357
  let c0_i32_358 : BitVec 32 := 0#32
  let v545 : BitVec 1 := Scalar.cmpi .slt v541 c0_i32_358
  let v546 : BitVec 1 := Scalar.xori v544 v545
  let c0_i32_356 : BitVec 32 := 0#32
  let v543 : BitVec 1 := Scalar.cmpi .ne v542 c0_i32_356
  let v547 : BitVec 1 := Scalar.andi v546 v543
  let v548 : BitVec 32 := Scalar.addi v542 v541
  let v549 : BitVec 32 := Scalar.select v547 v548 v542
  let c1_i32_363 : BitVec 32 := 1#32
  let v554 : BitVec 32 := Scalar.muli v549 c1_i32_363
  let v555 : BitVec 32 := Scalar.addi v553 v554
  v555.toNat
def k0_dev15 (d0 : Dev nD) : Nat :=
  let c0_i32_387 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_364 : BitVec 32 := 0#32
  let v556 : BitVec 32 := Scalar.addi v2 c0_i32_364
  let c2_i32_365 : BitVec 32 := 2#32
  let c0_i32_366 : BitVec 32 := 0#32
  let v557 : BitVec 1 := Scalar.cmpi .eq c2_i32_365 c0_i32_366
  let c1_i32_367 : BitVec 32 := 1#32
  let v558 : BitVec 32 := Scalar.select v557 c1_i32_367 c2_i32_365
  let v559 : BitVec 32 := Scalar.remsi v556 v558
  let c0_i32_369 : BitVec 32 := 0#32
  let v561 : BitVec 1 := Scalar.cmpi .slt v559 c0_i32_369
  let c0_i32_370 : BitVec 32 := 0#32
  let v562 : BitVec 1 := Scalar.cmpi .slt v558 c0_i32_370
  let v563 : BitVec 1 := Scalar.xori v561 v562
  let c0_i32_368 : BitVec 32 := 0#32
  let v560 : BitVec 1 := Scalar.cmpi .ne v559 c0_i32_368
  let v564 : BitVec 1 := Scalar.andi v563 v560
  let v565 : BitVec 32 := Scalar.addi v559 v558
  let v566 : BitVec 32 := Scalar.select v564 v565 v559
  let c16_i32_386 : BitVec 32 := 16#32
  let v589 : BitVec 32 := Scalar.muli v566 c16_i32_386
  let v590 : BitVec 32 := Scalar.addi c0_i32_387 v589
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_371 : BitVec 32 := 3#32
  let v567 : BitVec 32 := Scalar.addi v5 c3_i32_371
  let c4_i32_372 : BitVec 32 := 4#32
  let c0_i32_373 : BitVec 32 := 0#32
  let v568 : BitVec 1 := Scalar.cmpi .eq c4_i32_372 c0_i32_373
  let c1_i32_374 : BitVec 32 := 1#32
  let v569 : BitVec 32 := Scalar.select v568 c1_i32_374 c4_i32_372
  let v570 : BitVec 32 := Scalar.remsi v567 v569
  let c0_i32_376 : BitVec 32 := 0#32
  let v572 : BitVec 1 := Scalar.cmpi .slt v570 c0_i32_376
  let c0_i32_377 : BitVec 32 := 0#32
  let v573 : BitVec 1 := Scalar.cmpi .slt v569 c0_i32_377
  let v574 : BitVec 1 := Scalar.xori v572 v573
  let c0_i32_375 : BitVec 32 := 0#32
  let v571 : BitVec 1 := Scalar.cmpi .ne v570 c0_i32_375
  let v575 : BitVec 1 := Scalar.andi v574 v571
  let v576 : BitVec 32 := Scalar.addi v570 v569
  let v577 : BitVec 32 := Scalar.select v575 v576 v570
  let c4_i32_388 : BitVec 32 := 4#32
  let v591 : BitVec 32 := Scalar.muli v577 c4_i32_388
  let v592 : BitVec 32 := Scalar.addi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_378 : BitVec 32 := 3#32
  let v578 : BitVec 32 := Scalar.addi v8 c3_i32_378
  let c4_i32_379 : BitVec 32 := 4#32
  let c0_i32_380 : BitVec 32 := 0#32
  let v579 : BitVec 1 := Scalar.cmpi .eq c4_i32_379 c0_i32_380
  let c1_i32_381 : BitVec 32 := 1#32
  let v580 : BitVec 32 := Scalar.select v579 c1_i32_381 c4_i32_379
  let v581 : BitVec 32 := Scalar.remsi v578 v580
  let c0_i32_383 : BitVec 32 := 0#32
  let v583 : BitVec 1 := Scalar.cmpi .slt v581 c0_i32_383
  let c0_i32_384 : BitVec 32 := 0#32
  let v584 : BitVec 1 := Scalar.cmpi .slt v580 c0_i32_384
  let v585 : BitVec 1 := Scalar.xori v583 v584
  let c0_i32_382 : BitVec 32 := 0#32
  let v582 : BitVec 1 := Scalar.cmpi .ne v581 c0_i32_382
  let v586 : BitVec 1 := Scalar.andi v585 v582
  let v587 : BitVec 32 := Scalar.addi v581 v580
  let v588 : BitVec 32 := Scalar.select v586 v587 v581
  let c1_i32_389 : BitVec 32 := 1#32
  let v593 : BitVec 32 := Scalar.muli v588 c1_i32_389
  let v594 : BitVec 32 := Scalar.addi v592 v593
  v594.toNat
def k0_dev16 (d0 : Dev nD) : Nat :=
  let c0_i32_413 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_390 : BitVec 32 := 1#32
  let v595 : BitVec 32 := Scalar.addi v2 c1_i32_390
  let c2_i32_391 : BitVec 32 := 2#32
  let c0_i32_392 : BitVec 32 := 0#32
  let v596 : BitVec 1 := Scalar.cmpi .eq c2_i32_391 c0_i32_392
  let c1_i32_393 : BitVec 32 := 1#32
  let v597 : BitVec 32 := Scalar.select v596 c1_i32_393 c2_i32_391
  let v598 : BitVec 32 := Scalar.remsi v595 v597
  let c0_i32_395 : BitVec 32 := 0#32
  let v600 : BitVec 1 := Scalar.cmpi .slt v598 c0_i32_395
  let c0_i32_396 : BitVec 32 := 0#32
  let v601 : BitVec 1 := Scalar.cmpi .slt v597 c0_i32_396
  let v602 : BitVec 1 := Scalar.xori v600 v601
  let c0_i32_394 : BitVec 32 := 0#32
  let v599 : BitVec 1 := Scalar.cmpi .ne v598 c0_i32_394
  let v603 : BitVec 1 := Scalar.andi v602 v599
  let v604 : BitVec 32 := Scalar.addi v598 v597
  let v605 : BitVec 32 := Scalar.select v603 v604 v598
  let c16_i32_412 : BitVec 32 := 16#32
  let v628 : BitVec 32 := Scalar.muli v605 c16_i32_412
  let v629 : BitVec 32 := Scalar.addi c0_i32_413 v628
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_397 : BitVec 32 := 0#32
  let v606 : BitVec 32 := Scalar.addi v5 c0_i32_397
  let c4_i32_398 : BitVec 32 := 4#32
  let c0_i32_399 : BitVec 32 := 0#32
  let v607 : BitVec 1 := Scalar.cmpi .eq c4_i32_398 c0_i32_399
  let c1_i32_400 : BitVec 32 := 1#32
  let v608 : BitVec 32 := Scalar.select v607 c1_i32_400 c4_i32_398
  let v609 : BitVec 32 := Scalar.remsi v606 v608
  let c0_i32_402 : BitVec 32 := 0#32
  let v611 : BitVec 1 := Scalar.cmpi .slt v609 c0_i32_402
  let c0_i32_403 : BitVec 32 := 0#32
  let v612 : BitVec 1 := Scalar.cmpi .slt v608 c0_i32_403
  let v613 : BitVec 1 := Scalar.xori v611 v612
  let c0_i32_401 : BitVec 32 := 0#32
  let v610 : BitVec 1 := Scalar.cmpi .ne v609 c0_i32_401
  let v614 : BitVec 1 := Scalar.andi v613 v610
  let v615 : BitVec 32 := Scalar.addi v609 v608
  let v616 : BitVec 32 := Scalar.select v614 v615 v609
  let c4_i32_414 : BitVec 32 := 4#32
  let v630 : BitVec 32 := Scalar.muli v616 c4_i32_414
  let v631 : BitVec 32 := Scalar.addi v629 v630
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_404 : BitVec 32 := 0#32
  let v617 : BitVec 32 := Scalar.addi v8 c0_i32_404
  let c4_i32_405 : BitVec 32 := 4#32
  let c0_i32_406 : BitVec 32 := 0#32
  let v618 : BitVec 1 := Scalar.cmpi .eq c4_i32_405 c0_i32_406
  let c1_i32_407 : BitVec 32 := 1#32
  let v619 : BitVec 32 := Scalar.select v618 c1_i32_407 c4_i32_405
  let v620 : BitVec 32 := Scalar.remsi v617 v619
  let c0_i32_409 : BitVec 32 := 0#32
  let v622 : BitVec 1 := Scalar.cmpi .slt v620 c0_i32_409
  let c0_i32_410 : BitVec 32 := 0#32
  let v623 : BitVec 1 := Scalar.cmpi .slt v619 c0_i32_410
  let v624 : BitVec 1 := Scalar.xori v622 v623
  let c0_i32_408 : BitVec 32 := 0#32
  let v621 : BitVec 1 := Scalar.cmpi .ne v620 c0_i32_408
  let v625 : BitVec 1 := Scalar.andi v624 v621
  let v626 : BitVec 32 := Scalar.addi v620 v619
  let v627 : BitVec 32 := Scalar.select v625 v626 v620
  let c1_i32_415 : BitVec 32 := 1#32
  let v632 : BitVec 32 := Scalar.muli v627 c1_i32_415
  let v633 : BitVec 32 := Scalar.addi v631 v632
  v633.toNat
def k0_dev17 (d0 : Dev nD) : Nat :=
  let c0_i32_439 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_416 : BitVec 32 := 1#32
  let v634 : BitVec 32 := Scalar.addi v2 c1_i32_416
  let c2_i32_417 : BitVec 32 := 2#32
  let c0_i32_418 : BitVec 32 := 0#32
  let v635 : BitVec 1 := Scalar.cmpi .eq c2_i32_417 c0_i32_418
  let c1_i32_419 : BitVec 32 := 1#32
  let v636 : BitVec 32 := Scalar.select v635 c1_i32_419 c2_i32_417
  let v637 : BitVec 32 := Scalar.remsi v634 v636
  let c0_i32_421 : BitVec 32 := 0#32
  let v639 : BitVec 1 := Scalar.cmpi .slt v637 c0_i32_421
  let c0_i32_422 : BitVec 32 := 0#32
  let v640 : BitVec 1 := Scalar.cmpi .slt v636 c0_i32_422
  let v641 : BitVec 1 := Scalar.xori v639 v640
  let c0_i32_420 : BitVec 32 := 0#32
  let v638 : BitVec 1 := Scalar.cmpi .ne v637 c0_i32_420
  let v642 : BitVec 1 := Scalar.andi v641 v638
  let v643 : BitVec 32 := Scalar.addi v637 v636
  let v644 : BitVec 32 := Scalar.select v642 v643 v637
  let c16_i32_438 : BitVec 32 := 16#32
  let v667 : BitVec 32 := Scalar.muli v644 c16_i32_438
  let v668 : BitVec 32 := Scalar.addi c0_i32_439 v667
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_423 : BitVec 32 := 0#32
  let v645 : BitVec 32 := Scalar.addi v5 c0_i32_423
  let c4_i32_424 : BitVec 32 := 4#32
  let c0_i32_425 : BitVec 32 := 0#32
  let v646 : BitVec 1 := Scalar.cmpi .eq c4_i32_424 c0_i32_425
  let c1_i32_426 : BitVec 32 := 1#32
  let v647 : BitVec 32 := Scalar.select v646 c1_i32_426 c4_i32_424
  let v648 : BitVec 32 := Scalar.remsi v645 v647
  let c0_i32_428 : BitVec 32 := 0#32
  let v650 : BitVec 1 := Scalar.cmpi .slt v648 c0_i32_428
  let c0_i32_429 : BitVec 32 := 0#32
  let v651 : BitVec 1 := Scalar.cmpi .slt v647 c0_i32_429
  let v652 : BitVec 1 := Scalar.xori v650 v651
  let c0_i32_427 : BitVec 32 := 0#32
  let v649 : BitVec 1 := Scalar.cmpi .ne v648 c0_i32_427
  let v653 : BitVec 1 := Scalar.andi v652 v649
  let v654 : BitVec 32 := Scalar.addi v648 v647
  let v655 : BitVec 32 := Scalar.select v653 v654 v648
  let c4_i32_440 : BitVec 32 := 4#32
  let v669 : BitVec 32 := Scalar.muli v655 c4_i32_440
  let v670 : BitVec 32 := Scalar.addi v668 v669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_430 : BitVec 32 := 1#32
  let v656 : BitVec 32 := Scalar.addi v8 c1_i32_430
  let c4_i32_431 : BitVec 32 := 4#32
  let c0_i32_432 : BitVec 32 := 0#32
  let v657 : BitVec 1 := Scalar.cmpi .eq c4_i32_431 c0_i32_432
  let c1_i32_433 : BitVec 32 := 1#32
  let v658 : BitVec 32 := Scalar.select v657 c1_i32_433 c4_i32_431
  let v659 : BitVec 32 := Scalar.remsi v656 v658
  let c0_i32_435 : BitVec 32 := 0#32
  let v661 : BitVec 1 := Scalar.cmpi .slt v659 c0_i32_435
  let c0_i32_436 : BitVec 32 := 0#32
  let v662 : BitVec 1 := Scalar.cmpi .slt v658 c0_i32_436
  let v663 : BitVec 1 := Scalar.xori v661 v662
  let c0_i32_434 : BitVec 32 := 0#32
  let v660 : BitVec 1 := Scalar.cmpi .ne v659 c0_i32_434
  let v664 : BitVec 1 := Scalar.andi v663 v660
  let v665 : BitVec 32 := Scalar.addi v659 v658
  let v666 : BitVec 32 := Scalar.select v664 v665 v659
  let c1_i32_441 : BitVec 32 := 1#32
  let v671 : BitVec 32 := Scalar.muli v666 c1_i32_441
  let v672 : BitVec 32 := Scalar.addi v670 v671
  v672.toNat
def k0_dev18 (d0 : Dev nD) : Nat :=
  let c0_i32_465 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_442 : BitVec 32 := 1#32
  let v673 : BitVec 32 := Scalar.addi v2 c1_i32_442
  let c2_i32_443 : BitVec 32 := 2#32
  let c0_i32_444 : BitVec 32 := 0#32
  let v674 : BitVec 1 := Scalar.cmpi .eq c2_i32_443 c0_i32_444
  let c1_i32_445 : BitVec 32 := 1#32
  let v675 : BitVec 32 := Scalar.select v674 c1_i32_445 c2_i32_443
  let v676 : BitVec 32 := Scalar.remsi v673 v675
  let c0_i32_447 : BitVec 32 := 0#32
  let v678 : BitVec 1 := Scalar.cmpi .slt v676 c0_i32_447
  let c0_i32_448 : BitVec 32 := 0#32
  let v679 : BitVec 1 := Scalar.cmpi .slt v675 c0_i32_448
  let v680 : BitVec 1 := Scalar.xori v678 v679
  let c0_i32_446 : BitVec 32 := 0#32
  let v677 : BitVec 1 := Scalar.cmpi .ne v676 c0_i32_446
  let v681 : BitVec 1 := Scalar.andi v680 v677
  let v682 : BitVec 32 := Scalar.addi v676 v675
  let v683 : BitVec 32 := Scalar.select v681 v682 v676
  let c16_i32_464 : BitVec 32 := 16#32
  let v706 : BitVec 32 := Scalar.muli v683 c16_i32_464
  let v707 : BitVec 32 := Scalar.addi c0_i32_465 v706
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_449 : BitVec 32 := 0#32
  let v684 : BitVec 32 := Scalar.addi v5 c0_i32_449
  let c4_i32_450 : BitVec 32 := 4#32
  let c0_i32_451 : BitVec 32 := 0#32
  let v685 : BitVec 1 := Scalar.cmpi .eq c4_i32_450 c0_i32_451
  let c1_i32_452 : BitVec 32 := 1#32
  let v686 : BitVec 32 := Scalar.select v685 c1_i32_452 c4_i32_450
  let v687 : BitVec 32 := Scalar.remsi v684 v686
  let c0_i32_454 : BitVec 32 := 0#32
  let v689 : BitVec 1 := Scalar.cmpi .slt v687 c0_i32_454
  let c0_i32_455 : BitVec 32 := 0#32
  let v690 : BitVec 1 := Scalar.cmpi .slt v686 c0_i32_455
  let v691 : BitVec 1 := Scalar.xori v689 v690
  let c0_i32_453 : BitVec 32 := 0#32
  let v688 : BitVec 1 := Scalar.cmpi .ne v687 c0_i32_453
  let v692 : BitVec 1 := Scalar.andi v691 v688
  let v693 : BitVec 32 := Scalar.addi v687 v686
  let v694 : BitVec 32 := Scalar.select v692 v693 v687
  let c4_i32_466 : BitVec 32 := 4#32
  let v708 : BitVec 32 := Scalar.muli v694 c4_i32_466
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_456 : BitVec 32 := 2#32
  let v695 : BitVec 32 := Scalar.addi v8 c2_i32_456
  let c4_i32_457 : BitVec 32 := 4#32
  let c0_i32_458 : BitVec 32 := 0#32
  let v696 : BitVec 1 := Scalar.cmpi .eq c4_i32_457 c0_i32_458
  let c1_i32_459 : BitVec 32 := 1#32
  let v697 : BitVec 32 := Scalar.select v696 c1_i32_459 c4_i32_457
  let v698 : BitVec 32 := Scalar.remsi v695 v697
  let c0_i32_461 : BitVec 32 := 0#32
  let v700 : BitVec 1 := Scalar.cmpi .slt v698 c0_i32_461
  let c0_i32_462 : BitVec 32 := 0#32
  let v701 : BitVec 1 := Scalar.cmpi .slt v697 c0_i32_462
  let v702 : BitVec 1 := Scalar.xori v700 v701
  let c0_i32_460 : BitVec 32 := 0#32
  let v699 : BitVec 1 := Scalar.cmpi .ne v698 c0_i32_460
  let v703 : BitVec 1 := Scalar.andi v702 v699
  let v704 : BitVec 32 := Scalar.addi v698 v697
  let v705 : BitVec 32 := Scalar.select v703 v704 v698
  let c1_i32_467 : BitVec 32 := 1#32
  let v710 : BitVec 32 := Scalar.muli v705 c1_i32_467
  let v711 : BitVec 32 := Scalar.addi v709 v710
  v711.toNat
def k0_dev19 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_468 : BitVec 32 := 1#32
  let v712 : BitVec 32 := Scalar.addi v2 c1_i32_468
  let c2_i32_469 : BitVec 32 := 2#32
  let c0_i32_470 : BitVec 32 := 0#32
  let v713 : BitVec 1 := Scalar.cmpi .eq c2_i32_469 c0_i32_470
  let c1_i32_471 : BitVec 32 := 1#32
  let v714 : BitVec 32 := Scalar.select v713 c1_i32_471 c2_i32_469
  let v715 : BitVec 32 := Scalar.remsi v712 v714
  let c0_i32_473 : BitVec 32 := 0#32
  let v717 : BitVec 1 := Scalar.cmpi .slt v715 c0_i32_473
  let c0_i32_474 : BitVec 32 := 0#32
  let v718 : BitVec 1 := Scalar.cmpi .slt v714 c0_i32_474
  let v719 : BitVec 1 := Scalar.xori v717 v718
  let c0_i32_472 : BitVec 32 := 0#32
  let v716 : BitVec 1 := Scalar.cmpi .ne v715 c0_i32_472
  let v720 : BitVec 1 := Scalar.andi v719 v716
  let v721 : BitVec 32 := Scalar.addi v715 v714
  let v722 : BitVec 32 := Scalar.select v720 v721 v715
  let c16_i32_490 : BitVec 32 := 16#32
  let v745 : BitVec 32 := Scalar.muli v722 c16_i32_490
  let v746 : BitVec 32 := Scalar.addi c0_i32_491 v745
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_475 : BitVec 32 := 0#32
  let v723 : BitVec 32 := Scalar.addi v5 c0_i32_475
  let c4_i32_476 : BitVec 32 := 4#32
  let c0_i32_477 : BitVec 32 := 0#32
  let v724 : BitVec 1 := Scalar.cmpi .eq c4_i32_476 c0_i32_477
  let c1_i32_478 : BitVec 32 := 1#32
  let v725 : BitVec 32 := Scalar.select v724 c1_i32_478 c4_i32_476
  let v726 : BitVec 32 := Scalar.remsi v723 v725
  let c0_i32_480 : BitVec 32 := 0#32
  let v728 : BitVec 1 := Scalar.cmpi .slt v726 c0_i32_480
  let c0_i32_481 : BitVec 32 := 0#32
  let v729 : BitVec 1 := Scalar.cmpi .slt v725 c0_i32_481
  let v730 : BitVec 1 := Scalar.xori v728 v729
  let c0_i32_479 : BitVec 32 := 0#32
  let v727 : BitVec 1 := Scalar.cmpi .ne v726 c0_i32_479
  let v731 : BitVec 1 := Scalar.andi v730 v727
  let v732 : BitVec 32 := Scalar.addi v726 v725
  let v733 : BitVec 32 := Scalar.select v731 v732 v726
  let c4_i32_492 : BitVec 32 := 4#32
  let v747 : BitVec 32 := Scalar.muli v733 c4_i32_492
  let v748 : BitVec 32 := Scalar.addi v746 v747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_482 : BitVec 32 := 3#32
  let v734 : BitVec 32 := Scalar.addi v8 c3_i32_482
  let c4_i32_483 : BitVec 32 := 4#32
  let c0_i32_484 : BitVec 32 := 0#32
  let v735 : BitVec 1 := Scalar.cmpi .eq c4_i32_483 c0_i32_484
  let c1_i32_485 : BitVec 32 := 1#32
  let v736 : BitVec 32 := Scalar.select v735 c1_i32_485 c4_i32_483
  let v737 : BitVec 32 := Scalar.remsi v734 v736
  let c0_i32_487 : BitVec 32 := 0#32
  let v739 : BitVec 1 := Scalar.cmpi .slt v737 c0_i32_487
  let c0_i32_488 : BitVec 32 := 0#32
  let v740 : BitVec 1 := Scalar.cmpi .slt v736 c0_i32_488
  let v741 : BitVec 1 := Scalar.xori v739 v740
  let c0_i32_486 : BitVec 32 := 0#32
  let v738 : BitVec 1 := Scalar.cmpi .ne v737 c0_i32_486
  let v742 : BitVec 1 := Scalar.andi v741 v738
  let v743 : BitVec 32 := Scalar.addi v737 v736
  let v744 : BitVec 32 := Scalar.select v742 v743 v737
  let c1_i32_493 : BitVec 32 := 1#32
  let v749 : BitVec 32 := Scalar.muli v744 c1_i32_493
  let v750 : BitVec 32 := Scalar.addi v748 v749
  v750.toNat
def k0_dev20 (d0 : Dev nD) : Nat :=
  let c0_i32_517 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_494 : BitVec 32 := 1#32
  let v751 : BitVec 32 := Scalar.addi v2 c1_i32_494
  let c2_i32_495 : BitVec 32 := 2#32
  let c0_i32_496 : BitVec 32 := 0#32
  let v752 : BitVec 1 := Scalar.cmpi .eq c2_i32_495 c0_i32_496
  let c1_i32_497 : BitVec 32 := 1#32
  let v753 : BitVec 32 := Scalar.select v752 c1_i32_497 c2_i32_495
  let v754 : BitVec 32 := Scalar.remsi v751 v753
  let c0_i32_499 : BitVec 32 := 0#32
  let v756 : BitVec 1 := Scalar.cmpi .slt v754 c0_i32_499
  let c0_i32_500 : BitVec 32 := 0#32
  let v757 : BitVec 1 := Scalar.cmpi .slt v753 c0_i32_500
  let v758 : BitVec 1 := Scalar.xori v756 v757
  let c0_i32_498 : BitVec 32 := 0#32
  let v755 : BitVec 1 := Scalar.cmpi .ne v754 c0_i32_498
  let v759 : BitVec 1 := Scalar.andi v758 v755
  let v760 : BitVec 32 := Scalar.addi v754 v753
  let v761 : BitVec 32 := Scalar.select v759 v760 v754
  let c16_i32_516 : BitVec 32 := 16#32
  let v784 : BitVec 32 := Scalar.muli v761 c16_i32_516
  let v785 : BitVec 32 := Scalar.addi c0_i32_517 v784
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_501 : BitVec 32 := 1#32
  let v762 : BitVec 32 := Scalar.addi v5 c1_i32_501
  let c4_i32_502 : BitVec 32 := 4#32
  let c0_i32_503 : BitVec 32 := 0#32
  let v763 : BitVec 1 := Scalar.cmpi .eq c4_i32_502 c0_i32_503
  let c1_i32_504 : BitVec 32 := 1#32
  let v764 : BitVec 32 := Scalar.select v763 c1_i32_504 c4_i32_502
  let v765 : BitVec 32 := Scalar.remsi v762 v764
  let c0_i32_506 : BitVec 32 := 0#32
  let v767 : BitVec 1 := Scalar.cmpi .slt v765 c0_i32_506
  let c0_i32_507 : BitVec 32 := 0#32
  let v768 : BitVec 1 := Scalar.cmpi .slt v764 c0_i32_507
  let v769 : BitVec 1 := Scalar.xori v767 v768
  let c0_i32_505 : BitVec 32 := 0#32
  let v766 : BitVec 1 := Scalar.cmpi .ne v765 c0_i32_505
  let v770 : BitVec 1 := Scalar.andi v769 v766
  let v771 : BitVec 32 := Scalar.addi v765 v764
  let v772 : BitVec 32 := Scalar.select v770 v771 v765
  let c4_i32_518 : BitVec 32 := 4#32
  let v786 : BitVec 32 := Scalar.muli v772 c4_i32_518
  let v787 : BitVec 32 := Scalar.addi v785 v786
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_508 : BitVec 32 := 0#32
  let v773 : BitVec 32 := Scalar.addi v8 c0_i32_508
  let c4_i32_509 : BitVec 32 := 4#32
  let c0_i32_510 : BitVec 32 := 0#32
  let v774 : BitVec 1 := Scalar.cmpi .eq c4_i32_509 c0_i32_510
  let c1_i32_511 : BitVec 32 := 1#32
  let v775 : BitVec 32 := Scalar.select v774 c1_i32_511 c4_i32_509
  let v776 : BitVec 32 := Scalar.remsi v773 v775
  let c0_i32_513 : BitVec 32 := 0#32
  let v778 : BitVec 1 := Scalar.cmpi .slt v776 c0_i32_513
  let c0_i32_514 : BitVec 32 := 0#32
  let v779 : BitVec 1 := Scalar.cmpi .slt v775 c0_i32_514
  let v780 : BitVec 1 := Scalar.xori v778 v779
  let c0_i32_512 : BitVec 32 := 0#32
  let v777 : BitVec 1 := Scalar.cmpi .ne v776 c0_i32_512
  let v781 : BitVec 1 := Scalar.andi v780 v777
  let v782 : BitVec 32 := Scalar.addi v776 v775
  let v783 : BitVec 32 := Scalar.select v781 v782 v776
  let c1_i32_519 : BitVec 32 := 1#32
  let v788 : BitVec 32 := Scalar.muli v783 c1_i32_519
  let v789 : BitVec 32 := Scalar.addi v787 v788
  v789.toNat
def k0_dev21 (d0 : Dev nD) : Nat :=
  let c0_i32_543 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_520 : BitVec 32 := 1#32
  let v790 : BitVec 32 := Scalar.addi v2 c1_i32_520
  let c2_i32_521 : BitVec 32 := 2#32
  let c0_i32_522 : BitVec 32 := 0#32
  let v791 : BitVec 1 := Scalar.cmpi .eq c2_i32_521 c0_i32_522
  let c1_i32_523 : BitVec 32 := 1#32
  let v792 : BitVec 32 := Scalar.select v791 c1_i32_523 c2_i32_521
  let v793 : BitVec 32 := Scalar.remsi v790 v792
  let c0_i32_525 : BitVec 32 := 0#32
  let v795 : BitVec 1 := Scalar.cmpi .slt v793 c0_i32_525
  let c0_i32_526 : BitVec 32 := 0#32
  let v796 : BitVec 1 := Scalar.cmpi .slt v792 c0_i32_526
  let v797 : BitVec 1 := Scalar.xori v795 v796
  let c0_i32_524 : BitVec 32 := 0#32
  let v794 : BitVec 1 := Scalar.cmpi .ne v793 c0_i32_524
  let v798 : BitVec 1 := Scalar.andi v797 v794
  let v799 : BitVec 32 := Scalar.addi v793 v792
  let v800 : BitVec 32 := Scalar.select v798 v799 v793
  let c16_i32_542 : BitVec 32 := 16#32
  let v823 : BitVec 32 := Scalar.muli v800 c16_i32_542
  let v824 : BitVec 32 := Scalar.addi c0_i32_543 v823
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_527 : BitVec 32 := 1#32
  let v801 : BitVec 32 := Scalar.addi v5 c1_i32_527
  let c4_i32_528 : BitVec 32 := 4#32
  let c0_i32_529 : BitVec 32 := 0#32
  let v802 : BitVec 1 := Scalar.cmpi .eq c4_i32_528 c0_i32_529
  let c1_i32_530 : BitVec 32 := 1#32
  let v803 : BitVec 32 := Scalar.select v802 c1_i32_530 c4_i32_528
  let v804 : BitVec 32 := Scalar.remsi v801 v803
  let c0_i32_532 : BitVec 32 := 0#32
  let v806 : BitVec 1 := Scalar.cmpi .slt v804 c0_i32_532
  let c0_i32_533 : BitVec 32 := 0#32
  let v807 : BitVec 1 := Scalar.cmpi .slt v803 c0_i32_533
  let v808 : BitVec 1 := Scalar.xori v806 v807
  let c0_i32_531 : BitVec 32 := 0#32
  let v805 : BitVec 1 := Scalar.cmpi .ne v804 c0_i32_531
  let v809 : BitVec 1 := Scalar.andi v808 v805
  let v810 : BitVec 32 := Scalar.addi v804 v803
  let v811 : BitVec 32 := Scalar.select v809 v810 v804
  let c4_i32_544 : BitVec 32 := 4#32
  let v825 : BitVec 32 := Scalar.muli v811 c4_i32_544
  let v826 : BitVec 32 := Scalar.addi v824 v825
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_534 : BitVec 32 := 1#32
  let v812 : BitVec 32 := Scalar.addi v8 c1_i32_534
  let c4_i32_535 : BitVec 32 := 4#32
  let c0_i32_536 : BitVec 32 := 0#32
  let v813 : BitVec 1 := Scalar.cmpi .eq c4_i32_535 c0_i32_536
  let c1_i32_537 : BitVec 32 := 1#32
  let v814 : BitVec 32 := Scalar.select v813 c1_i32_537 c4_i32_535
  let v815 : BitVec 32 := Scalar.remsi v812 v814
  let c0_i32_539 : BitVec 32 := 0#32
  let v817 : BitVec 1 := Scalar.cmpi .slt v815 c0_i32_539
  let c0_i32_540 : BitVec 32 := 0#32
  let v818 : BitVec 1 := Scalar.cmpi .slt v814 c0_i32_540
  let v819 : BitVec 1 := Scalar.xori v817 v818
  let c0_i32_538 : BitVec 32 := 0#32
  let v816 : BitVec 1 := Scalar.cmpi .ne v815 c0_i32_538
  let v820 : BitVec 1 := Scalar.andi v819 v816
  let v821 : BitVec 32 := Scalar.addi v815 v814
  let v822 : BitVec 32 := Scalar.select v820 v821 v815
  let c1_i32_545 : BitVec 32 := 1#32
  let v827 : BitVec 32 := Scalar.muli v822 c1_i32_545
  let v828 : BitVec 32 := Scalar.addi v826 v827
  v828.toNat
def k0_dev22 (d0 : Dev nD) : Nat :=
  let c0_i32_569 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_546 : BitVec 32 := 1#32
  let v829 : BitVec 32 := Scalar.addi v2 c1_i32_546
  let c2_i32_547 : BitVec 32 := 2#32
  let c0_i32_548 : BitVec 32 := 0#32
  let v830 : BitVec 1 := Scalar.cmpi .eq c2_i32_547 c0_i32_548
  let c1_i32_549 : BitVec 32 := 1#32
  let v831 : BitVec 32 := Scalar.select v830 c1_i32_549 c2_i32_547
  let v832 : BitVec 32 := Scalar.remsi v829 v831
  let c0_i32_551 : BitVec 32 := 0#32
  let v834 : BitVec 1 := Scalar.cmpi .slt v832 c0_i32_551
  let c0_i32_552 : BitVec 32 := 0#32
  let v835 : BitVec 1 := Scalar.cmpi .slt v831 c0_i32_552
  let v836 : BitVec 1 := Scalar.xori v834 v835
  let c0_i32_550 : BitVec 32 := 0#32
  let v833 : BitVec 1 := Scalar.cmpi .ne v832 c0_i32_550
  let v837 : BitVec 1 := Scalar.andi v836 v833
  let v838 : BitVec 32 := Scalar.addi v832 v831
  let v839 : BitVec 32 := Scalar.select v837 v838 v832
  let c16_i32_568 : BitVec 32 := 16#32
  let v862 : BitVec 32 := Scalar.muli v839 c16_i32_568
  let v863 : BitVec 32 := Scalar.addi c0_i32_569 v862
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_553 : BitVec 32 := 1#32
  let v840 : BitVec 32 := Scalar.addi v5 c1_i32_553
  let c4_i32_554 : BitVec 32 := 4#32
  let c0_i32_555 : BitVec 32 := 0#32
  let v841 : BitVec 1 := Scalar.cmpi .eq c4_i32_554 c0_i32_555
  let c1_i32_556 : BitVec 32 := 1#32
  let v842 : BitVec 32 := Scalar.select v841 c1_i32_556 c4_i32_554
  let v843 : BitVec 32 := Scalar.remsi v840 v842
  let c0_i32_558 : BitVec 32 := 0#32
  let v845 : BitVec 1 := Scalar.cmpi .slt v843 c0_i32_558
  let c0_i32_559 : BitVec 32 := 0#32
  let v846 : BitVec 1 := Scalar.cmpi .slt v842 c0_i32_559
  let v847 : BitVec 1 := Scalar.xori v845 v846
  let c0_i32_557 : BitVec 32 := 0#32
  let v844 : BitVec 1 := Scalar.cmpi .ne v843 c0_i32_557
  let v848 : BitVec 1 := Scalar.andi v847 v844
  let v849 : BitVec 32 := Scalar.addi v843 v842
  let v850 : BitVec 32 := Scalar.select v848 v849 v843
  let c4_i32_570 : BitVec 32 := 4#32
  let v864 : BitVec 32 := Scalar.muli v850 c4_i32_570
  let v865 : BitVec 32 := Scalar.addi v863 v864
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_560 : BitVec 32 := 2#32
  let v851 : BitVec 32 := Scalar.addi v8 c2_i32_560
  let c4_i32_561 : BitVec 32 := 4#32
  let c0_i32_562 : BitVec 32 := 0#32
  let v852 : BitVec 1 := Scalar.cmpi .eq c4_i32_561 c0_i32_562
  let c1_i32_563 : BitVec 32 := 1#32
  let v853 : BitVec 32 := Scalar.select v852 c1_i32_563 c4_i32_561
  let v854 : BitVec 32 := Scalar.remsi v851 v853
  let c0_i32_565 : BitVec 32 := 0#32
  let v856 : BitVec 1 := Scalar.cmpi .slt v854 c0_i32_565
  let c0_i32_566 : BitVec 32 := 0#32
  let v857 : BitVec 1 := Scalar.cmpi .slt v853 c0_i32_566
  let v858 : BitVec 1 := Scalar.xori v856 v857
  let c0_i32_564 : BitVec 32 := 0#32
  let v855 : BitVec 1 := Scalar.cmpi .ne v854 c0_i32_564
  let v859 : BitVec 1 := Scalar.andi v858 v855
  let v860 : BitVec 32 := Scalar.addi v854 v853
  let v861 : BitVec 32 := Scalar.select v859 v860 v854
  let c1_i32_571 : BitVec 32 := 1#32
  let v866 : BitVec 32 := Scalar.muli v861 c1_i32_571
  let v867 : BitVec 32 := Scalar.addi v865 v866
  v867.toNat
def k0_dev23 (d0 : Dev nD) : Nat :=
  let c0_i32_595 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_572 : BitVec 32 := 1#32
  let v868 : BitVec 32 := Scalar.addi v2 c1_i32_572
  let c2_i32_573 : BitVec 32 := 2#32
  let c0_i32_574 : BitVec 32 := 0#32
  let v869 : BitVec 1 := Scalar.cmpi .eq c2_i32_573 c0_i32_574
  let c1_i32_575 : BitVec 32 := 1#32
  let v870 : BitVec 32 := Scalar.select v869 c1_i32_575 c2_i32_573
  let v871 : BitVec 32 := Scalar.remsi v868 v870
  let c0_i32_577 : BitVec 32 := 0#32
  let v873 : BitVec 1 := Scalar.cmpi .slt v871 c0_i32_577
  let c0_i32_578 : BitVec 32 := 0#32
  let v874 : BitVec 1 := Scalar.cmpi .slt v870 c0_i32_578
  let v875 : BitVec 1 := Scalar.xori v873 v874
  let c0_i32_576 : BitVec 32 := 0#32
  let v872 : BitVec 1 := Scalar.cmpi .ne v871 c0_i32_576
  let v876 : BitVec 1 := Scalar.andi v875 v872
  let v877 : BitVec 32 := Scalar.addi v871 v870
  let v878 : BitVec 32 := Scalar.select v876 v877 v871
  let c16_i32_594 : BitVec 32 := 16#32
  let v901 : BitVec 32 := Scalar.muli v878 c16_i32_594
  let v902 : BitVec 32 := Scalar.addi c0_i32_595 v901
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_579 : BitVec 32 := 1#32
  let v879 : BitVec 32 := Scalar.addi v5 c1_i32_579
  let c4_i32_580 : BitVec 32 := 4#32
  let c0_i32_581 : BitVec 32 := 0#32
  let v880 : BitVec 1 := Scalar.cmpi .eq c4_i32_580 c0_i32_581
  let c1_i32_582 : BitVec 32 := 1#32
  let v881 : BitVec 32 := Scalar.select v880 c1_i32_582 c4_i32_580
  let v882 : BitVec 32 := Scalar.remsi v879 v881
  let c0_i32_584 : BitVec 32 := 0#32
  let v884 : BitVec 1 := Scalar.cmpi .slt v882 c0_i32_584
  let c0_i32_585 : BitVec 32 := 0#32
  let v885 : BitVec 1 := Scalar.cmpi .slt v881 c0_i32_585
  let v886 : BitVec 1 := Scalar.xori v884 v885
  let c0_i32_583 : BitVec 32 := 0#32
  let v883 : BitVec 1 := Scalar.cmpi .ne v882 c0_i32_583
  let v887 : BitVec 1 := Scalar.andi v886 v883
  let v888 : BitVec 32 := Scalar.addi v882 v881
  let v889 : BitVec 32 := Scalar.select v887 v888 v882
  let c4_i32_596 : BitVec 32 := 4#32
  let v903 : BitVec 32 := Scalar.muli v889 c4_i32_596
  let v904 : BitVec 32 := Scalar.addi v902 v903
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_586 : BitVec 32 := 3#32
  let v890 : BitVec 32 := Scalar.addi v8 c3_i32_586
  let c4_i32_587 : BitVec 32 := 4#32
  let c0_i32_588 : BitVec 32 := 0#32
  let v891 : BitVec 1 := Scalar.cmpi .eq c4_i32_587 c0_i32_588
  let c1_i32_589 : BitVec 32 := 1#32
  let v892 : BitVec 32 := Scalar.select v891 c1_i32_589 c4_i32_587
  let v893 : BitVec 32 := Scalar.remsi v890 v892
  let c0_i32_591 : BitVec 32 := 0#32
  let v895 : BitVec 1 := Scalar.cmpi .slt v893 c0_i32_591
  let c0_i32_592 : BitVec 32 := 0#32
  let v896 : BitVec 1 := Scalar.cmpi .slt v892 c0_i32_592
  let v897 : BitVec 1 := Scalar.xori v895 v896
  let c0_i32_590 : BitVec 32 := 0#32
  let v894 : BitVec 1 := Scalar.cmpi .ne v893 c0_i32_590
  let v898 : BitVec 1 := Scalar.andi v897 v894
  let v899 : BitVec 32 := Scalar.addi v893 v892
  let v900 : BitVec 32 := Scalar.select v898 v899 v893
  let c1_i32_597 : BitVec 32 := 1#32
  let v905 : BitVec 32 := Scalar.muli v900 c1_i32_597
  let v906 : BitVec 32 := Scalar.addi v904 v905
  v906.toNat
def k0_dev24 (d0 : Dev nD) : Nat :=
  let c0_i32_621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_598 : BitVec 32 := 1#32
  let v907 : BitVec 32 := Scalar.addi v2 c1_i32_598
  let c2_i32_599 : BitVec 32 := 2#32
  let c0_i32_600 : BitVec 32 := 0#32
  let v908 : BitVec 1 := Scalar.cmpi .eq c2_i32_599 c0_i32_600
  let c1_i32_601 : BitVec 32 := 1#32
  let v909 : BitVec 32 := Scalar.select v908 c1_i32_601 c2_i32_599
  let v910 : BitVec 32 := Scalar.remsi v907 v909
  let c0_i32_603 : BitVec 32 := 0#32
  let v912 : BitVec 1 := Scalar.cmpi .slt v910 c0_i32_603
  let c0_i32_604 : BitVec 32 := 0#32
  let v913 : BitVec 1 := Scalar.cmpi .slt v909 c0_i32_604
  let v914 : BitVec 1 := Scalar.xori v912 v913
  let c0_i32_602 : BitVec 32 := 0#32
  let v911 : BitVec 1 := Scalar.cmpi .ne v910 c0_i32_602
  let v915 : BitVec 1 := Scalar.andi v914 v911
  let v916 : BitVec 32 := Scalar.addi v910 v909
  let v917 : BitVec 32 := Scalar.select v915 v916 v910
  let c16_i32_620 : BitVec 32 := 16#32
  let v940 : BitVec 32 := Scalar.muli v917 c16_i32_620
  let v941 : BitVec 32 := Scalar.addi c0_i32_621 v940
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_605 : BitVec 32 := 2#32
  let v918 : BitVec 32 := Scalar.addi v5 c2_i32_605
  let c4_i32_606 : BitVec 32 := 4#32
  let c0_i32_607 : BitVec 32 := 0#32
  let v919 : BitVec 1 := Scalar.cmpi .eq c4_i32_606 c0_i32_607
  let c1_i32_608 : BitVec 32 := 1#32
  let v920 : BitVec 32 := Scalar.select v919 c1_i32_608 c4_i32_606
  let v921 : BitVec 32 := Scalar.remsi v918 v920
  let c0_i32_610 : BitVec 32 := 0#32
  let v923 : BitVec 1 := Scalar.cmpi .slt v921 c0_i32_610
  let c0_i32_611 : BitVec 32 := 0#32
  let v924 : BitVec 1 := Scalar.cmpi .slt v920 c0_i32_611
  let v925 : BitVec 1 := Scalar.xori v923 v924
  let c0_i32_609 : BitVec 32 := 0#32
  let v922 : BitVec 1 := Scalar.cmpi .ne v921 c0_i32_609
  let v926 : BitVec 1 := Scalar.andi v925 v922
  let v927 : BitVec 32 := Scalar.addi v921 v920
  let v928 : BitVec 32 := Scalar.select v926 v927 v921
  let c4_i32_622 : BitVec 32 := 4#32
  let v942 : BitVec 32 := Scalar.muli v928 c4_i32_622
  let v943 : BitVec 32 := Scalar.addi v941 v942
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_612 : BitVec 32 := 0#32
  let v929 : BitVec 32 := Scalar.addi v8 c0_i32_612
  let c4_i32_613 : BitVec 32 := 4#32
  let c0_i32_614 : BitVec 32 := 0#32
  let v930 : BitVec 1 := Scalar.cmpi .eq c4_i32_613 c0_i32_614
  let c1_i32_615 : BitVec 32 := 1#32
  let v931 : BitVec 32 := Scalar.select v930 c1_i32_615 c4_i32_613
  let v932 : BitVec 32 := Scalar.remsi v929 v931
  let c0_i32_617 : BitVec 32 := 0#32
  let v934 : BitVec 1 := Scalar.cmpi .slt v932 c0_i32_617
  let c0_i32_618 : BitVec 32 := 0#32
  let v935 : BitVec 1 := Scalar.cmpi .slt v931 c0_i32_618
  let v936 : BitVec 1 := Scalar.xori v934 v935
  let c0_i32_616 : BitVec 32 := 0#32
  let v933 : BitVec 1 := Scalar.cmpi .ne v932 c0_i32_616
  let v937 : BitVec 1 := Scalar.andi v936 v933
  let v938 : BitVec 32 := Scalar.addi v932 v931
  let v939 : BitVec 32 := Scalar.select v937 v938 v932
  let c1_i32_623 : BitVec 32 := 1#32
  let v944 : BitVec 32 := Scalar.muli v939 c1_i32_623
  let v945 : BitVec 32 := Scalar.addi v943 v944
  v945.toNat
def k0_dev25 (d0 : Dev nD) : Nat :=
  let c0_i32_647 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_624 : BitVec 32 := 1#32
  let v946 : BitVec 32 := Scalar.addi v2 c1_i32_624
  let c2_i32_625 : BitVec 32 := 2#32
  let c0_i32_626 : BitVec 32 := 0#32
  let v947 : BitVec 1 := Scalar.cmpi .eq c2_i32_625 c0_i32_626
  let c1_i32_627 : BitVec 32 := 1#32
  let v948 : BitVec 32 := Scalar.select v947 c1_i32_627 c2_i32_625
  let v949 : BitVec 32 := Scalar.remsi v946 v948
  let c0_i32_629 : BitVec 32 := 0#32
  let v951 : BitVec 1 := Scalar.cmpi .slt v949 c0_i32_629
  let c0_i32_630 : BitVec 32 := 0#32
  let v952 : BitVec 1 := Scalar.cmpi .slt v948 c0_i32_630
  let v953 : BitVec 1 := Scalar.xori v951 v952
  let c0_i32_628 : BitVec 32 := 0#32
  let v950 : BitVec 1 := Scalar.cmpi .ne v949 c0_i32_628
  let v954 : BitVec 1 := Scalar.andi v953 v950
  let v955 : BitVec 32 := Scalar.addi v949 v948
  let v956 : BitVec 32 := Scalar.select v954 v955 v949
  let c16_i32_646 : BitVec 32 := 16#32
  let v979 : BitVec 32 := Scalar.muli v956 c16_i32_646
  let v980 : BitVec 32 := Scalar.addi c0_i32_647 v979
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_631 : BitVec 32 := 2#32
  let v957 : BitVec 32 := Scalar.addi v5 c2_i32_631
  let c4_i32_632 : BitVec 32 := 4#32
  let c0_i32_633 : BitVec 32 := 0#32
  let v958 : BitVec 1 := Scalar.cmpi .eq c4_i32_632 c0_i32_633
  let c1_i32_634 : BitVec 32 := 1#32
  let v959 : BitVec 32 := Scalar.select v958 c1_i32_634 c4_i32_632
  let v960 : BitVec 32 := Scalar.remsi v957 v959
  let c0_i32_636 : BitVec 32 := 0#32
  let v962 : BitVec 1 := Scalar.cmpi .slt v960 c0_i32_636
  let c0_i32_637 : BitVec 32 := 0#32
  let v963 : BitVec 1 := Scalar.cmpi .slt v959 c0_i32_637
  let v964 : BitVec 1 := Scalar.xori v962 v963
  let c0_i32_635 : BitVec 32 := 0#32
  let v961 : BitVec 1 := Scalar.cmpi .ne v960 c0_i32_635
  let v965 : BitVec 1 := Scalar.andi v964 v961
  let v966 : BitVec 32 := Scalar.addi v960 v959
  let v967 : BitVec 32 := Scalar.select v965 v966 v960
  let c4_i32_648 : BitVec 32 := 4#32
  let v981 : BitVec 32 := Scalar.muli v967 c4_i32_648
  let v982 : BitVec 32 := Scalar.addi v980 v981
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_638 : BitVec 32 := 1#32
  let v968 : BitVec 32 := Scalar.addi v8 c1_i32_638
  let c4_i32_639 : BitVec 32 := 4#32
  let c0_i32_640 : BitVec 32 := 0#32
  let v969 : BitVec 1 := Scalar.cmpi .eq c4_i32_639 c0_i32_640
  let c1_i32_641 : BitVec 32 := 1#32
  let v970 : BitVec 32 := Scalar.select v969 c1_i32_641 c4_i32_639
  let v971 : BitVec 32 := Scalar.remsi v968 v970
  let c0_i32_643 : BitVec 32 := 0#32
  let v973 : BitVec 1 := Scalar.cmpi .slt v971 c0_i32_643
  let c0_i32_644 : BitVec 32 := 0#32
  let v974 : BitVec 1 := Scalar.cmpi .slt v970 c0_i32_644
  let v975 : BitVec 1 := Scalar.xori v973 v974
  let c0_i32_642 : BitVec 32 := 0#32
  let v972 : BitVec 1 := Scalar.cmpi .ne v971 c0_i32_642
  let v976 : BitVec 1 := Scalar.andi v975 v972
  let v977 : BitVec 32 := Scalar.addi v971 v970
  let v978 : BitVec 32 := Scalar.select v976 v977 v971
  let c1_i32_649 : BitVec 32 := 1#32
  let v983 : BitVec 32 := Scalar.muli v978 c1_i32_649
  let v984 : BitVec 32 := Scalar.addi v982 v983
  v984.toNat
def k0_dev26 (d0 : Dev nD) : Nat :=
  let c0_i32_673 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_650 : BitVec 32 := 1#32
  let v985 : BitVec 32 := Scalar.addi v2 c1_i32_650
  let c2_i32_651 : BitVec 32 := 2#32
  let c0_i32_652 : BitVec 32 := 0#32
  let v986 : BitVec 1 := Scalar.cmpi .eq c2_i32_651 c0_i32_652
  let c1_i32_653 : BitVec 32 := 1#32
  let v987 : BitVec 32 := Scalar.select v986 c1_i32_653 c2_i32_651
  let v988 : BitVec 32 := Scalar.remsi v985 v987
  let c0_i32_655 : BitVec 32 := 0#32
  let v990 : BitVec 1 := Scalar.cmpi .slt v988 c0_i32_655
  let c0_i32_656 : BitVec 32 := 0#32
  let v991 : BitVec 1 := Scalar.cmpi .slt v987 c0_i32_656
  let v992 : BitVec 1 := Scalar.xori v990 v991
  let c0_i32_654 : BitVec 32 := 0#32
  let v989 : BitVec 1 := Scalar.cmpi .ne v988 c0_i32_654
  let v993 : BitVec 1 := Scalar.andi v992 v989
  let v994 : BitVec 32 := Scalar.addi v988 v987
  let v995 : BitVec 32 := Scalar.select v993 v994 v988
  let c16_i32_672 : BitVec 32 := 16#32
  let v1018 : BitVec 32 := Scalar.muli v995 c16_i32_672
  let v1019 : BitVec 32 := Scalar.addi c0_i32_673 v1018
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_657 : BitVec 32 := 2#32
  let v996 : BitVec 32 := Scalar.addi v5 c2_i32_657
  let c4_i32_658 : BitVec 32 := 4#32
  let c0_i32_659 : BitVec 32 := 0#32
  let v997 : BitVec 1 := Scalar.cmpi .eq c4_i32_658 c0_i32_659
  let c1_i32_660 : BitVec 32 := 1#32
  let v998 : BitVec 32 := Scalar.select v997 c1_i32_660 c4_i32_658
  let v999 : BitVec 32 := Scalar.remsi v996 v998
  let c0_i32_662 : BitVec 32 := 0#32
  let v1001 : BitVec 1 := Scalar.cmpi .slt v999 c0_i32_662
  let c0_i32_663 : BitVec 32 := 0#32
  let v1002 : BitVec 1 := Scalar.cmpi .slt v998 c0_i32_663
  let v1003 : BitVec 1 := Scalar.xori v1001 v1002
  let c0_i32_661 : BitVec 32 := 0#32
  let v1000 : BitVec 1 := Scalar.cmpi .ne v999 c0_i32_661
  let v1004 : BitVec 1 := Scalar.andi v1003 v1000
  let v1005 : BitVec 32 := Scalar.addi v999 v998
  let v1006 : BitVec 32 := Scalar.select v1004 v1005 v999
  let c4_i32_674 : BitVec 32 := 4#32
  let v1020 : BitVec 32 := Scalar.muli v1006 c4_i32_674
  let v1021 : BitVec 32 := Scalar.addi v1019 v1020
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_664 : BitVec 32 := 2#32
  let v1007 : BitVec 32 := Scalar.addi v8 c2_i32_664
  let c4_i32_665 : BitVec 32 := 4#32
  let c0_i32_666 : BitVec 32 := 0#32
  let v1008 : BitVec 1 := Scalar.cmpi .eq c4_i32_665 c0_i32_666
  let c1_i32_667 : BitVec 32 := 1#32
  let v1009 : BitVec 32 := Scalar.select v1008 c1_i32_667 c4_i32_665
  let v1010 : BitVec 32 := Scalar.remsi v1007 v1009
  let c0_i32_669 : BitVec 32 := 0#32
  let v1012 : BitVec 1 := Scalar.cmpi .slt v1010 c0_i32_669
  let c0_i32_670 : BitVec 32 := 0#32
  let v1013 : BitVec 1 := Scalar.cmpi .slt v1009 c0_i32_670
  let v1014 : BitVec 1 := Scalar.xori v1012 v1013
  let c0_i32_668 : BitVec 32 := 0#32
  let v1011 : BitVec 1 := Scalar.cmpi .ne v1010 c0_i32_668
  let v1015 : BitVec 1 := Scalar.andi v1014 v1011
  let v1016 : BitVec 32 := Scalar.addi v1010 v1009
  let v1017 : BitVec 32 := Scalar.select v1015 v1016 v1010
  let c1_i32_675 : BitVec 32 := 1#32
  let v1022 : BitVec 32 := Scalar.muli v1017 c1_i32_675
  let v1023 : BitVec 32 := Scalar.addi v1021 v1022
  v1023.toNat
def k0_dev27 (d0 : Dev nD) : Nat :=
  let c0_i32_699 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_676 : BitVec 32 := 1#32
  let v1024 : BitVec 32 := Scalar.addi v2 c1_i32_676
  let c2_i32_677 : BitVec 32 := 2#32
  let c0_i32_678 : BitVec 32 := 0#32
  let v1025 : BitVec 1 := Scalar.cmpi .eq c2_i32_677 c0_i32_678
  let c1_i32_679 : BitVec 32 := 1#32
  let v1026 : BitVec 32 := Scalar.select v1025 c1_i32_679 c2_i32_677
  let v1027 : BitVec 32 := Scalar.remsi v1024 v1026
  let c0_i32_681 : BitVec 32 := 0#32
  let v1029 : BitVec 1 := Scalar.cmpi .slt v1027 c0_i32_681
  let c0_i32_682 : BitVec 32 := 0#32
  let v1030 : BitVec 1 := Scalar.cmpi .slt v1026 c0_i32_682
  let v1031 : BitVec 1 := Scalar.xori v1029 v1030
  let c0_i32_680 : BitVec 32 := 0#32
  let v1028 : BitVec 1 := Scalar.cmpi .ne v1027 c0_i32_680
  let v1032 : BitVec 1 := Scalar.andi v1031 v1028
  let v1033 : BitVec 32 := Scalar.addi v1027 v1026
  let v1034 : BitVec 32 := Scalar.select v1032 v1033 v1027
  let c16_i32_698 : BitVec 32 := 16#32
  let v1057 : BitVec 32 := Scalar.muli v1034 c16_i32_698
  let v1058 : BitVec 32 := Scalar.addi c0_i32_699 v1057
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_683 : BitVec 32 := 2#32
  let v1035 : BitVec 32 := Scalar.addi v5 c2_i32_683
  let c4_i32_684 : BitVec 32 := 4#32
  let c0_i32_685 : BitVec 32 := 0#32
  let v1036 : BitVec 1 := Scalar.cmpi .eq c4_i32_684 c0_i32_685
  let c1_i32_686 : BitVec 32 := 1#32
  let v1037 : BitVec 32 := Scalar.select v1036 c1_i32_686 c4_i32_684
  let v1038 : BitVec 32 := Scalar.remsi v1035 v1037
  let c0_i32_688 : BitVec 32 := 0#32
  let v1040 : BitVec 1 := Scalar.cmpi .slt v1038 c0_i32_688
  let c0_i32_689 : BitVec 32 := 0#32
  let v1041 : BitVec 1 := Scalar.cmpi .slt v1037 c0_i32_689
  let v1042 : BitVec 1 := Scalar.xori v1040 v1041
  let c0_i32_687 : BitVec 32 := 0#32
  let v1039 : BitVec 1 := Scalar.cmpi .ne v1038 c0_i32_687
  let v1043 : BitVec 1 := Scalar.andi v1042 v1039
  let v1044 : BitVec 32 := Scalar.addi v1038 v1037
  let v1045 : BitVec 32 := Scalar.select v1043 v1044 v1038
  let c4_i32_700 : BitVec 32 := 4#32
  let v1059 : BitVec 32 := Scalar.muli v1045 c4_i32_700
  let v1060 : BitVec 32 := Scalar.addi v1058 v1059
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_690 : BitVec 32 := 3#32
  let v1046 : BitVec 32 := Scalar.addi v8 c3_i32_690
  let c4_i32_691 : BitVec 32 := 4#32
  let c0_i32_692 : BitVec 32 := 0#32
  let v1047 : BitVec 1 := Scalar.cmpi .eq c4_i32_691 c0_i32_692
  let c1_i32_693 : BitVec 32 := 1#32
  let v1048 : BitVec 32 := Scalar.select v1047 c1_i32_693 c4_i32_691
  let v1049 : BitVec 32 := Scalar.remsi v1046 v1048
  let c0_i32_695 : BitVec 32 := 0#32
  let v1051 : BitVec 1 := Scalar.cmpi .slt v1049 c0_i32_695
  let c0_i32_696 : BitVec 32 := 0#32
  let v1052 : BitVec 1 := Scalar.cmpi .slt v1048 c0_i32_696
  let v1053 : BitVec 1 := Scalar.xori v1051 v1052
  let c0_i32_694 : BitVec 32 := 0#32
  let v1050 : BitVec 1 := Scalar.cmpi .ne v1049 c0_i32_694
  let v1054 : BitVec 1 := Scalar.andi v1053 v1050
  let v1055 : BitVec 32 := Scalar.addi v1049 v1048
  let v1056 : BitVec 32 := Scalar.select v1054 v1055 v1049
  let c1_i32_701 : BitVec 32 := 1#32
  let v1061 : BitVec 32 := Scalar.muli v1056 c1_i32_701
  let v1062 : BitVec 32 := Scalar.addi v1060 v1061
  v1062.toNat
def k0_dev28 (d0 : Dev nD) : Nat :=
  let c0_i32_725 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_702 : BitVec 32 := 1#32
  let v1063 : BitVec 32 := Scalar.addi v2 c1_i32_702
  let c2_i32_703 : BitVec 32 := 2#32
  let c0_i32_704 : BitVec 32 := 0#32
  let v1064 : BitVec 1 := Scalar.cmpi .eq c2_i32_703 c0_i32_704
  let c1_i32_705 : BitVec 32 := 1#32
  let v1065 : BitVec 32 := Scalar.select v1064 c1_i32_705 c2_i32_703
  let v1066 : BitVec 32 := Scalar.remsi v1063 v1065
  let c0_i32_707 : BitVec 32 := 0#32
  let v1068 : BitVec 1 := Scalar.cmpi .slt v1066 c0_i32_707
  let c0_i32_708 : BitVec 32 := 0#32
  let v1069 : BitVec 1 := Scalar.cmpi .slt v1065 c0_i32_708
  let v1070 : BitVec 1 := Scalar.xori v1068 v1069
  let c0_i32_706 : BitVec 32 := 0#32
  let v1067 : BitVec 1 := Scalar.cmpi .ne v1066 c0_i32_706
  let v1071 : BitVec 1 := Scalar.andi v1070 v1067
  let v1072 : BitVec 32 := Scalar.addi v1066 v1065
  let v1073 : BitVec 32 := Scalar.select v1071 v1072 v1066
  let c16_i32_724 : BitVec 32 := 16#32
  let v1096 : BitVec 32 := Scalar.muli v1073 c16_i32_724
  let v1097 : BitVec 32 := Scalar.addi c0_i32_725 v1096
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_709 : BitVec 32 := 3#32
  let v1074 : BitVec 32 := Scalar.addi v5 c3_i32_709
  let c4_i32_710 : BitVec 32 := 4#32
  let c0_i32_711 : BitVec 32 := 0#32
  let v1075 : BitVec 1 := Scalar.cmpi .eq c4_i32_710 c0_i32_711
  let c1_i32_712 : BitVec 32 := 1#32
  let v1076 : BitVec 32 := Scalar.select v1075 c1_i32_712 c4_i32_710
  let v1077 : BitVec 32 := Scalar.remsi v1074 v1076
  let c0_i32_714 : BitVec 32 := 0#32
  let v1079 : BitVec 1 := Scalar.cmpi .slt v1077 c0_i32_714
  let c0_i32_715 : BitVec 32 := 0#32
  let v1080 : BitVec 1 := Scalar.cmpi .slt v1076 c0_i32_715
  let v1081 : BitVec 1 := Scalar.xori v1079 v1080
  let c0_i32_713 : BitVec 32 := 0#32
  let v1078 : BitVec 1 := Scalar.cmpi .ne v1077 c0_i32_713
  let v1082 : BitVec 1 := Scalar.andi v1081 v1078
  let v1083 : BitVec 32 := Scalar.addi v1077 v1076
  let v1084 : BitVec 32 := Scalar.select v1082 v1083 v1077
  let c4_i32_726 : BitVec 32 := 4#32
  let v1098 : BitVec 32 := Scalar.muli v1084 c4_i32_726
  let v1099 : BitVec 32 := Scalar.addi v1097 v1098
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_716 : BitVec 32 := 0#32
  let v1085 : BitVec 32 := Scalar.addi v8 c0_i32_716
  let c4_i32_717 : BitVec 32 := 4#32
  let c0_i32_718 : BitVec 32 := 0#32
  let v1086 : BitVec 1 := Scalar.cmpi .eq c4_i32_717 c0_i32_718
  let c1_i32_719 : BitVec 32 := 1#32
  let v1087 : BitVec 32 := Scalar.select v1086 c1_i32_719 c4_i32_717
  let v1088 : BitVec 32 := Scalar.remsi v1085 v1087
  let c0_i32_721 : BitVec 32 := 0#32
  let v1090 : BitVec 1 := Scalar.cmpi .slt v1088 c0_i32_721
  let c0_i32_722 : BitVec 32 := 0#32
  let v1091 : BitVec 1 := Scalar.cmpi .slt v1087 c0_i32_722
  let v1092 : BitVec 1 := Scalar.xori v1090 v1091
  let c0_i32_720 : BitVec 32 := 0#32
  let v1089 : BitVec 1 := Scalar.cmpi .ne v1088 c0_i32_720
  let v1093 : BitVec 1 := Scalar.andi v1092 v1089
  let v1094 : BitVec 32 := Scalar.addi v1088 v1087
  let v1095 : BitVec 32 := Scalar.select v1093 v1094 v1088
  let c1_i32_727 : BitVec 32 := 1#32
  let v1100 : BitVec 32 := Scalar.muli v1095 c1_i32_727
  let v1101 : BitVec 32 := Scalar.addi v1099 v1100
  v1101.toNat
def k0_dev29 (d0 : Dev nD) : Nat :=
  let c0_i32_751 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_728 : BitVec 32 := 1#32
  let v1102 : BitVec 32 := Scalar.addi v2 c1_i32_728
  let c2_i32_729 : BitVec 32 := 2#32
  let c0_i32_730 : BitVec 32 := 0#32
  let v1103 : BitVec 1 := Scalar.cmpi .eq c2_i32_729 c0_i32_730
  let c1_i32_731 : BitVec 32 := 1#32
  let v1104 : BitVec 32 := Scalar.select v1103 c1_i32_731 c2_i32_729
  let v1105 : BitVec 32 := Scalar.remsi v1102 v1104
  let c0_i32_733 : BitVec 32 := 0#32
  let v1107 : BitVec 1 := Scalar.cmpi .slt v1105 c0_i32_733
  let c0_i32_734 : BitVec 32 := 0#32
  let v1108 : BitVec 1 := Scalar.cmpi .slt v1104 c0_i32_734
  let v1109 : BitVec 1 := Scalar.xori v1107 v1108
  let c0_i32_732 : BitVec 32 := 0#32
  let v1106 : BitVec 1 := Scalar.cmpi .ne v1105 c0_i32_732
  let v1110 : BitVec 1 := Scalar.andi v1109 v1106
  let v1111 : BitVec 32 := Scalar.addi v1105 v1104
  let v1112 : BitVec 32 := Scalar.select v1110 v1111 v1105
  let c16_i32_750 : BitVec 32 := 16#32
  let v1135 : BitVec 32 := Scalar.muli v1112 c16_i32_750
  let v1136 : BitVec 32 := Scalar.addi c0_i32_751 v1135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_735 : BitVec 32 := 3#32
  let v1113 : BitVec 32 := Scalar.addi v5 c3_i32_735
  let c4_i32_736 : BitVec 32 := 4#32
  let c0_i32_737 : BitVec 32 := 0#32
  let v1114 : BitVec 1 := Scalar.cmpi .eq c4_i32_736 c0_i32_737
  let c1_i32_738 : BitVec 32 := 1#32
  let v1115 : BitVec 32 := Scalar.select v1114 c1_i32_738 c4_i32_736
  let v1116 : BitVec 32 := Scalar.remsi v1113 v1115
  let c0_i32_740 : BitVec 32 := 0#32
  let v1118 : BitVec 1 := Scalar.cmpi .slt v1116 c0_i32_740
  let c0_i32_741 : BitVec 32 := 0#32
  let v1119 : BitVec 1 := Scalar.cmpi .slt v1115 c0_i32_741
  let v1120 : BitVec 1 := Scalar.xori v1118 v1119
  let c0_i32_739 : BitVec 32 := 0#32
  let v1117 : BitVec 1 := Scalar.cmpi .ne v1116 c0_i32_739
  let v1121 : BitVec 1 := Scalar.andi v1120 v1117
  let v1122 : BitVec 32 := Scalar.addi v1116 v1115
  let v1123 : BitVec 32 := Scalar.select v1121 v1122 v1116
  let c4_i32_752 : BitVec 32 := 4#32
  let v1137 : BitVec 32 := Scalar.muli v1123 c4_i32_752
  let v1138 : BitVec 32 := Scalar.addi v1136 v1137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_742 : BitVec 32 := 1#32
  let v1124 : BitVec 32 := Scalar.addi v8 c1_i32_742
  let c4_i32_743 : BitVec 32 := 4#32
  let c0_i32_744 : BitVec 32 := 0#32
  let v1125 : BitVec 1 := Scalar.cmpi .eq c4_i32_743 c0_i32_744
  let c1_i32_745 : BitVec 32 := 1#32
  let v1126 : BitVec 32 := Scalar.select v1125 c1_i32_745 c4_i32_743
  let v1127 : BitVec 32 := Scalar.remsi v1124 v1126
  let c0_i32_747 : BitVec 32 := 0#32
  let v1129 : BitVec 1 := Scalar.cmpi .slt v1127 c0_i32_747
  let c0_i32_748 : BitVec 32 := 0#32
  let v1130 : BitVec 1 := Scalar.cmpi .slt v1126 c0_i32_748
  let v1131 : BitVec 1 := Scalar.xori v1129 v1130
  let c0_i32_746 : BitVec 32 := 0#32
  let v1128 : BitVec 1 := Scalar.cmpi .ne v1127 c0_i32_746
  let v1132 : BitVec 1 := Scalar.andi v1131 v1128
  let v1133 : BitVec 32 := Scalar.addi v1127 v1126
  let v1134 : BitVec 32 := Scalar.select v1132 v1133 v1127
  let c1_i32_753 : BitVec 32 := 1#32
  let v1139 : BitVec 32 := Scalar.muli v1134 c1_i32_753
  let v1140 : BitVec 32 := Scalar.addi v1138 v1139
  v1140.toNat
def k0_dev30 (d0 : Dev nD) : Nat :=
  let c0_i32_777 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_754 : BitVec 32 := 1#32
  let v1141 : BitVec 32 := Scalar.addi v2 c1_i32_754
  let c2_i32_755 : BitVec 32 := 2#32
  let c0_i32_756 : BitVec 32 := 0#32
  let v1142 : BitVec 1 := Scalar.cmpi .eq c2_i32_755 c0_i32_756
  let c1_i32_757 : BitVec 32 := 1#32
  let v1143 : BitVec 32 := Scalar.select v1142 c1_i32_757 c2_i32_755
  let v1144 : BitVec 32 := Scalar.remsi v1141 v1143
  let c0_i32_759 : BitVec 32 := 0#32
  let v1146 : BitVec 1 := Scalar.cmpi .slt v1144 c0_i32_759
  let c0_i32_760 : BitVec 32 := 0#32
  let v1147 : BitVec 1 := Scalar.cmpi .slt v1143 c0_i32_760
  let v1148 : BitVec 1 := Scalar.xori v1146 v1147
  let c0_i32_758 : BitVec 32 := 0#32
  let v1145 : BitVec 1 := Scalar.cmpi .ne v1144 c0_i32_758
  let v1149 : BitVec 1 := Scalar.andi v1148 v1145
  let v1150 : BitVec 32 := Scalar.addi v1144 v1143
  let v1151 : BitVec 32 := Scalar.select v1149 v1150 v1144
  let c16_i32_776 : BitVec 32 := 16#32
  let v1174 : BitVec 32 := Scalar.muli v1151 c16_i32_776
  let v1175 : BitVec 32 := Scalar.addi c0_i32_777 v1174
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_761 : BitVec 32 := 3#32
  let v1152 : BitVec 32 := Scalar.addi v5 c3_i32_761
  let c4_i32_762 : BitVec 32 := 4#32
  let c0_i32_763 : BitVec 32 := 0#32
  let v1153 : BitVec 1 := Scalar.cmpi .eq c4_i32_762 c0_i32_763
  let c1_i32_764 : BitVec 32 := 1#32
  let v1154 : BitVec 32 := Scalar.select v1153 c1_i32_764 c4_i32_762
  let v1155 : BitVec 32 := Scalar.remsi v1152 v1154
  let c0_i32_766 : BitVec 32 := 0#32
  let v1157 : BitVec 1 := Scalar.cmpi .slt v1155 c0_i32_766
  let c0_i32_767 : BitVec 32 := 0#32
  let v1158 : BitVec 1 := Scalar.cmpi .slt v1154 c0_i32_767
  let v1159 : BitVec 1 := Scalar.xori v1157 v1158
  let c0_i32_765 : BitVec 32 := 0#32
  let v1156 : BitVec 1 := Scalar.cmpi .ne v1155 c0_i32_765
  let v1160 : BitVec 1 := Scalar.andi v1159 v1156
  let v1161 : BitVec 32 := Scalar.addi v1155 v1154
  let v1162 : BitVec 32 := Scalar.select v1160 v1161 v1155
  let c4_i32_778 : BitVec 32 := 4#32
  let v1176 : BitVec 32 := Scalar.muli v1162 c4_i32_778
  let v1177 : BitVec 32 := Scalar.addi v1175 v1176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_768 : BitVec 32 := 2#32
  let v1163 : BitVec 32 := Scalar.addi v8 c2_i32_768
  let c4_i32_769 : BitVec 32 := 4#32
  let c0_i32_770 : BitVec 32 := 0#32
  let v1164 : BitVec 1 := Scalar.cmpi .eq c4_i32_769 c0_i32_770
  let c1_i32_771 : BitVec 32 := 1#32
  let v1165 : BitVec 32 := Scalar.select v1164 c1_i32_771 c4_i32_769
  let v1166 : BitVec 32 := Scalar.remsi v1163 v1165
  let c0_i32_773 : BitVec 32 := 0#32
  let v1168 : BitVec 1 := Scalar.cmpi .slt v1166 c0_i32_773
  let c0_i32_774 : BitVec 32 := 0#32
  let v1169 : BitVec 1 := Scalar.cmpi .slt v1165 c0_i32_774
  let v1170 : BitVec 1 := Scalar.xori v1168 v1169
  let c0_i32_772 : BitVec 32 := 0#32
  let v1167 : BitVec 1 := Scalar.cmpi .ne v1166 c0_i32_772
  let v1171 : BitVec 1 := Scalar.andi v1170 v1167
  let v1172 : BitVec 32 := Scalar.addi v1166 v1165
  let v1173 : BitVec 32 := Scalar.select v1171 v1172 v1166
  let c1_i32_779 : BitVec 32 := 1#32
  let v1178 : BitVec 32 := Scalar.muli v1173 c1_i32_779
  let v1179 : BitVec 32 := Scalar.addi v1177 v1178
  v1179.toNat
def k0_dev31 (d0 : Dev nD) : Nat :=
  let c0_i32_803 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_780 : BitVec 32 := 1#32
  let v1180 : BitVec 32 := Scalar.addi v2 c1_i32_780
  let c2_i32_781 : BitVec 32 := 2#32
  let c0_i32_782 : BitVec 32 := 0#32
  let v1181 : BitVec 1 := Scalar.cmpi .eq c2_i32_781 c0_i32_782
  let c1_i32_783 : BitVec 32 := 1#32
  let v1182 : BitVec 32 := Scalar.select v1181 c1_i32_783 c2_i32_781
  let v1183 : BitVec 32 := Scalar.remsi v1180 v1182
  let c0_i32_785 : BitVec 32 := 0#32
  let v1185 : BitVec 1 := Scalar.cmpi .slt v1183 c0_i32_785
  let c0_i32_786 : BitVec 32 := 0#32
  let v1186 : BitVec 1 := Scalar.cmpi .slt v1182 c0_i32_786
  let v1187 : BitVec 1 := Scalar.xori v1185 v1186
  let c0_i32_784 : BitVec 32 := 0#32
  let v1184 : BitVec 1 := Scalar.cmpi .ne v1183 c0_i32_784
  let v1188 : BitVec 1 := Scalar.andi v1187 v1184
  let v1189 : BitVec 32 := Scalar.addi v1183 v1182
  let v1190 : BitVec 32 := Scalar.select v1188 v1189 v1183
  let c16_i32_802 : BitVec 32 := 16#32
  let v1213 : BitVec 32 := Scalar.muli v1190 c16_i32_802
  let v1214 : BitVec 32 := Scalar.addi c0_i32_803 v1213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_787 : BitVec 32 := 3#32
  let v1191 : BitVec 32 := Scalar.addi v5 c3_i32_787
  let c4_i32_788 : BitVec 32 := 4#32
  let c0_i32_789 : BitVec 32 := 0#32
  let v1192 : BitVec 1 := Scalar.cmpi .eq c4_i32_788 c0_i32_789
  let c1_i32_790 : BitVec 32 := 1#32
  let v1193 : BitVec 32 := Scalar.select v1192 c1_i32_790 c4_i32_788
  let v1194 : BitVec 32 := Scalar.remsi v1191 v1193
  let c0_i32_792 : BitVec 32 := 0#32
  let v1196 : BitVec 1 := Scalar.cmpi .slt v1194 c0_i32_792
  let c0_i32_793 : BitVec 32 := 0#32
  let v1197 : BitVec 1 := Scalar.cmpi .slt v1193 c0_i32_793
  let v1198 : BitVec 1 := Scalar.xori v1196 v1197
  let c0_i32_791 : BitVec 32 := 0#32
  let v1195 : BitVec 1 := Scalar.cmpi .ne v1194 c0_i32_791
  let v1199 : BitVec 1 := Scalar.andi v1198 v1195
  let v1200 : BitVec 32 := Scalar.addi v1194 v1193
  let v1201 : BitVec 32 := Scalar.select v1199 v1200 v1194
  let c4_i32_804 : BitVec 32 := 4#32
  let v1215 : BitVec 32 := Scalar.muli v1201 c4_i32_804
  let v1216 : BitVec 32 := Scalar.addi v1214 v1215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_794 : BitVec 32 := 3#32
  let v1202 : BitVec 32 := Scalar.addi v8 c3_i32_794
  let c4_i32_795 : BitVec 32 := 4#32
  let c0_i32_796 : BitVec 32 := 0#32
  let v1203 : BitVec 1 := Scalar.cmpi .eq c4_i32_795 c0_i32_796
  let c1_i32_797 : BitVec 32 := 1#32
  let v1204 : BitVec 32 := Scalar.select v1203 c1_i32_797 c4_i32_795
  let v1205 : BitVec 32 := Scalar.remsi v1202 v1204
  let c0_i32_799 : BitVec 32 := 0#32
  let v1207 : BitVec 1 := Scalar.cmpi .slt v1205 c0_i32_799
  let c0_i32_800 : BitVec 32 := 0#32
  let v1208 : BitVec 1 := Scalar.cmpi .slt v1204 c0_i32_800
  let v1209 : BitVec 1 := Scalar.xori v1207 v1208
  let c0_i32_798 : BitVec 32 := 0#32
  let v1206 : BitVec 1 := Scalar.cmpi .ne v1205 c0_i32_798
  let v1210 : BitVec 1 := Scalar.andi v1209 v1206
  let v1211 : BitVec 32 := Scalar.addi v1205 v1204
  let v1212 : BitVec 32 := Scalar.select v1210 v1211 v1205
  let c1_i32_805 : BitVec 32 := 1#32
  let v1217 : BitVec 32 := Scalar.muli v1212 c1_i32_805
  let v1218 : BitVec 32 := Scalar.addi v1216 v1217
  v1218.toNat
def k0_off1 (d0 : Dev nD) (c0_i32_807 : BitVec 32) : Fin 2 → Nat :=
  let c0_i32_812 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_806 : BitVec 32 := 4#32
  let v1219 : BitVec 32 := Scalar.muli v2 c4_i32_806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1220 : BitVec 32 := Scalar.addi v1219 v8
  let c1024_i32 : BitVec 32 := 1024#32
  let v1221 : BitVec 32 := Scalar.muli v1220 c1024_i32
  let v1222 : BitVec 32 := Scalar.addi v1221 c0_i32_807
  ![0, v1222.toNat]
def k0_dev32 (d0 : Dev nD) : Nat :=
  let c0_i32_924 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_898 : BitVec 32 := 0#32
  let v1366 : BitVec 32 := Scalar.addi v2 c0_i32_898
  let c2_i32_899 : BitVec 32 := 2#32
  let c0_i32_900 : BitVec 32 := 0#32
  let v1367 : BitVec 1 := Scalar.cmpi .eq c2_i32_899 c0_i32_900
  let c1_i32_901 : BitVec 32 := 1#32
  let v1368 : BitVec 32 := Scalar.select v1367 c1_i32_901 c2_i32_899
  let v1369 : BitVec 32 := Scalar.remsi v1366 v1368
  let c0_i32_903 : BitVec 32 := 0#32
  let v1371 : BitVec 1 := Scalar.cmpi .slt v1369 c0_i32_903
  let c0_i32_904 : BitVec 32 := 0#32
  let v1372 : BitVec 1 := Scalar.cmpi .slt v1368 c0_i32_904
  let v1373 : BitVec 1 := Scalar.xori v1371 v1372
  let c0_i32_902 : BitVec 32 := 0#32
  let v1370 : BitVec 1 := Scalar.cmpi .ne v1369 c0_i32_902
  let v1374 : BitVec 1 := Scalar.andi v1373 v1370
  let v1375 : BitVec 32 := Scalar.addi v1369 v1368
  let v1376 : BitVec 32 := Scalar.select v1374 v1375 v1369
  let c16_i32_923 : BitVec 32 := 16#32
  let v1399 : BitVec 32 := Scalar.muli v1376 c16_i32_923
  let v1400 : BitVec 32 := Scalar.addi c0_i32_924 v1399
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_905 : BitVec 32 := 0#32
  let v1377 : BitVec 32 := Scalar.addi v5 c0_i32_905
  let c4_i32_906 : BitVec 32 := 4#32
  let c0_i32_907 : BitVec 32 := 0#32
  let v1378 : BitVec 1 := Scalar.cmpi .eq c4_i32_906 c0_i32_907
  let c1_i32_908 : BitVec 32 := 1#32
  let v1379 : BitVec 32 := Scalar.select v1378 c1_i32_908 c4_i32_906
  let v1380 : BitVec 32 := Scalar.remsi v1377 v1379
  let c0_i32_910 : BitVec 32 := 0#32
  let v1382 : BitVec 1 := Scalar.cmpi .slt v1380 c0_i32_910
  let c0_i32_911 : BitVec 32 := 0#32
  let v1383 : BitVec 1 := Scalar.cmpi .slt v1379 c0_i32_911
  let v1384 : BitVec 1 := Scalar.xori v1382 v1383
  let c0_i32_909 : BitVec 32 := 0#32
  let v1381 : BitVec 1 := Scalar.cmpi .ne v1380 c0_i32_909
  let v1385 : BitVec 1 := Scalar.andi v1384 v1381
  let v1386 : BitVec 32 := Scalar.addi v1380 v1379
  let v1387 : BitVec 32 := Scalar.select v1385 v1386 v1380
  let c4_i32_925 : BitVec 32 := 4#32
  let v1401 : BitVec 32 := Scalar.muli v1387 c4_i32_925
  let v1402 : BitVec 32 := Scalar.addi v1400 v1401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_912 : BitVec 32 := 1#32
  let v1388 : BitVec 32 := Scalar.addi v8 c1_i32_912
  let c4_i32_913 : BitVec 32 := 4#32
  let c0_i32_914 : BitVec 32 := 0#32
  let v1389 : BitVec 1 := Scalar.cmpi .eq c4_i32_913 c0_i32_914
  let c1_i32_915 : BitVec 32 := 1#32
  let v1390 : BitVec 32 := Scalar.select v1389 c1_i32_915 c4_i32_913
  let v1391 : BitVec 32 := Scalar.remsi v1388 v1390
  let c0_i32_917 : BitVec 32 := 0#32
  let v1393 : BitVec 1 := Scalar.cmpi .slt v1391 c0_i32_917
  let c0_i32_918 : BitVec 32 := 0#32
  let v1394 : BitVec 1 := Scalar.cmpi .slt v1390 c0_i32_918
  let v1395 : BitVec 1 := Scalar.xori v1393 v1394
  let c0_i32_916 : BitVec 32 := 0#32
  let v1392 : BitVec 1 := Scalar.cmpi .ne v1391 c0_i32_916
  let v1396 : BitVec 1 := Scalar.andi v1395 v1392
  let v1397 : BitVec 32 := Scalar.addi v1391 v1390
  let v1398 : BitVec 32 := Scalar.select v1396 v1397 v1391
  let c1_i32_926 : BitVec 32 := 1#32
  let v1403 : BitVec 32 := Scalar.muli v1398 c1_i32_926
  let v1404 : BitVec 32 := Scalar.addi v1402 v1403
  v1404.toNat
def k0_dev33 (d0 : Dev nD) : Nat :=
  let c0_i32_957 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_931 : BitVec 32 := 0#32
  let v1413 : BitVec 32 := Scalar.addi v2 c0_i32_931
  let c2_i32_932 : BitVec 32 := 2#32
  let c0_i32_933 : BitVec 32 := 0#32
  let v1414 : BitVec 1 := Scalar.cmpi .eq c2_i32_932 c0_i32_933
  let c1_i32_934 : BitVec 32 := 1#32
  let v1415 : BitVec 32 := Scalar.select v1414 c1_i32_934 c2_i32_932
  let v1416 : BitVec 32 := Scalar.remsi v1413 v1415
  let c0_i32_936 : BitVec 32 := 0#32
  let v1418 : BitVec 1 := Scalar.cmpi .slt v1416 c0_i32_936
  let c0_i32_937 : BitVec 32 := 0#32
  let v1419 : BitVec 1 := Scalar.cmpi .slt v1415 c0_i32_937
  let v1420 : BitVec 1 := Scalar.xori v1418 v1419
  let c0_i32_935 : BitVec 32 := 0#32
  let v1417 : BitVec 1 := Scalar.cmpi .ne v1416 c0_i32_935
  let v1421 : BitVec 1 := Scalar.andi v1420 v1417
  let v1422 : BitVec 32 := Scalar.addi v1416 v1415
  let v1423 : BitVec 32 := Scalar.select v1421 v1422 v1416
  let c16_i32_956 : BitVec 32 := 16#32
  let v1446 : BitVec 32 := Scalar.muli v1423 c16_i32_956
  let v1447 : BitVec 32 := Scalar.addi c0_i32_957 v1446
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_938 : BitVec 32 := 0#32
  let v1424 : BitVec 32 := Scalar.addi v5 c0_i32_938
  let c4_i32_939 : BitVec 32 := 4#32
  let c0_i32_940 : BitVec 32 := 0#32
  let v1425 : BitVec 1 := Scalar.cmpi .eq c4_i32_939 c0_i32_940
  let c1_i32_941 : BitVec 32 := 1#32
  let v1426 : BitVec 32 := Scalar.select v1425 c1_i32_941 c4_i32_939
  let v1427 : BitVec 32 := Scalar.remsi v1424 v1426
  let c0_i32_943 : BitVec 32 := 0#32
  let v1429 : BitVec 1 := Scalar.cmpi .slt v1427 c0_i32_943
  let c0_i32_944 : BitVec 32 := 0#32
  let v1430 : BitVec 1 := Scalar.cmpi .slt v1426 c0_i32_944
  let v1431 : BitVec 1 := Scalar.xori v1429 v1430
  let c0_i32_942 : BitVec 32 := 0#32
  let v1428 : BitVec 1 := Scalar.cmpi .ne v1427 c0_i32_942
  let v1432 : BitVec 1 := Scalar.andi v1431 v1428
  let v1433 : BitVec 32 := Scalar.addi v1427 v1426
  let v1434 : BitVec 32 := Scalar.select v1432 v1433 v1427
  let c4_i32_958 : BitVec 32 := 4#32
  let v1448 : BitVec 32 := Scalar.muli v1434 c4_i32_958
  let v1449 : BitVec 32 := Scalar.addi v1447 v1448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_945 : BitVec 32 := 2#32
  let v1435 : BitVec 32 := Scalar.addi v8 c2_i32_945
  let c4_i32_946 : BitVec 32 := 4#32
  let c0_i32_947 : BitVec 32 := 0#32
  let v1436 : BitVec 1 := Scalar.cmpi .eq c4_i32_946 c0_i32_947
  let c1_i32_948 : BitVec 32 := 1#32
  let v1437 : BitVec 32 := Scalar.select v1436 c1_i32_948 c4_i32_946
  let v1438 : BitVec 32 := Scalar.remsi v1435 v1437
  let c0_i32_950 : BitVec 32 := 0#32
  let v1440 : BitVec 1 := Scalar.cmpi .slt v1438 c0_i32_950
  let c0_i32_951 : BitVec 32 := 0#32
  let v1441 : BitVec 1 := Scalar.cmpi .slt v1437 c0_i32_951
  let v1442 : BitVec 1 := Scalar.xori v1440 v1441
  let c0_i32_949 : BitVec 32 := 0#32
  let v1439 : BitVec 1 := Scalar.cmpi .ne v1438 c0_i32_949
  let v1443 : BitVec 1 := Scalar.andi v1442 v1439
  let v1444 : BitVec 32 := Scalar.addi v1438 v1437
  let v1445 : BitVec 32 := Scalar.select v1443 v1444 v1438
  let c1_i32_959 : BitVec 32 := 1#32
  let v1450 : BitVec 32 := Scalar.muli v1445 c1_i32_959
  let v1451 : BitVec 32 := Scalar.addi v1449 v1450
  v1451.toNat
def k0_dev34 (d0 : Dev nD) : Nat :=
  let c0_i32_990 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_964 : BitVec 32 := 0#32
  let v1460 : BitVec 32 := Scalar.addi v2 c0_i32_964
  let c2_i32_965 : BitVec 32 := 2#32
  let c0_i32_966 : BitVec 32 := 0#32
  let v1461 : BitVec 1 := Scalar.cmpi .eq c2_i32_965 c0_i32_966
  let c1_i32_967 : BitVec 32 := 1#32
  let v1462 : BitVec 32 := Scalar.select v1461 c1_i32_967 c2_i32_965
  let v1463 : BitVec 32 := Scalar.remsi v1460 v1462
  let c0_i32_969 : BitVec 32 := 0#32
  let v1465 : BitVec 1 := Scalar.cmpi .slt v1463 c0_i32_969
  let c0_i32_970 : BitVec 32 := 0#32
  let v1466 : BitVec 1 := Scalar.cmpi .slt v1462 c0_i32_970
  let v1467 : BitVec 1 := Scalar.xori v1465 v1466
  let c0_i32_968 : BitVec 32 := 0#32
  let v1464 : BitVec 1 := Scalar.cmpi .ne v1463 c0_i32_968
  let v1468 : BitVec 1 := Scalar.andi v1467 v1464
  let v1469 : BitVec 32 := Scalar.addi v1463 v1462
  let v1470 : BitVec 32 := Scalar.select v1468 v1469 v1463
  let c16_i32_989 : BitVec 32 := 16#32
  let v1493 : BitVec 32 := Scalar.muli v1470 c16_i32_989
  let v1494 : BitVec 32 := Scalar.addi c0_i32_990 v1493
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_971 : BitVec 32 := 0#32
  let v1471 : BitVec 32 := Scalar.addi v5 c0_i32_971
  let c4_i32_972 : BitVec 32 := 4#32
  let c0_i32_973 : BitVec 32 := 0#32
  let v1472 : BitVec 1 := Scalar.cmpi .eq c4_i32_972 c0_i32_973
  let c1_i32_974 : BitVec 32 := 1#32
  let v1473 : BitVec 32 := Scalar.select v1472 c1_i32_974 c4_i32_972
  let v1474 : BitVec 32 := Scalar.remsi v1471 v1473
  let c0_i32_976 : BitVec 32 := 0#32
  let v1476 : BitVec 1 := Scalar.cmpi .slt v1474 c0_i32_976
  let c0_i32_977 : BitVec 32 := 0#32
  let v1477 : BitVec 1 := Scalar.cmpi .slt v1473 c0_i32_977
  let v1478 : BitVec 1 := Scalar.xori v1476 v1477
  let c0_i32_975 : BitVec 32 := 0#32
  let v1475 : BitVec 1 := Scalar.cmpi .ne v1474 c0_i32_975
  let v1479 : BitVec 1 := Scalar.andi v1478 v1475
  let v1480 : BitVec 32 := Scalar.addi v1474 v1473
  let v1481 : BitVec 32 := Scalar.select v1479 v1480 v1474
  let c4_i32_991 : BitVec 32 := 4#32
  let v1495 : BitVec 32 := Scalar.muli v1481 c4_i32_991
  let v1496 : BitVec 32 := Scalar.addi v1494 v1495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_978 : BitVec 32 := 3#32
  let v1482 : BitVec 32 := Scalar.addi v8 c3_i32_978
  let c4_i32_979 : BitVec 32 := 4#32
  let c0_i32_980 : BitVec 32 := 0#32
  let v1483 : BitVec 1 := Scalar.cmpi .eq c4_i32_979 c0_i32_980
  let c1_i32_981 : BitVec 32 := 1#32
  let v1484 : BitVec 32 := Scalar.select v1483 c1_i32_981 c4_i32_979
  let v1485 : BitVec 32 := Scalar.remsi v1482 v1484
  let c0_i32_983 : BitVec 32 := 0#32
  let v1487 : BitVec 1 := Scalar.cmpi .slt v1485 c0_i32_983
  let c0_i32_984 : BitVec 32 := 0#32
  let v1488 : BitVec 1 := Scalar.cmpi .slt v1484 c0_i32_984
  let v1489 : BitVec 1 := Scalar.xori v1487 v1488
  let c0_i32_982 : BitVec 32 := 0#32
  let v1486 : BitVec 1 := Scalar.cmpi .ne v1485 c0_i32_982
  let v1490 : BitVec 1 := Scalar.andi v1489 v1486
  let v1491 : BitVec 32 := Scalar.addi v1485 v1484
  let v1492 : BitVec 32 := Scalar.select v1490 v1491 v1485
  let c1_i32_992 : BitVec 32 := 1#32
  let v1497 : BitVec 32 := Scalar.muli v1492 c1_i32_992
  let v1498 : BitVec 32 := Scalar.addi v1496 v1497
  v1498.toNat
def k0_dev35 (d0 : Dev nD) : Nat :=
  let c0_i32_1023 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_997 : BitVec 32 := 0#32
  let v1507 : BitVec 32 := Scalar.addi v2 c0_i32_997
  let c2_i32_998 : BitVec 32 := 2#32
  let c0_i32_999 : BitVec 32 := 0#32
  let v1508 : BitVec 1 := Scalar.cmpi .eq c2_i32_998 c0_i32_999
  let c1_i32_1000 : BitVec 32 := 1#32
  let v1509 : BitVec 32 := Scalar.select v1508 c1_i32_1000 c2_i32_998
  let v1510 : BitVec 32 := Scalar.remsi v1507 v1509
  let c0_i32_1002 : BitVec 32 := 0#32
  let v1512 : BitVec 1 := Scalar.cmpi .slt v1510 c0_i32_1002
  let c0_i32_1003 : BitVec 32 := 0#32
  let v1513 : BitVec 1 := Scalar.cmpi .slt v1509 c0_i32_1003
  let v1514 : BitVec 1 := Scalar.xori v1512 v1513
  let c0_i32_1001 : BitVec 32 := 0#32
  let v1511 : BitVec 1 := Scalar.cmpi .ne v1510 c0_i32_1001
  let v1515 : BitVec 1 := Scalar.andi v1514 v1511
  let v1516 : BitVec 32 := Scalar.addi v1510 v1509
  let v1517 : BitVec 32 := Scalar.select v1515 v1516 v1510
  let c16_i32_1022 : BitVec 32 := 16#32
  let v1540 : BitVec 32 := Scalar.muli v1517 c16_i32_1022
  let v1541 : BitVec 32 := Scalar.addi c0_i32_1023 v1540
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1004 : BitVec 32 := 1#32
  let v1518 : BitVec 32 := Scalar.addi v5 c1_i32_1004
  let c4_i32_1005 : BitVec 32 := 4#32
  let c0_i32_1006 : BitVec 32 := 0#32
  let v1519 : BitVec 1 := Scalar.cmpi .eq c4_i32_1005 c0_i32_1006
  let c1_i32_1007 : BitVec 32 := 1#32
  let v1520 : BitVec 32 := Scalar.select v1519 c1_i32_1007 c4_i32_1005
  let v1521 : BitVec 32 := Scalar.remsi v1518 v1520
  let c0_i32_1009 : BitVec 32 := 0#32
  let v1523 : BitVec 1 := Scalar.cmpi .slt v1521 c0_i32_1009
  let c0_i32_1010 : BitVec 32 := 0#32
  let v1524 : BitVec 1 := Scalar.cmpi .slt v1520 c0_i32_1010
  let v1525 : BitVec 1 := Scalar.xori v1523 v1524
  let c0_i32_1008 : BitVec 32 := 0#32
  let v1522 : BitVec 1 := Scalar.cmpi .ne v1521 c0_i32_1008
  let v1526 : BitVec 1 := Scalar.andi v1525 v1522
  let v1527 : BitVec 32 := Scalar.addi v1521 v1520
  let v1528 : BitVec 32 := Scalar.select v1526 v1527 v1521
  let c4_i32_1024 : BitVec 32 := 4#32
  let v1542 : BitVec 32 := Scalar.muli v1528 c4_i32_1024
  let v1543 : BitVec 32 := Scalar.addi v1541 v1542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1011 : BitVec 32 := 0#32
  let v1529 : BitVec 32 := Scalar.addi v8 c0_i32_1011
  let c4_i32_1012 : BitVec 32 := 4#32
  let c0_i32_1013 : BitVec 32 := 0#32
  let v1530 : BitVec 1 := Scalar.cmpi .eq c4_i32_1012 c0_i32_1013
  let c1_i32_1014 : BitVec 32 := 1#32
  let v1531 : BitVec 32 := Scalar.select v1530 c1_i32_1014 c4_i32_1012
  let v1532 : BitVec 32 := Scalar.remsi v1529 v1531
  let c0_i32_1016 : BitVec 32 := 0#32
  let v1534 : BitVec 1 := Scalar.cmpi .slt v1532 c0_i32_1016
  let c0_i32_1017 : BitVec 32 := 0#32
  let v1535 : BitVec 1 := Scalar.cmpi .slt v1531 c0_i32_1017
  let v1536 : BitVec 1 := Scalar.xori v1534 v1535
  let c0_i32_1015 : BitVec 32 := 0#32
  let v1533 : BitVec 1 := Scalar.cmpi .ne v1532 c0_i32_1015
  let v1537 : BitVec 1 := Scalar.andi v1536 v1533
  let v1538 : BitVec 32 := Scalar.addi v1532 v1531
  let v1539 : BitVec 32 := Scalar.select v1537 v1538 v1532
  let c1_i32_1025 : BitVec 32 := 1#32
  let v1544 : BitVec 32 := Scalar.muli v1539 c1_i32_1025
  let v1545 : BitVec 32 := Scalar.addi v1543 v1544
  v1545.toNat
def k0_dev36 (d0 : Dev nD) : Nat :=
  let c0_i32_1055 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1030 : BitVec 32 := 0#32
  let v1554 : BitVec 32 := Scalar.addi v2 c0_i32_1030
  let c2_i32_1031 : BitVec 32 := 2#32
  let c0_i32_1032 : BitVec 32 := 0#32
  let v1555 : BitVec 1 := Scalar.cmpi .eq c2_i32_1031 c0_i32_1032
  let c1_i32_1033 : BitVec 32 := 1#32
  let v1556 : BitVec 32 := Scalar.select v1555 c1_i32_1033 c2_i32_1031
  let v1557 : BitVec 32 := Scalar.remsi v1554 v1556
  let c0_i32_1035 : BitVec 32 := 0#32
  let v1559 : BitVec 1 := Scalar.cmpi .slt v1557 c0_i32_1035
  let c0_i32_1036 : BitVec 32 := 0#32
  let v1560 : BitVec 1 := Scalar.cmpi .slt v1556 c0_i32_1036
  let v1561 : BitVec 1 := Scalar.xori v1559 v1560
  let c0_i32_1034 : BitVec 32 := 0#32
  let v1558 : BitVec 1 := Scalar.cmpi .ne v1557 c0_i32_1034
  let v1562 : BitVec 1 := Scalar.andi v1561 v1558
  let v1563 : BitVec 32 := Scalar.addi v1557 v1556
  let v1564 : BitVec 32 := Scalar.select v1562 v1563 v1557
  let c16_i32_1054 : BitVec 32 := 16#32
  let v1587 : BitVec 32 := Scalar.muli v1564 c16_i32_1054
  let v1588 : BitVec 32 := Scalar.addi c0_i32_1055 v1587
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1037 : BitVec 32 := 1#32
  let v1565 : BitVec 32 := Scalar.addi v5 c1_i32_1037
  let c4_i32_1038 : BitVec 32 := 4#32
  let c0_i32_1039 : BitVec 32 := 0#32
  let v1566 : BitVec 1 := Scalar.cmpi .eq c4_i32_1038 c0_i32_1039
  let c1_i32_1040 : BitVec 32 := 1#32
  let v1567 : BitVec 32 := Scalar.select v1566 c1_i32_1040 c4_i32_1038
  let v1568 : BitVec 32 := Scalar.remsi v1565 v1567
  let c0_i32_1042 : BitVec 32 := 0#32
  let v1570 : BitVec 1 := Scalar.cmpi .slt v1568 c0_i32_1042
  let c0_i32_1043 : BitVec 32 := 0#32
  let v1571 : BitVec 1 := Scalar.cmpi .slt v1567 c0_i32_1043
  let v1572 : BitVec 1 := Scalar.xori v1570 v1571
  let c0_i32_1041 : BitVec 32 := 0#32
  let v1569 : BitVec 1 := Scalar.cmpi .ne v1568 c0_i32_1041
  let v1573 : BitVec 1 := Scalar.andi v1572 v1569
  let v1574 : BitVec 32 := Scalar.addi v1568 v1567
  let v1575 : BitVec 32 := Scalar.select v1573 v1574 v1568
  let c4_i32_1056 : BitVec 32 := 4#32
  let v1589 : BitVec 32 := Scalar.muli v1575 c4_i32_1056
  let v1590 : BitVec 32 := Scalar.addi v1588 v1589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1044 : BitVec 32 := 1#32
  let v1576 : BitVec 32 := Scalar.addi v8 c1_i32_1044
  let c4_i32_1045 : BitVec 32 := 4#32
  let c0_i32_1046 : BitVec 32 := 0#32
  let v1577 : BitVec 1 := Scalar.cmpi .eq c4_i32_1045 c0_i32_1046
  let c1_i32_1047 : BitVec 32 := 1#32
  let v1578 : BitVec 32 := Scalar.select v1577 c1_i32_1047 c4_i32_1045
  let v1579 : BitVec 32 := Scalar.remsi v1576 v1578
  let c0_i32_1049 : BitVec 32 := 0#32
  let v1581 : BitVec 1 := Scalar.cmpi .slt v1579 c0_i32_1049
  let c0_i32_1050 : BitVec 32 := 0#32
  let v1582 : BitVec 1 := Scalar.cmpi .slt v1578 c0_i32_1050
  let v1583 : BitVec 1 := Scalar.xori v1581 v1582
  let c0_i32_1048 : BitVec 32 := 0#32
  let v1580 : BitVec 1 := Scalar.cmpi .ne v1579 c0_i32_1048
  let v1584 : BitVec 1 := Scalar.andi v1583 v1580
  let v1585 : BitVec 32 := Scalar.addi v1579 v1578
  let v1586 : BitVec 32 := Scalar.select v1584 v1585 v1579
  let c1_i32_1057 : BitVec 32 := 1#32
  let v1591 : BitVec 32 := Scalar.muli v1586 c1_i32_1057
  let v1592 : BitVec 32 := Scalar.addi v1590 v1591
  v1592.toNat
def k0_dev37 (d0 : Dev nD) : Nat :=
  let c0_i32_1087 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1062 : BitVec 32 := 0#32
  let v1601 : BitVec 32 := Scalar.addi v2 c0_i32_1062
  let c2_i32_1063 : BitVec 32 := 2#32
  let c0_i32_1064 : BitVec 32 := 0#32
  let v1602 : BitVec 1 := Scalar.cmpi .eq c2_i32_1063 c0_i32_1064
  let c1_i32_1065 : BitVec 32 := 1#32
  let v1603 : BitVec 32 := Scalar.select v1602 c1_i32_1065 c2_i32_1063
  let v1604 : BitVec 32 := Scalar.remsi v1601 v1603
  let c0_i32_1067 : BitVec 32 := 0#32
  let v1606 : BitVec 1 := Scalar.cmpi .slt v1604 c0_i32_1067
  let c0_i32_1068 : BitVec 32 := 0#32
  let v1607 : BitVec 1 := Scalar.cmpi .slt v1603 c0_i32_1068
  let v1608 : BitVec 1 := Scalar.xori v1606 v1607
  let c0_i32_1066 : BitVec 32 := 0#32
  let v1605 : BitVec 1 := Scalar.cmpi .ne v1604 c0_i32_1066
  let v1609 : BitVec 1 := Scalar.andi v1608 v1605
  let v1610 : BitVec 32 := Scalar.addi v1604 v1603
  let v1611 : BitVec 32 := Scalar.select v1609 v1610 v1604
  let c16_i32_1086 : BitVec 32 := 16#32
  let v1634 : BitVec 32 := Scalar.muli v1611 c16_i32_1086
  let v1635 : BitVec 32 := Scalar.addi c0_i32_1087 v1634
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1069 : BitVec 32 := 1#32
  let v1612 : BitVec 32 := Scalar.addi v5 c1_i32_1069
  let c4_i32_1070 : BitVec 32 := 4#32
  let c0_i32_1071 : BitVec 32 := 0#32
  let v1613 : BitVec 1 := Scalar.cmpi .eq c4_i32_1070 c0_i32_1071
  let c1_i32_1072 : BitVec 32 := 1#32
  let v1614 : BitVec 32 := Scalar.select v1613 c1_i32_1072 c4_i32_1070
  let v1615 : BitVec 32 := Scalar.remsi v1612 v1614
  let c0_i32_1074 : BitVec 32 := 0#32
  let v1617 : BitVec 1 := Scalar.cmpi .slt v1615 c0_i32_1074
  let c0_i32_1075 : BitVec 32 := 0#32
  let v1618 : BitVec 1 := Scalar.cmpi .slt v1614 c0_i32_1075
  let v1619 : BitVec 1 := Scalar.xori v1617 v1618
  let c0_i32_1073 : BitVec 32 := 0#32
  let v1616 : BitVec 1 := Scalar.cmpi .ne v1615 c0_i32_1073
  let v1620 : BitVec 1 := Scalar.andi v1619 v1616
  let v1621 : BitVec 32 := Scalar.addi v1615 v1614
  let v1622 : BitVec 32 := Scalar.select v1620 v1621 v1615
  let c4_i32_1088 : BitVec 32 := 4#32
  let v1636 : BitVec 32 := Scalar.muli v1622 c4_i32_1088
  let v1637 : BitVec 32 := Scalar.addi v1635 v1636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1076 : BitVec 32 := 2#32
  let v1623 : BitVec 32 := Scalar.addi v8 c2_i32_1076
  let c4_i32_1077 : BitVec 32 := 4#32
  let c0_i32_1078 : BitVec 32 := 0#32
  let v1624 : BitVec 1 := Scalar.cmpi .eq c4_i32_1077 c0_i32_1078
  let c1_i32_1079 : BitVec 32 := 1#32
  let v1625 : BitVec 32 := Scalar.select v1624 c1_i32_1079 c4_i32_1077
  let v1626 : BitVec 32 := Scalar.remsi v1623 v1625
  let c0_i32_1081 : BitVec 32 := 0#32
  let v1628 : BitVec 1 := Scalar.cmpi .slt v1626 c0_i32_1081
  let c0_i32_1082 : BitVec 32 := 0#32
  let v1629 : BitVec 1 := Scalar.cmpi .slt v1625 c0_i32_1082
  let v1630 : BitVec 1 := Scalar.xori v1628 v1629
  let c0_i32_1080 : BitVec 32 := 0#32
  let v1627 : BitVec 1 := Scalar.cmpi .ne v1626 c0_i32_1080
  let v1631 : BitVec 1 := Scalar.andi v1630 v1627
  let v1632 : BitVec 32 := Scalar.addi v1626 v1625
  let v1633 : BitVec 32 := Scalar.select v1631 v1632 v1626
  let c1_i32_1089 : BitVec 32 := 1#32
  let v1638 : BitVec 32 := Scalar.muli v1633 c1_i32_1089
  let v1639 : BitVec 32 := Scalar.addi v1637 v1638
  v1639.toNat
def k0_dev38 (d0 : Dev nD) : Nat :=
  let c0_i32_1119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1094 : BitVec 32 := 0#32
  let v1648 : BitVec 32 := Scalar.addi v2 c0_i32_1094
  let c2_i32_1095 : BitVec 32 := 2#32
  let c0_i32_1096 : BitVec 32 := 0#32
  let v1649 : BitVec 1 := Scalar.cmpi .eq c2_i32_1095 c0_i32_1096
  let c1_i32_1097 : BitVec 32 := 1#32
  let v1650 : BitVec 32 := Scalar.select v1649 c1_i32_1097 c2_i32_1095
  let v1651 : BitVec 32 := Scalar.remsi v1648 v1650
  let c0_i32_1099 : BitVec 32 := 0#32
  let v1653 : BitVec 1 := Scalar.cmpi .slt v1651 c0_i32_1099
  let c0_i32_1100 : BitVec 32 := 0#32
  let v1654 : BitVec 1 := Scalar.cmpi .slt v1650 c0_i32_1100
  let v1655 : BitVec 1 := Scalar.xori v1653 v1654
  let c0_i32_1098 : BitVec 32 := 0#32
  let v1652 : BitVec 1 := Scalar.cmpi .ne v1651 c0_i32_1098
  let v1656 : BitVec 1 := Scalar.andi v1655 v1652
  let v1657 : BitVec 32 := Scalar.addi v1651 v1650
  let v1658 : BitVec 32 := Scalar.select v1656 v1657 v1651
  let c16_i32_1118 : BitVec 32 := 16#32
  let v1681 : BitVec 32 := Scalar.muli v1658 c16_i32_1118
  let v1682 : BitVec 32 := Scalar.addi c0_i32_1119 v1681
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1101 : BitVec 32 := 1#32
  let v1659 : BitVec 32 := Scalar.addi v5 c1_i32_1101
  let c4_i32_1102 : BitVec 32 := 4#32
  let c0_i32_1103 : BitVec 32 := 0#32
  let v1660 : BitVec 1 := Scalar.cmpi .eq c4_i32_1102 c0_i32_1103
  let c1_i32_1104 : BitVec 32 := 1#32
  let v1661 : BitVec 32 := Scalar.select v1660 c1_i32_1104 c4_i32_1102
  let v1662 : BitVec 32 := Scalar.remsi v1659 v1661
  let c0_i32_1106 : BitVec 32 := 0#32
  let v1664 : BitVec 1 := Scalar.cmpi .slt v1662 c0_i32_1106
  let c0_i32_1107 : BitVec 32 := 0#32
  let v1665 : BitVec 1 := Scalar.cmpi .slt v1661 c0_i32_1107
  let v1666 : BitVec 1 := Scalar.xori v1664 v1665
  let c0_i32_1105 : BitVec 32 := 0#32
  let v1663 : BitVec 1 := Scalar.cmpi .ne v1662 c0_i32_1105
  let v1667 : BitVec 1 := Scalar.andi v1666 v1663
  let v1668 : BitVec 32 := Scalar.addi v1662 v1661
  let v1669 : BitVec 32 := Scalar.select v1667 v1668 v1662
  let c4_i32_1120 : BitVec 32 := 4#32
  let v1683 : BitVec 32 := Scalar.muli v1669 c4_i32_1120
  let v1684 : BitVec 32 := Scalar.addi v1682 v1683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1108 : BitVec 32 := 3#32
  let v1670 : BitVec 32 := Scalar.addi v8 c3_i32_1108
  let c4_i32_1109 : BitVec 32 := 4#32
  let c0_i32_1110 : BitVec 32 := 0#32
  let v1671 : BitVec 1 := Scalar.cmpi .eq c4_i32_1109 c0_i32_1110
  let c1_i32_1111 : BitVec 32 := 1#32
  let v1672 : BitVec 32 := Scalar.select v1671 c1_i32_1111 c4_i32_1109
  let v1673 : BitVec 32 := Scalar.remsi v1670 v1672
  let c0_i32_1113 : BitVec 32 := 0#32
  let v1675 : BitVec 1 := Scalar.cmpi .slt v1673 c0_i32_1113
  let c0_i32_1114 : BitVec 32 := 0#32
  let v1676 : BitVec 1 := Scalar.cmpi .slt v1672 c0_i32_1114
  let v1677 : BitVec 1 := Scalar.xori v1675 v1676
  let c0_i32_1112 : BitVec 32 := 0#32
  let v1674 : BitVec 1 := Scalar.cmpi .ne v1673 c0_i32_1112
  let v1678 : BitVec 1 := Scalar.andi v1677 v1674
  let v1679 : BitVec 32 := Scalar.addi v1673 v1672
  let v1680 : BitVec 32 := Scalar.select v1678 v1679 v1673
  let c1_i32_1121 : BitVec 32 := 1#32
  let v1685 : BitVec 32 := Scalar.muli v1680 c1_i32_1121
  let v1686 : BitVec 32 := Scalar.addi v1684 v1685
  v1686.toNat
def k0_dev39 (d0 : Dev nD) : Nat :=
  let c0_i32_1151 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1126 : BitVec 32 := 0#32
  let v1695 : BitVec 32 := Scalar.addi v2 c0_i32_1126
  let c2_i32_1127 : BitVec 32 := 2#32
  let c0_i32_1128 : BitVec 32 := 0#32
  let v1696 : BitVec 1 := Scalar.cmpi .eq c2_i32_1127 c0_i32_1128
  let c1_i32_1129 : BitVec 32 := 1#32
  let v1697 : BitVec 32 := Scalar.select v1696 c1_i32_1129 c2_i32_1127
  let v1698 : BitVec 32 := Scalar.remsi v1695 v1697
  let c0_i32_1131 : BitVec 32 := 0#32
  let v1700 : BitVec 1 := Scalar.cmpi .slt v1698 c0_i32_1131
  let c0_i32_1132 : BitVec 32 := 0#32
  let v1701 : BitVec 1 := Scalar.cmpi .slt v1697 c0_i32_1132
  let v1702 : BitVec 1 := Scalar.xori v1700 v1701
  let c0_i32_1130 : BitVec 32 := 0#32
  let v1699 : BitVec 1 := Scalar.cmpi .ne v1698 c0_i32_1130
  let v1703 : BitVec 1 := Scalar.andi v1702 v1699
  let v1704 : BitVec 32 := Scalar.addi v1698 v1697
  let v1705 : BitVec 32 := Scalar.select v1703 v1704 v1698
  let c16_i32_1150 : BitVec 32 := 16#32
  let v1728 : BitVec 32 := Scalar.muli v1705 c16_i32_1150
  let v1729 : BitVec 32 := Scalar.addi c0_i32_1151 v1728
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1133 : BitVec 32 := 2#32
  let v1706 : BitVec 32 := Scalar.addi v5 c2_i32_1133
  let c4_i32_1134 : BitVec 32 := 4#32
  let c0_i32_1135 : BitVec 32 := 0#32
  let v1707 : BitVec 1 := Scalar.cmpi .eq c4_i32_1134 c0_i32_1135
  let c1_i32_1136 : BitVec 32 := 1#32
  let v1708 : BitVec 32 := Scalar.select v1707 c1_i32_1136 c4_i32_1134
  let v1709 : BitVec 32 := Scalar.remsi v1706 v1708
  let c0_i32_1138 : BitVec 32 := 0#32
  let v1711 : BitVec 1 := Scalar.cmpi .slt v1709 c0_i32_1138
  let c0_i32_1139 : BitVec 32 := 0#32
  let v1712 : BitVec 1 := Scalar.cmpi .slt v1708 c0_i32_1139
  let v1713 : BitVec 1 := Scalar.xori v1711 v1712
  let c0_i32_1137 : BitVec 32 := 0#32
  let v1710 : BitVec 1 := Scalar.cmpi .ne v1709 c0_i32_1137
  let v1714 : BitVec 1 := Scalar.andi v1713 v1710
  let v1715 : BitVec 32 := Scalar.addi v1709 v1708
  let v1716 : BitVec 32 := Scalar.select v1714 v1715 v1709
  let c4_i32_1152 : BitVec 32 := 4#32
  let v1730 : BitVec 32 := Scalar.muli v1716 c4_i32_1152
  let v1731 : BitVec 32 := Scalar.addi v1729 v1730
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1140 : BitVec 32 := 0#32
  let v1717 : BitVec 32 := Scalar.addi v8 c0_i32_1140
  let c4_i32_1141 : BitVec 32 := 4#32
  let c0_i32_1142 : BitVec 32 := 0#32
  let v1718 : BitVec 1 := Scalar.cmpi .eq c4_i32_1141 c0_i32_1142
  let c1_i32_1143 : BitVec 32 := 1#32
  let v1719 : BitVec 32 := Scalar.select v1718 c1_i32_1143 c4_i32_1141
  let v1720 : BitVec 32 := Scalar.remsi v1717 v1719
  let c0_i32_1145 : BitVec 32 := 0#32
  let v1722 : BitVec 1 := Scalar.cmpi .slt v1720 c0_i32_1145
  let c0_i32_1146 : BitVec 32 := 0#32
  let v1723 : BitVec 1 := Scalar.cmpi .slt v1719 c0_i32_1146
  let v1724 : BitVec 1 := Scalar.xori v1722 v1723
  let c0_i32_1144 : BitVec 32 := 0#32
  let v1721 : BitVec 1 := Scalar.cmpi .ne v1720 c0_i32_1144
  let v1725 : BitVec 1 := Scalar.andi v1724 v1721
  let v1726 : BitVec 32 := Scalar.addi v1720 v1719
  let v1727 : BitVec 32 := Scalar.select v1725 v1726 v1720
  let c1_i32_1153 : BitVec 32 := 1#32
  let v1732 : BitVec 32 := Scalar.muli v1727 c1_i32_1153
  let v1733 : BitVec 32 := Scalar.addi v1731 v1732
  v1733.toNat
def k0_dev40 (d0 : Dev nD) : Nat :=
  let c0_i32_1183 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1158 : BitVec 32 := 0#32
  let v1742 : BitVec 32 := Scalar.addi v2 c0_i32_1158
  let c2_i32_1159 : BitVec 32 := 2#32
  let c0_i32_1160 : BitVec 32 := 0#32
  let v1743 : BitVec 1 := Scalar.cmpi .eq c2_i32_1159 c0_i32_1160
  let c1_i32_1161 : BitVec 32 := 1#32
  let v1744 : BitVec 32 := Scalar.select v1743 c1_i32_1161 c2_i32_1159
  let v1745 : BitVec 32 := Scalar.remsi v1742 v1744
  let c0_i32_1163 : BitVec 32 := 0#32
  let v1747 : BitVec 1 := Scalar.cmpi .slt v1745 c0_i32_1163
  let c0_i32_1164 : BitVec 32 := 0#32
  let v1748 : BitVec 1 := Scalar.cmpi .slt v1744 c0_i32_1164
  let v1749 : BitVec 1 := Scalar.xori v1747 v1748
  let c0_i32_1162 : BitVec 32 := 0#32
  let v1746 : BitVec 1 := Scalar.cmpi .ne v1745 c0_i32_1162
  let v1750 : BitVec 1 := Scalar.andi v1749 v1746
  let v1751 : BitVec 32 := Scalar.addi v1745 v1744
  let v1752 : BitVec 32 := Scalar.select v1750 v1751 v1745
  let c16_i32_1182 : BitVec 32 := 16#32
  let v1775 : BitVec 32 := Scalar.muli v1752 c16_i32_1182
  let v1776 : BitVec 32 := Scalar.addi c0_i32_1183 v1775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1165 : BitVec 32 := 2#32
  let v1753 : BitVec 32 := Scalar.addi v5 c2_i32_1165
  let c4_i32_1166 : BitVec 32 := 4#32
  let c0_i32_1167 : BitVec 32 := 0#32
  let v1754 : BitVec 1 := Scalar.cmpi .eq c4_i32_1166 c0_i32_1167
  let c1_i32_1168 : BitVec 32 := 1#32
  let v1755 : BitVec 32 := Scalar.select v1754 c1_i32_1168 c4_i32_1166
  let v1756 : BitVec 32 := Scalar.remsi v1753 v1755
  let c0_i32_1170 : BitVec 32 := 0#32
  let v1758 : BitVec 1 := Scalar.cmpi .slt v1756 c0_i32_1170
  let c0_i32_1171 : BitVec 32 := 0#32
  let v1759 : BitVec 1 := Scalar.cmpi .slt v1755 c0_i32_1171
  let v1760 : BitVec 1 := Scalar.xori v1758 v1759
  let c0_i32_1169 : BitVec 32 := 0#32
  let v1757 : BitVec 1 := Scalar.cmpi .ne v1756 c0_i32_1169
  let v1761 : BitVec 1 := Scalar.andi v1760 v1757
  let v1762 : BitVec 32 := Scalar.addi v1756 v1755
  let v1763 : BitVec 32 := Scalar.select v1761 v1762 v1756
  let c4_i32_1184 : BitVec 32 := 4#32
  let v1777 : BitVec 32 := Scalar.muli v1763 c4_i32_1184
  let v1778 : BitVec 32 := Scalar.addi v1776 v1777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1172 : BitVec 32 := 1#32
  let v1764 : BitVec 32 := Scalar.addi v8 c1_i32_1172
  let c4_i32_1173 : BitVec 32 := 4#32
  let c0_i32_1174 : BitVec 32 := 0#32
  let v1765 : BitVec 1 := Scalar.cmpi .eq c4_i32_1173 c0_i32_1174
  let c1_i32_1175 : BitVec 32 := 1#32
  let v1766 : BitVec 32 := Scalar.select v1765 c1_i32_1175 c4_i32_1173
  let v1767 : BitVec 32 := Scalar.remsi v1764 v1766
  let c0_i32_1177 : BitVec 32 := 0#32
  let v1769 : BitVec 1 := Scalar.cmpi .slt v1767 c0_i32_1177
  let c0_i32_1178 : BitVec 32 := 0#32
  let v1770 : BitVec 1 := Scalar.cmpi .slt v1766 c0_i32_1178
  let v1771 : BitVec 1 := Scalar.xori v1769 v1770
  let c0_i32_1176 : BitVec 32 := 0#32
  let v1768 : BitVec 1 := Scalar.cmpi .ne v1767 c0_i32_1176
  let v1772 : BitVec 1 := Scalar.andi v1771 v1768
  let v1773 : BitVec 32 := Scalar.addi v1767 v1766
  let v1774 : BitVec 32 := Scalar.select v1772 v1773 v1767
  let c1_i32_1185 : BitVec 32 := 1#32
  let v1779 : BitVec 32 := Scalar.muli v1774 c1_i32_1185
  let v1780 : BitVec 32 := Scalar.addi v1778 v1779
  v1780.toNat
def k0_dev41 (d0 : Dev nD) : Nat :=
  let c0_i32_1215 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1190 : BitVec 32 := 0#32
  let v1789 : BitVec 32 := Scalar.addi v2 c0_i32_1190
  let c2_i32_1191 : BitVec 32 := 2#32
  let c0_i32_1192 : BitVec 32 := 0#32
  let v1790 : BitVec 1 := Scalar.cmpi .eq c2_i32_1191 c0_i32_1192
  let c1_i32_1193 : BitVec 32 := 1#32
  let v1791 : BitVec 32 := Scalar.select v1790 c1_i32_1193 c2_i32_1191
  let v1792 : BitVec 32 := Scalar.remsi v1789 v1791
  let c0_i32_1195 : BitVec 32 := 0#32
  let v1794 : BitVec 1 := Scalar.cmpi .slt v1792 c0_i32_1195
  let c0_i32_1196 : BitVec 32 := 0#32
  let v1795 : BitVec 1 := Scalar.cmpi .slt v1791 c0_i32_1196
  let v1796 : BitVec 1 := Scalar.xori v1794 v1795
  let c0_i32_1194 : BitVec 32 := 0#32
  let v1793 : BitVec 1 := Scalar.cmpi .ne v1792 c0_i32_1194
  let v1797 : BitVec 1 := Scalar.andi v1796 v1793
  let v1798 : BitVec 32 := Scalar.addi v1792 v1791
  let v1799 : BitVec 32 := Scalar.select v1797 v1798 v1792
  let c16_i32_1214 : BitVec 32 := 16#32
  let v1822 : BitVec 32 := Scalar.muli v1799 c16_i32_1214
  let v1823 : BitVec 32 := Scalar.addi c0_i32_1215 v1822
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1197 : BitVec 32 := 2#32
  let v1800 : BitVec 32 := Scalar.addi v5 c2_i32_1197
  let c4_i32_1198 : BitVec 32 := 4#32
  let c0_i32_1199 : BitVec 32 := 0#32
  let v1801 : BitVec 1 := Scalar.cmpi .eq c4_i32_1198 c0_i32_1199
  let c1_i32_1200 : BitVec 32 := 1#32
  let v1802 : BitVec 32 := Scalar.select v1801 c1_i32_1200 c4_i32_1198
  let v1803 : BitVec 32 := Scalar.remsi v1800 v1802
  let c0_i32_1202 : BitVec 32 := 0#32
  let v1805 : BitVec 1 := Scalar.cmpi .slt v1803 c0_i32_1202
  let c0_i32_1203 : BitVec 32 := 0#32
  let v1806 : BitVec 1 := Scalar.cmpi .slt v1802 c0_i32_1203
  let v1807 : BitVec 1 := Scalar.xori v1805 v1806
  let c0_i32_1201 : BitVec 32 := 0#32
  let v1804 : BitVec 1 := Scalar.cmpi .ne v1803 c0_i32_1201
  let v1808 : BitVec 1 := Scalar.andi v1807 v1804
  let v1809 : BitVec 32 := Scalar.addi v1803 v1802
  let v1810 : BitVec 32 := Scalar.select v1808 v1809 v1803
  let c4_i32_1216 : BitVec 32 := 4#32
  let v1824 : BitVec 32 := Scalar.muli v1810 c4_i32_1216
  let v1825 : BitVec 32 := Scalar.addi v1823 v1824
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1204 : BitVec 32 := 2#32
  let v1811 : BitVec 32 := Scalar.addi v8 c2_i32_1204
  let c4_i32_1205 : BitVec 32 := 4#32
  let c0_i32_1206 : BitVec 32 := 0#32
  let v1812 : BitVec 1 := Scalar.cmpi .eq c4_i32_1205 c0_i32_1206
  let c1_i32_1207 : BitVec 32 := 1#32
  let v1813 : BitVec 32 := Scalar.select v1812 c1_i32_1207 c4_i32_1205
  let v1814 : BitVec 32 := Scalar.remsi v1811 v1813
  let c0_i32_1209 : BitVec 32 := 0#32
  let v1816 : BitVec 1 := Scalar.cmpi .slt v1814 c0_i32_1209
  let c0_i32_1210 : BitVec 32 := 0#32
  let v1817 : BitVec 1 := Scalar.cmpi .slt v1813 c0_i32_1210
  let v1818 : BitVec 1 := Scalar.xori v1816 v1817
  let c0_i32_1208 : BitVec 32 := 0#32
  let v1815 : BitVec 1 := Scalar.cmpi .ne v1814 c0_i32_1208
  let v1819 : BitVec 1 := Scalar.andi v1818 v1815
  let v1820 : BitVec 32 := Scalar.addi v1814 v1813
  let v1821 : BitVec 32 := Scalar.select v1819 v1820 v1814
  let c1_i32_1217 : BitVec 32 := 1#32
  let v1826 : BitVec 32 := Scalar.muli v1821 c1_i32_1217
  let v1827 : BitVec 32 := Scalar.addi v1825 v1826
  v1827.toNat
def k0_dev42 (d0 : Dev nD) : Nat :=
  let c0_i32_1247 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1222 : BitVec 32 := 0#32
  let v1836 : BitVec 32 := Scalar.addi v2 c0_i32_1222
  let c2_i32_1223 : BitVec 32 := 2#32
  let c0_i32_1224 : BitVec 32 := 0#32
  let v1837 : BitVec 1 := Scalar.cmpi .eq c2_i32_1223 c0_i32_1224
  let c1_i32_1225 : BitVec 32 := 1#32
  let v1838 : BitVec 32 := Scalar.select v1837 c1_i32_1225 c2_i32_1223
  let v1839 : BitVec 32 := Scalar.remsi v1836 v1838
  let c0_i32_1227 : BitVec 32 := 0#32
  let v1841 : BitVec 1 := Scalar.cmpi .slt v1839 c0_i32_1227
  let c0_i32_1228 : BitVec 32 := 0#32
  let v1842 : BitVec 1 := Scalar.cmpi .slt v1838 c0_i32_1228
  let v1843 : BitVec 1 := Scalar.xori v1841 v1842
  let c0_i32_1226 : BitVec 32 := 0#32
  let v1840 : BitVec 1 := Scalar.cmpi .ne v1839 c0_i32_1226
  let v1844 : BitVec 1 := Scalar.andi v1843 v1840
  let v1845 : BitVec 32 := Scalar.addi v1839 v1838
  let v1846 : BitVec 32 := Scalar.select v1844 v1845 v1839
  let c16_i32_1246 : BitVec 32 := 16#32
  let v1869 : BitVec 32 := Scalar.muli v1846 c16_i32_1246
  let v1870 : BitVec 32 := Scalar.addi c0_i32_1247 v1869
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1229 : BitVec 32 := 2#32
  let v1847 : BitVec 32 := Scalar.addi v5 c2_i32_1229
  let c4_i32_1230 : BitVec 32 := 4#32
  let c0_i32_1231 : BitVec 32 := 0#32
  let v1848 : BitVec 1 := Scalar.cmpi .eq c4_i32_1230 c0_i32_1231
  let c1_i32_1232 : BitVec 32 := 1#32
  let v1849 : BitVec 32 := Scalar.select v1848 c1_i32_1232 c4_i32_1230
  let v1850 : BitVec 32 := Scalar.remsi v1847 v1849
  let c0_i32_1234 : BitVec 32 := 0#32
  let v1852 : BitVec 1 := Scalar.cmpi .slt v1850 c0_i32_1234
  let c0_i32_1235 : BitVec 32 := 0#32
  let v1853 : BitVec 1 := Scalar.cmpi .slt v1849 c0_i32_1235
  let v1854 : BitVec 1 := Scalar.xori v1852 v1853
  let c0_i32_1233 : BitVec 32 := 0#32
  let v1851 : BitVec 1 := Scalar.cmpi .ne v1850 c0_i32_1233
  let v1855 : BitVec 1 := Scalar.andi v1854 v1851
  let v1856 : BitVec 32 := Scalar.addi v1850 v1849
  let v1857 : BitVec 32 := Scalar.select v1855 v1856 v1850
  let c4_i32_1248 : BitVec 32 := 4#32
  let v1871 : BitVec 32 := Scalar.muli v1857 c4_i32_1248
  let v1872 : BitVec 32 := Scalar.addi v1870 v1871
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1236 : BitVec 32 := 3#32
  let v1858 : BitVec 32 := Scalar.addi v8 c3_i32_1236
  let c4_i32_1237 : BitVec 32 := 4#32
  let c0_i32_1238 : BitVec 32 := 0#32
  let v1859 : BitVec 1 := Scalar.cmpi .eq c4_i32_1237 c0_i32_1238
  let c1_i32_1239 : BitVec 32 := 1#32
  let v1860 : BitVec 32 := Scalar.select v1859 c1_i32_1239 c4_i32_1237
  let v1861 : BitVec 32 := Scalar.remsi v1858 v1860
  let c0_i32_1241 : BitVec 32 := 0#32
  let v1863 : BitVec 1 := Scalar.cmpi .slt v1861 c0_i32_1241
  let c0_i32_1242 : BitVec 32 := 0#32
  let v1864 : BitVec 1 := Scalar.cmpi .slt v1860 c0_i32_1242
  let v1865 : BitVec 1 := Scalar.xori v1863 v1864
  let c0_i32_1240 : BitVec 32 := 0#32
  let v1862 : BitVec 1 := Scalar.cmpi .ne v1861 c0_i32_1240
  let v1866 : BitVec 1 := Scalar.andi v1865 v1862
  let v1867 : BitVec 32 := Scalar.addi v1861 v1860
  let v1868 : BitVec 32 := Scalar.select v1866 v1867 v1861
  let c1_i32_1249 : BitVec 32 := 1#32
  let v1873 : BitVec 32 := Scalar.muli v1868 c1_i32_1249
  let v1874 : BitVec 32 := Scalar.addi v1872 v1873
  v1874.toNat
def k0_dev43 (d0 : Dev nD) : Nat :=
  let c0_i32_1279 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1254 : BitVec 32 := 0#32
  let v1883 : BitVec 32 := Scalar.addi v2 c0_i32_1254
  let c2_i32_1255 : BitVec 32 := 2#32
  let c0_i32_1256 : BitVec 32 := 0#32
  let v1884 : BitVec 1 := Scalar.cmpi .eq c2_i32_1255 c0_i32_1256
  let c1_i32_1257 : BitVec 32 := 1#32
  let v1885 : BitVec 32 := Scalar.select v1884 c1_i32_1257 c2_i32_1255
  let v1886 : BitVec 32 := Scalar.remsi v1883 v1885
  let c0_i32_1259 : BitVec 32 := 0#32
  let v1888 : BitVec 1 := Scalar.cmpi .slt v1886 c0_i32_1259
  let c0_i32_1260 : BitVec 32 := 0#32
  let v1889 : BitVec 1 := Scalar.cmpi .slt v1885 c0_i32_1260
  let v1890 : BitVec 1 := Scalar.xori v1888 v1889
  let c0_i32_1258 : BitVec 32 := 0#32
  let v1887 : BitVec 1 := Scalar.cmpi .ne v1886 c0_i32_1258
  let v1891 : BitVec 1 := Scalar.andi v1890 v1887
  let v1892 : BitVec 32 := Scalar.addi v1886 v1885
  let v1893 : BitVec 32 := Scalar.select v1891 v1892 v1886
  let c16_i32_1278 : BitVec 32 := 16#32
  let v1916 : BitVec 32 := Scalar.muli v1893 c16_i32_1278
  let v1917 : BitVec 32 := Scalar.addi c0_i32_1279 v1916
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1261 : BitVec 32 := 3#32
  let v1894 : BitVec 32 := Scalar.addi v5 c3_i32_1261
  let c4_i32_1262 : BitVec 32 := 4#32
  let c0_i32_1263 : BitVec 32 := 0#32
  let v1895 : BitVec 1 := Scalar.cmpi .eq c4_i32_1262 c0_i32_1263
  let c1_i32_1264 : BitVec 32 := 1#32
  let v1896 : BitVec 32 := Scalar.select v1895 c1_i32_1264 c4_i32_1262
  let v1897 : BitVec 32 := Scalar.remsi v1894 v1896
  let c0_i32_1266 : BitVec 32 := 0#32
  let v1899 : BitVec 1 := Scalar.cmpi .slt v1897 c0_i32_1266
  let c0_i32_1267 : BitVec 32 := 0#32
  let v1900 : BitVec 1 := Scalar.cmpi .slt v1896 c0_i32_1267
  let v1901 : BitVec 1 := Scalar.xori v1899 v1900
  let c0_i32_1265 : BitVec 32 := 0#32
  let v1898 : BitVec 1 := Scalar.cmpi .ne v1897 c0_i32_1265
  let v1902 : BitVec 1 := Scalar.andi v1901 v1898
  let v1903 : BitVec 32 := Scalar.addi v1897 v1896
  let v1904 : BitVec 32 := Scalar.select v1902 v1903 v1897
  let c4_i32_1280 : BitVec 32 := 4#32
  let v1918 : BitVec 32 := Scalar.muli v1904 c4_i32_1280
  let v1919 : BitVec 32 := Scalar.addi v1917 v1918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1268 : BitVec 32 := 0#32
  let v1905 : BitVec 32 := Scalar.addi v8 c0_i32_1268
  let c4_i32_1269 : BitVec 32 := 4#32
  let c0_i32_1270 : BitVec 32 := 0#32
  let v1906 : BitVec 1 := Scalar.cmpi .eq c4_i32_1269 c0_i32_1270
  let c1_i32_1271 : BitVec 32 := 1#32
  let v1907 : BitVec 32 := Scalar.select v1906 c1_i32_1271 c4_i32_1269
  let v1908 : BitVec 32 := Scalar.remsi v1905 v1907
  let c0_i32_1273 : BitVec 32 := 0#32
  let v1910 : BitVec 1 := Scalar.cmpi .slt v1908 c0_i32_1273
  let c0_i32_1274 : BitVec 32 := 0#32
  let v1911 : BitVec 1 := Scalar.cmpi .slt v1907 c0_i32_1274
  let v1912 : BitVec 1 := Scalar.xori v1910 v1911
  let c0_i32_1272 : BitVec 32 := 0#32
  let v1909 : BitVec 1 := Scalar.cmpi .ne v1908 c0_i32_1272
  let v1913 : BitVec 1 := Scalar.andi v1912 v1909
  let v1914 : BitVec 32 := Scalar.addi v1908 v1907
  let v1915 : BitVec 32 := Scalar.select v1913 v1914 v1908
  let c1_i32_1281 : BitVec 32 := 1#32
  let v1920 : BitVec 32 := Scalar.muli v1915 c1_i32_1281
  let v1921 : BitVec 32 := Scalar.addi v1919 v1920
  v1921.toNat
def k0_dev44 (d0 : Dev nD) : Nat :=
  let c0_i32_1311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1286 : BitVec 32 := 0#32
  let v1930 : BitVec 32 := Scalar.addi v2 c0_i32_1286
  let c2_i32_1287 : BitVec 32 := 2#32
  let c0_i32_1288 : BitVec 32 := 0#32
  let v1931 : BitVec 1 := Scalar.cmpi .eq c2_i32_1287 c0_i32_1288
  let c1_i32_1289 : BitVec 32 := 1#32
  let v1932 : BitVec 32 := Scalar.select v1931 c1_i32_1289 c2_i32_1287
  let v1933 : BitVec 32 := Scalar.remsi v1930 v1932
  let c0_i32_1291 : BitVec 32 := 0#32
  let v1935 : BitVec 1 := Scalar.cmpi .slt v1933 c0_i32_1291
  let c0_i32_1292 : BitVec 32 := 0#32
  let v1936 : BitVec 1 := Scalar.cmpi .slt v1932 c0_i32_1292
  let v1937 : BitVec 1 := Scalar.xori v1935 v1936
  let c0_i32_1290 : BitVec 32 := 0#32
  let v1934 : BitVec 1 := Scalar.cmpi .ne v1933 c0_i32_1290
  let v1938 : BitVec 1 := Scalar.andi v1937 v1934
  let v1939 : BitVec 32 := Scalar.addi v1933 v1932
  let v1940 : BitVec 32 := Scalar.select v1938 v1939 v1933
  let c16_i32_1310 : BitVec 32 := 16#32
  let v1963 : BitVec 32 := Scalar.muli v1940 c16_i32_1310
  let v1964 : BitVec 32 := Scalar.addi c0_i32_1311 v1963
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1293 : BitVec 32 := 3#32
  let v1941 : BitVec 32 := Scalar.addi v5 c3_i32_1293
  let c4_i32_1294 : BitVec 32 := 4#32
  let c0_i32_1295 : BitVec 32 := 0#32
  let v1942 : BitVec 1 := Scalar.cmpi .eq c4_i32_1294 c0_i32_1295
  let c1_i32_1296 : BitVec 32 := 1#32
  let v1943 : BitVec 32 := Scalar.select v1942 c1_i32_1296 c4_i32_1294
  let v1944 : BitVec 32 := Scalar.remsi v1941 v1943
  let c0_i32_1298 : BitVec 32 := 0#32
  let v1946 : BitVec 1 := Scalar.cmpi .slt v1944 c0_i32_1298
  let c0_i32_1299 : BitVec 32 := 0#32
  let v1947 : BitVec 1 := Scalar.cmpi .slt v1943 c0_i32_1299
  let v1948 : BitVec 1 := Scalar.xori v1946 v1947
  let c0_i32_1297 : BitVec 32 := 0#32
  let v1945 : BitVec 1 := Scalar.cmpi .ne v1944 c0_i32_1297
  let v1949 : BitVec 1 := Scalar.andi v1948 v1945
  let v1950 : BitVec 32 := Scalar.addi v1944 v1943
  let v1951 : BitVec 32 := Scalar.select v1949 v1950 v1944
  let c4_i32_1312 : BitVec 32 := 4#32
  let v1965 : BitVec 32 := Scalar.muli v1951 c4_i32_1312
  let v1966 : BitVec 32 := Scalar.addi v1964 v1965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1300 : BitVec 32 := 1#32
  let v1952 : BitVec 32 := Scalar.addi v8 c1_i32_1300
  let c4_i32_1301 : BitVec 32 := 4#32
  let c0_i32_1302 : BitVec 32 := 0#32
  let v1953 : BitVec 1 := Scalar.cmpi .eq c4_i32_1301 c0_i32_1302
  let c1_i32_1303 : BitVec 32 := 1#32
  let v1954 : BitVec 32 := Scalar.select v1953 c1_i32_1303 c4_i32_1301
  let v1955 : BitVec 32 := Scalar.remsi v1952 v1954
  let c0_i32_1305 : BitVec 32 := 0#32
  let v1957 : BitVec 1 := Scalar.cmpi .slt v1955 c0_i32_1305
  let c0_i32_1306 : BitVec 32 := 0#32
  let v1958 : BitVec 1 := Scalar.cmpi .slt v1954 c0_i32_1306
  let v1959 : BitVec 1 := Scalar.xori v1957 v1958
  let c0_i32_1304 : BitVec 32 := 0#32
  let v1956 : BitVec 1 := Scalar.cmpi .ne v1955 c0_i32_1304
  let v1960 : BitVec 1 := Scalar.andi v1959 v1956
  let v1961 : BitVec 32 := Scalar.addi v1955 v1954
  let v1962 : BitVec 32 := Scalar.select v1960 v1961 v1955
  let c1_i32_1313 : BitVec 32 := 1#32
  let v1967 : BitVec 32 := Scalar.muli v1962 c1_i32_1313
  let v1968 : BitVec 32 := Scalar.addi v1966 v1967
  v1968.toNat
def k0_dev45 (d0 : Dev nD) : Nat :=
  let c0_i32_1343 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1318 : BitVec 32 := 0#32
  let v1977 : BitVec 32 := Scalar.addi v2 c0_i32_1318
  let c2_i32_1319 : BitVec 32 := 2#32
  let c0_i32_1320 : BitVec 32 := 0#32
  let v1978 : BitVec 1 := Scalar.cmpi .eq c2_i32_1319 c0_i32_1320
  let c1_i32_1321 : BitVec 32 := 1#32
  let v1979 : BitVec 32 := Scalar.select v1978 c1_i32_1321 c2_i32_1319
  let v1980 : BitVec 32 := Scalar.remsi v1977 v1979
  let c0_i32_1323 : BitVec 32 := 0#32
  let v1982 : BitVec 1 := Scalar.cmpi .slt v1980 c0_i32_1323
  let c0_i32_1324 : BitVec 32 := 0#32
  let v1983 : BitVec 1 := Scalar.cmpi .slt v1979 c0_i32_1324
  let v1984 : BitVec 1 := Scalar.xori v1982 v1983
  let c0_i32_1322 : BitVec 32 := 0#32
  let v1981 : BitVec 1 := Scalar.cmpi .ne v1980 c0_i32_1322
  let v1985 : BitVec 1 := Scalar.andi v1984 v1981
  let v1986 : BitVec 32 := Scalar.addi v1980 v1979
  let v1987 : BitVec 32 := Scalar.select v1985 v1986 v1980
  let c16_i32_1342 : BitVec 32 := 16#32
  let v2010 : BitVec 32 := Scalar.muli v1987 c16_i32_1342
  let v2011 : BitVec 32 := Scalar.addi c0_i32_1343 v2010
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1325 : BitVec 32 := 3#32
  let v1988 : BitVec 32 := Scalar.addi v5 c3_i32_1325
  let c4_i32_1326 : BitVec 32 := 4#32
  let c0_i32_1327 : BitVec 32 := 0#32
  let v1989 : BitVec 1 := Scalar.cmpi .eq c4_i32_1326 c0_i32_1327
  let c1_i32_1328 : BitVec 32 := 1#32
  let v1990 : BitVec 32 := Scalar.select v1989 c1_i32_1328 c4_i32_1326
  let v1991 : BitVec 32 := Scalar.remsi v1988 v1990
  let c0_i32_1330 : BitVec 32 := 0#32
  let v1993 : BitVec 1 := Scalar.cmpi .slt v1991 c0_i32_1330
  let c0_i32_1331 : BitVec 32 := 0#32
  let v1994 : BitVec 1 := Scalar.cmpi .slt v1990 c0_i32_1331
  let v1995 : BitVec 1 := Scalar.xori v1993 v1994
  let c0_i32_1329 : BitVec 32 := 0#32
  let v1992 : BitVec 1 := Scalar.cmpi .ne v1991 c0_i32_1329
  let v1996 : BitVec 1 := Scalar.andi v1995 v1992
  let v1997 : BitVec 32 := Scalar.addi v1991 v1990
  let v1998 : BitVec 32 := Scalar.select v1996 v1997 v1991
  let c4_i32_1344 : BitVec 32 := 4#32
  let v2012 : BitVec 32 := Scalar.muli v1998 c4_i32_1344
  let v2013 : BitVec 32 := Scalar.addi v2011 v2012
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1332 : BitVec 32 := 2#32
  let v1999 : BitVec 32 := Scalar.addi v8 c2_i32_1332
  let c4_i32_1333 : BitVec 32 := 4#32
  let c0_i32_1334 : BitVec 32 := 0#32
  let v2000 : BitVec 1 := Scalar.cmpi .eq c4_i32_1333 c0_i32_1334
  let c1_i32_1335 : BitVec 32 := 1#32
  let v2001 : BitVec 32 := Scalar.select v2000 c1_i32_1335 c4_i32_1333
  let v2002 : BitVec 32 := Scalar.remsi v1999 v2001
  let c0_i32_1337 : BitVec 32 := 0#32
  let v2004 : BitVec 1 := Scalar.cmpi .slt v2002 c0_i32_1337
  let c0_i32_1338 : BitVec 32 := 0#32
  let v2005 : BitVec 1 := Scalar.cmpi .slt v2001 c0_i32_1338
  let v2006 : BitVec 1 := Scalar.xori v2004 v2005
  let c0_i32_1336 : BitVec 32 := 0#32
  let v2003 : BitVec 1 := Scalar.cmpi .ne v2002 c0_i32_1336
  let v2007 : BitVec 1 := Scalar.andi v2006 v2003
  let v2008 : BitVec 32 := Scalar.addi v2002 v2001
  let v2009 : BitVec 32 := Scalar.select v2007 v2008 v2002
  let c1_i32_1345 : BitVec 32 := 1#32
  let v2014 : BitVec 32 := Scalar.muli v2009 c1_i32_1345
  let v2015 : BitVec 32 := Scalar.addi v2013 v2014
  v2015.toNat
def k0_dev46 (d0 : Dev nD) : Nat :=
  let c0_i32_1375 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_1350 : BitVec 32 := 0#32
  let v2024 : BitVec 32 := Scalar.addi v2 c0_i32_1350
  let c2_i32_1351 : BitVec 32 := 2#32
  let c0_i32_1352 : BitVec 32 := 0#32
  let v2025 : BitVec 1 := Scalar.cmpi .eq c2_i32_1351 c0_i32_1352
  let c1_i32_1353 : BitVec 32 := 1#32
  let v2026 : BitVec 32 := Scalar.select v2025 c1_i32_1353 c2_i32_1351
  let v2027 : BitVec 32 := Scalar.remsi v2024 v2026
  let c0_i32_1355 : BitVec 32 := 0#32
  let v2029 : BitVec 1 := Scalar.cmpi .slt v2027 c0_i32_1355
  let c0_i32_1356 : BitVec 32 := 0#32
  let v2030 : BitVec 1 := Scalar.cmpi .slt v2026 c0_i32_1356
  let v2031 : BitVec 1 := Scalar.xori v2029 v2030
  let c0_i32_1354 : BitVec 32 := 0#32
  let v2028 : BitVec 1 := Scalar.cmpi .ne v2027 c0_i32_1354
  let v2032 : BitVec 1 := Scalar.andi v2031 v2028
  let v2033 : BitVec 32 := Scalar.addi v2027 v2026
  let v2034 : BitVec 32 := Scalar.select v2032 v2033 v2027
  let c16_i32_1374 : BitVec 32 := 16#32
  let v2057 : BitVec 32 := Scalar.muli v2034 c16_i32_1374
  let v2058 : BitVec 32 := Scalar.addi c0_i32_1375 v2057
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1357 : BitVec 32 := 3#32
  let v2035 : BitVec 32 := Scalar.addi v5 c3_i32_1357
  let c4_i32_1358 : BitVec 32 := 4#32
  let c0_i32_1359 : BitVec 32 := 0#32
  let v2036 : BitVec 1 := Scalar.cmpi .eq c4_i32_1358 c0_i32_1359
  let c1_i32_1360 : BitVec 32 := 1#32
  let v2037 : BitVec 32 := Scalar.select v2036 c1_i32_1360 c4_i32_1358
  let v2038 : BitVec 32 := Scalar.remsi v2035 v2037
  let c0_i32_1362 : BitVec 32 := 0#32
  let v2040 : BitVec 1 := Scalar.cmpi .slt v2038 c0_i32_1362
  let c0_i32_1363 : BitVec 32 := 0#32
  let v2041 : BitVec 1 := Scalar.cmpi .slt v2037 c0_i32_1363
  let v2042 : BitVec 1 := Scalar.xori v2040 v2041
  let c0_i32_1361 : BitVec 32 := 0#32
  let v2039 : BitVec 1 := Scalar.cmpi .ne v2038 c0_i32_1361
  let v2043 : BitVec 1 := Scalar.andi v2042 v2039
  let v2044 : BitVec 32 := Scalar.addi v2038 v2037
  let v2045 : BitVec 32 := Scalar.select v2043 v2044 v2038
  let c4_i32_1376 : BitVec 32 := 4#32
  let v2059 : BitVec 32 := Scalar.muli v2045 c4_i32_1376
  let v2060 : BitVec 32 := Scalar.addi v2058 v2059
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1364 : BitVec 32 := 3#32
  let v2046 : BitVec 32 := Scalar.addi v8 c3_i32_1364
  let c4_i32_1365 : BitVec 32 := 4#32
  let c0_i32_1366 : BitVec 32 := 0#32
  let v2047 : BitVec 1 := Scalar.cmpi .eq c4_i32_1365 c0_i32_1366
  let c1_i32_1367 : BitVec 32 := 1#32
  let v2048 : BitVec 32 := Scalar.select v2047 c1_i32_1367 c4_i32_1365
  let v2049 : BitVec 32 := Scalar.remsi v2046 v2048
  let c0_i32_1369 : BitVec 32 := 0#32
  let v2051 : BitVec 1 := Scalar.cmpi .slt v2049 c0_i32_1369
  let c0_i32_1370 : BitVec 32 := 0#32
  let v2052 : BitVec 1 := Scalar.cmpi .slt v2048 c0_i32_1370
  let v2053 : BitVec 1 := Scalar.xori v2051 v2052
  let c0_i32_1368 : BitVec 32 := 0#32
  let v2050 : BitVec 1 := Scalar.cmpi .ne v2049 c0_i32_1368
  let v2054 : BitVec 1 := Scalar.andi v2053 v2050
  let v2055 : BitVec 32 := Scalar.addi v2049 v2048
  let v2056 : BitVec 32 := Scalar.select v2054 v2055 v2049
  let c1_i32_1377 : BitVec 32 := 1#32
  let v2061 : BitVec 32 := Scalar.muli v2056 c1_i32_1377
  let v2062 : BitVec 32 := Scalar.addi v2060 v2061
  v2062.toNat
def k0_dev47 (d0 : Dev nD) : Nat :=
  let c0_i32_1408 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1382 : BitVec 32 := 1#32
  let v2071 : BitVec 32 := Scalar.addi v2 c1_i32_1382
  let c2_i32_1383 : BitVec 32 := 2#32
  let c0_i32_1384 : BitVec 32 := 0#32
  let v2072 : BitVec 1 := Scalar.cmpi .eq c2_i32_1383 c0_i32_1384
  let c1_i32_1385 : BitVec 32 := 1#32
  let v2073 : BitVec 32 := Scalar.select v2072 c1_i32_1385 c2_i32_1383
  let v2074 : BitVec 32 := Scalar.remsi v2071 v2073
  let c0_i32_1387 : BitVec 32 := 0#32
  let v2076 : BitVec 1 := Scalar.cmpi .slt v2074 c0_i32_1387
  let c0_i32_1388 : BitVec 32 := 0#32
  let v2077 : BitVec 1 := Scalar.cmpi .slt v2073 c0_i32_1388
  let v2078 : BitVec 1 := Scalar.xori v2076 v2077
  let c0_i32_1386 : BitVec 32 := 0#32
  let v2075 : BitVec 1 := Scalar.cmpi .ne v2074 c0_i32_1386
  let v2079 : BitVec 1 := Scalar.andi v2078 v2075
  let v2080 : BitVec 32 := Scalar.addi v2074 v2073
  let v2081 : BitVec 32 := Scalar.select v2079 v2080 v2074
  let c16_i32_1407 : BitVec 32 := 16#32
  let v2104 : BitVec 32 := Scalar.muli v2081 c16_i32_1407
  let v2105 : BitVec 32 := Scalar.addi c0_i32_1408 v2104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1389 : BitVec 32 := 0#32
  let v2082 : BitVec 32 := Scalar.addi v5 c0_i32_1389
  let c4_i32_1390 : BitVec 32 := 4#32
  let c0_i32_1391 : BitVec 32 := 0#32
  let v2083 : BitVec 1 := Scalar.cmpi .eq c4_i32_1390 c0_i32_1391
  let c1_i32_1392 : BitVec 32 := 1#32
  let v2084 : BitVec 32 := Scalar.select v2083 c1_i32_1392 c4_i32_1390
  let v2085 : BitVec 32 := Scalar.remsi v2082 v2084
  let c0_i32_1394 : BitVec 32 := 0#32
  let v2087 : BitVec 1 := Scalar.cmpi .slt v2085 c0_i32_1394
  let c0_i32_1395 : BitVec 32 := 0#32
  let v2088 : BitVec 1 := Scalar.cmpi .slt v2084 c0_i32_1395
  let v2089 : BitVec 1 := Scalar.xori v2087 v2088
  let c0_i32_1393 : BitVec 32 := 0#32
  let v2086 : BitVec 1 := Scalar.cmpi .ne v2085 c0_i32_1393
  let v2090 : BitVec 1 := Scalar.andi v2089 v2086
  let v2091 : BitVec 32 := Scalar.addi v2085 v2084
  let v2092 : BitVec 32 := Scalar.select v2090 v2091 v2085
  let c4_i32_1409 : BitVec 32 := 4#32
  let v2106 : BitVec 32 := Scalar.muli v2092 c4_i32_1409
  let v2107 : BitVec 32 := Scalar.addi v2105 v2106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1396 : BitVec 32 := 0#32
  let v2093 : BitVec 32 := Scalar.addi v8 c0_i32_1396
  let c4_i32_1397 : BitVec 32 := 4#32
  let c0_i32_1398 : BitVec 32 := 0#32
  let v2094 : BitVec 1 := Scalar.cmpi .eq c4_i32_1397 c0_i32_1398
  let c1_i32_1399 : BitVec 32 := 1#32
  let v2095 : BitVec 32 := Scalar.select v2094 c1_i32_1399 c4_i32_1397
  let v2096 : BitVec 32 := Scalar.remsi v2093 v2095
  let c0_i32_1401 : BitVec 32 := 0#32
  let v2098 : BitVec 1 := Scalar.cmpi .slt v2096 c0_i32_1401
  let c0_i32_1402 : BitVec 32 := 0#32
  let v2099 : BitVec 1 := Scalar.cmpi .slt v2095 c0_i32_1402
  let v2100 : BitVec 1 := Scalar.xori v2098 v2099
  let c0_i32_1400 : BitVec 32 := 0#32
  let v2097 : BitVec 1 := Scalar.cmpi .ne v2096 c0_i32_1400
  let v2101 : BitVec 1 := Scalar.andi v2100 v2097
  let v2102 : BitVec 32 := Scalar.addi v2096 v2095
  let v2103 : BitVec 32 := Scalar.select v2101 v2102 v2096
  let c1_i32_1410 : BitVec 32 := 1#32
  let v2108 : BitVec 32 := Scalar.muli v2103 c1_i32_1410
  let v2109 : BitVec 32 := Scalar.addi v2107 v2108
  v2109.toNat
def k0_dev48 (d0 : Dev nD) : Nat :=
  let c0_i32_1440 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1415 : BitVec 32 := 1#32
  let v2118 : BitVec 32 := Scalar.addi v2 c1_i32_1415
  let c2_i32_1416 : BitVec 32 := 2#32
  let c0_i32_1417 : BitVec 32 := 0#32
  let v2119 : BitVec 1 := Scalar.cmpi .eq c2_i32_1416 c0_i32_1417
  let c1_i32_1418 : BitVec 32 := 1#32
  let v2120 : BitVec 32 := Scalar.select v2119 c1_i32_1418 c2_i32_1416
  let v2121 : BitVec 32 := Scalar.remsi v2118 v2120
  let c0_i32_1420 : BitVec 32 := 0#32
  let v2123 : BitVec 1 := Scalar.cmpi .slt v2121 c0_i32_1420
  let c0_i32_1421 : BitVec 32 := 0#32
  let v2124 : BitVec 1 := Scalar.cmpi .slt v2120 c0_i32_1421
  let v2125 : BitVec 1 := Scalar.xori v2123 v2124
  let c0_i32_1419 : BitVec 32 := 0#32
  let v2122 : BitVec 1 := Scalar.cmpi .ne v2121 c0_i32_1419
  let v2126 : BitVec 1 := Scalar.andi v2125 v2122
  let v2127 : BitVec 32 := Scalar.addi v2121 v2120
  let v2128 : BitVec 32 := Scalar.select v2126 v2127 v2121
  let c16_i32_1439 : BitVec 32 := 16#32
  let v2151 : BitVec 32 := Scalar.muli v2128 c16_i32_1439
  let v2152 : BitVec 32 := Scalar.addi c0_i32_1440 v2151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1422 : BitVec 32 := 0#32
  let v2129 : BitVec 32 := Scalar.addi v5 c0_i32_1422
  let c4_i32_1423 : BitVec 32 := 4#32
  let c0_i32_1424 : BitVec 32 := 0#32
  let v2130 : BitVec 1 := Scalar.cmpi .eq c4_i32_1423 c0_i32_1424
  let c1_i32_1425 : BitVec 32 := 1#32
  let v2131 : BitVec 32 := Scalar.select v2130 c1_i32_1425 c4_i32_1423
  let v2132 : BitVec 32 := Scalar.remsi v2129 v2131
  let c0_i32_1427 : BitVec 32 := 0#32
  let v2134 : BitVec 1 := Scalar.cmpi .slt v2132 c0_i32_1427
  let c0_i32_1428 : BitVec 32 := 0#32
  let v2135 : BitVec 1 := Scalar.cmpi .slt v2131 c0_i32_1428
  let v2136 : BitVec 1 := Scalar.xori v2134 v2135
  let c0_i32_1426 : BitVec 32 := 0#32
  let v2133 : BitVec 1 := Scalar.cmpi .ne v2132 c0_i32_1426
  let v2137 : BitVec 1 := Scalar.andi v2136 v2133
  let v2138 : BitVec 32 := Scalar.addi v2132 v2131
  let v2139 : BitVec 32 := Scalar.select v2137 v2138 v2132
  let c4_i32_1441 : BitVec 32 := 4#32
  let v2153 : BitVec 32 := Scalar.muli v2139 c4_i32_1441
  let v2154 : BitVec 32 := Scalar.addi v2152 v2153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1429 : BitVec 32 := 1#32
  let v2140 : BitVec 32 := Scalar.addi v8 c1_i32_1429
  let c4_i32_1430 : BitVec 32 := 4#32
  let c0_i32_1431 : BitVec 32 := 0#32
  let v2141 : BitVec 1 := Scalar.cmpi .eq c4_i32_1430 c0_i32_1431
  let c1_i32_1432 : BitVec 32 := 1#32
  let v2142 : BitVec 32 := Scalar.select v2141 c1_i32_1432 c4_i32_1430
  let v2143 : BitVec 32 := Scalar.remsi v2140 v2142
  let c0_i32_1434 : BitVec 32 := 0#32
  let v2145 : BitVec 1 := Scalar.cmpi .slt v2143 c0_i32_1434
  let c0_i32_1435 : BitVec 32 := 0#32
  let v2146 : BitVec 1 := Scalar.cmpi .slt v2142 c0_i32_1435
  let v2147 : BitVec 1 := Scalar.xori v2145 v2146
  let c0_i32_1433 : BitVec 32 := 0#32
  let v2144 : BitVec 1 := Scalar.cmpi .ne v2143 c0_i32_1433
  let v2148 : BitVec 1 := Scalar.andi v2147 v2144
  let v2149 : BitVec 32 := Scalar.addi v2143 v2142
  let v2150 : BitVec 32 := Scalar.select v2148 v2149 v2143
  let c1_i32_1442 : BitVec 32 := 1#32
  let v2155 : BitVec 32 := Scalar.muli v2150 c1_i32_1442
  let v2156 : BitVec 32 := Scalar.addi v2154 v2155
  v2156.toNat
def k0_dev49 (d0 : Dev nD) : Nat :=
  let c0_i32_1472 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1447 : BitVec 32 := 1#32
  let v2165 : BitVec 32 := Scalar.addi v2 c1_i32_1447
  let c2_i32_1448 : BitVec 32 := 2#32
  let c0_i32_1449 : BitVec 32 := 0#32
  let v2166 : BitVec 1 := Scalar.cmpi .eq c2_i32_1448 c0_i32_1449
  let c1_i32_1450 : BitVec 32 := 1#32
  let v2167 : BitVec 32 := Scalar.select v2166 c1_i32_1450 c2_i32_1448
  let v2168 : BitVec 32 := Scalar.remsi v2165 v2167
  let c0_i32_1452 : BitVec 32 := 0#32
  let v2170 : BitVec 1 := Scalar.cmpi .slt v2168 c0_i32_1452
  let c0_i32_1453 : BitVec 32 := 0#32
  let v2171 : BitVec 1 := Scalar.cmpi .slt v2167 c0_i32_1453
  let v2172 : BitVec 1 := Scalar.xori v2170 v2171
  let c0_i32_1451 : BitVec 32 := 0#32
  let v2169 : BitVec 1 := Scalar.cmpi .ne v2168 c0_i32_1451
  let v2173 : BitVec 1 := Scalar.andi v2172 v2169
  let v2174 : BitVec 32 := Scalar.addi v2168 v2167
  let v2175 : BitVec 32 := Scalar.select v2173 v2174 v2168
  let c16_i32_1471 : BitVec 32 := 16#32
  let v2198 : BitVec 32 := Scalar.muli v2175 c16_i32_1471
  let v2199 : BitVec 32 := Scalar.addi c0_i32_1472 v2198
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1454 : BitVec 32 := 0#32
  let v2176 : BitVec 32 := Scalar.addi v5 c0_i32_1454
  let c4_i32_1455 : BitVec 32 := 4#32
  let c0_i32_1456 : BitVec 32 := 0#32
  let v2177 : BitVec 1 := Scalar.cmpi .eq c4_i32_1455 c0_i32_1456
  let c1_i32_1457 : BitVec 32 := 1#32
  let v2178 : BitVec 32 := Scalar.select v2177 c1_i32_1457 c4_i32_1455
  let v2179 : BitVec 32 := Scalar.remsi v2176 v2178
  let c0_i32_1459 : BitVec 32 := 0#32
  let v2181 : BitVec 1 := Scalar.cmpi .slt v2179 c0_i32_1459
  let c0_i32_1460 : BitVec 32 := 0#32
  let v2182 : BitVec 1 := Scalar.cmpi .slt v2178 c0_i32_1460
  let v2183 : BitVec 1 := Scalar.xori v2181 v2182
  let c0_i32_1458 : BitVec 32 := 0#32
  let v2180 : BitVec 1 := Scalar.cmpi .ne v2179 c0_i32_1458
  let v2184 : BitVec 1 := Scalar.andi v2183 v2180
  let v2185 : BitVec 32 := Scalar.addi v2179 v2178
  let v2186 : BitVec 32 := Scalar.select v2184 v2185 v2179
  let c4_i32_1473 : BitVec 32 := 4#32
  let v2200 : BitVec 32 := Scalar.muli v2186 c4_i32_1473
  let v2201 : BitVec 32 := Scalar.addi v2199 v2200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1461 : BitVec 32 := 2#32
  let v2187 : BitVec 32 := Scalar.addi v8 c2_i32_1461
  let c4_i32_1462 : BitVec 32 := 4#32
  let c0_i32_1463 : BitVec 32 := 0#32
  let v2188 : BitVec 1 := Scalar.cmpi .eq c4_i32_1462 c0_i32_1463
  let c1_i32_1464 : BitVec 32 := 1#32
  let v2189 : BitVec 32 := Scalar.select v2188 c1_i32_1464 c4_i32_1462
  let v2190 : BitVec 32 := Scalar.remsi v2187 v2189
  let c0_i32_1466 : BitVec 32 := 0#32
  let v2192 : BitVec 1 := Scalar.cmpi .slt v2190 c0_i32_1466
  let c0_i32_1467 : BitVec 32 := 0#32
  let v2193 : BitVec 1 := Scalar.cmpi .slt v2189 c0_i32_1467
  let v2194 : BitVec 1 := Scalar.xori v2192 v2193
  let c0_i32_1465 : BitVec 32 := 0#32
  let v2191 : BitVec 1 := Scalar.cmpi .ne v2190 c0_i32_1465
  let v2195 : BitVec 1 := Scalar.andi v2194 v2191
  let v2196 : BitVec 32 := Scalar.addi v2190 v2189
  let v2197 : BitVec 32 := Scalar.select v2195 v2196 v2190
  let c1_i32_1474 : BitVec 32 := 1#32
  let v2202 : BitVec 32 := Scalar.muli v2197 c1_i32_1474
  let v2203 : BitVec 32 := Scalar.addi v2201 v2202
  v2203.toNat
def k0_dev50 (d0 : Dev nD) : Nat :=
  let c0_i32_1504 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1479 : BitVec 32 := 1#32
  let v2212 : BitVec 32 := Scalar.addi v2 c1_i32_1479
  let c2_i32_1480 : BitVec 32 := 2#32
  let c0_i32_1481 : BitVec 32 := 0#32
  let v2213 : BitVec 1 := Scalar.cmpi .eq c2_i32_1480 c0_i32_1481
  let c1_i32_1482 : BitVec 32 := 1#32
  let v2214 : BitVec 32 := Scalar.select v2213 c1_i32_1482 c2_i32_1480
  let v2215 : BitVec 32 := Scalar.remsi v2212 v2214
  let c0_i32_1484 : BitVec 32 := 0#32
  let v2217 : BitVec 1 := Scalar.cmpi .slt v2215 c0_i32_1484
  let c0_i32_1485 : BitVec 32 := 0#32
  let v2218 : BitVec 1 := Scalar.cmpi .slt v2214 c0_i32_1485
  let v2219 : BitVec 1 := Scalar.xori v2217 v2218
  let c0_i32_1483 : BitVec 32 := 0#32
  let v2216 : BitVec 1 := Scalar.cmpi .ne v2215 c0_i32_1483
  let v2220 : BitVec 1 := Scalar.andi v2219 v2216
  let v2221 : BitVec 32 := Scalar.addi v2215 v2214
  let v2222 : BitVec 32 := Scalar.select v2220 v2221 v2215
  let c16_i32_1503 : BitVec 32 := 16#32
  let v2245 : BitVec 32 := Scalar.muli v2222 c16_i32_1503
  let v2246 : BitVec 32 := Scalar.addi c0_i32_1504 v2245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1486 : BitVec 32 := 0#32
  let v2223 : BitVec 32 := Scalar.addi v5 c0_i32_1486
  let c4_i32_1487 : BitVec 32 := 4#32
  let c0_i32_1488 : BitVec 32 := 0#32
  let v2224 : BitVec 1 := Scalar.cmpi .eq c4_i32_1487 c0_i32_1488
  let c1_i32_1489 : BitVec 32 := 1#32
  let v2225 : BitVec 32 := Scalar.select v2224 c1_i32_1489 c4_i32_1487
  let v2226 : BitVec 32 := Scalar.remsi v2223 v2225
  let c0_i32_1491 : BitVec 32 := 0#32
  let v2228 : BitVec 1 := Scalar.cmpi .slt v2226 c0_i32_1491
  let c0_i32_1492 : BitVec 32 := 0#32
  let v2229 : BitVec 1 := Scalar.cmpi .slt v2225 c0_i32_1492
  let v2230 : BitVec 1 := Scalar.xori v2228 v2229
  let c0_i32_1490 : BitVec 32 := 0#32
  let v2227 : BitVec 1 := Scalar.cmpi .ne v2226 c0_i32_1490
  let v2231 : BitVec 1 := Scalar.andi v2230 v2227
  let v2232 : BitVec 32 := Scalar.addi v2226 v2225
  let v2233 : BitVec 32 := Scalar.select v2231 v2232 v2226
  let c4_i32_1505 : BitVec 32 := 4#32
  let v2247 : BitVec 32 := Scalar.muli v2233 c4_i32_1505
  let v2248 : BitVec 32 := Scalar.addi v2246 v2247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1493 : BitVec 32 := 3#32
  let v2234 : BitVec 32 := Scalar.addi v8 c3_i32_1493
  let c4_i32_1494 : BitVec 32 := 4#32
  let c0_i32_1495 : BitVec 32 := 0#32
  let v2235 : BitVec 1 := Scalar.cmpi .eq c4_i32_1494 c0_i32_1495
  let c1_i32_1496 : BitVec 32 := 1#32
  let v2236 : BitVec 32 := Scalar.select v2235 c1_i32_1496 c4_i32_1494
  let v2237 : BitVec 32 := Scalar.remsi v2234 v2236
  let c0_i32_1498 : BitVec 32 := 0#32
  let v2239 : BitVec 1 := Scalar.cmpi .slt v2237 c0_i32_1498
  let c0_i32_1499 : BitVec 32 := 0#32
  let v2240 : BitVec 1 := Scalar.cmpi .slt v2236 c0_i32_1499
  let v2241 : BitVec 1 := Scalar.xori v2239 v2240
  let c0_i32_1497 : BitVec 32 := 0#32
  let v2238 : BitVec 1 := Scalar.cmpi .ne v2237 c0_i32_1497
  let v2242 : BitVec 1 := Scalar.andi v2241 v2238
  let v2243 : BitVec 32 := Scalar.addi v2237 v2236
  let v2244 : BitVec 32 := Scalar.select v2242 v2243 v2237
  let c1_i32_1506 : BitVec 32 := 1#32
  let v2249 : BitVec 32 := Scalar.muli v2244 c1_i32_1506
  let v2250 : BitVec 32 := Scalar.addi v2248 v2249
  v2250.toNat
def k0_dev51 (d0 : Dev nD) : Nat :=
  let c0_i32_1536 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1511 : BitVec 32 := 1#32
  let v2259 : BitVec 32 := Scalar.addi v2 c1_i32_1511
  let c2_i32_1512 : BitVec 32 := 2#32
  let c0_i32_1513 : BitVec 32 := 0#32
  let v2260 : BitVec 1 := Scalar.cmpi .eq c2_i32_1512 c0_i32_1513
  let c1_i32_1514 : BitVec 32 := 1#32
  let v2261 : BitVec 32 := Scalar.select v2260 c1_i32_1514 c2_i32_1512
  let v2262 : BitVec 32 := Scalar.remsi v2259 v2261
  let c0_i32_1516 : BitVec 32 := 0#32
  let v2264 : BitVec 1 := Scalar.cmpi .slt v2262 c0_i32_1516
  let c0_i32_1517 : BitVec 32 := 0#32
  let v2265 : BitVec 1 := Scalar.cmpi .slt v2261 c0_i32_1517
  let v2266 : BitVec 1 := Scalar.xori v2264 v2265
  let c0_i32_1515 : BitVec 32 := 0#32
  let v2263 : BitVec 1 := Scalar.cmpi .ne v2262 c0_i32_1515
  let v2267 : BitVec 1 := Scalar.andi v2266 v2263
  let v2268 : BitVec 32 := Scalar.addi v2262 v2261
  let v2269 : BitVec 32 := Scalar.select v2267 v2268 v2262
  let c16_i32_1535 : BitVec 32 := 16#32
  let v2292 : BitVec 32 := Scalar.muli v2269 c16_i32_1535
  let v2293 : BitVec 32 := Scalar.addi c0_i32_1536 v2292
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1518 : BitVec 32 := 1#32
  let v2270 : BitVec 32 := Scalar.addi v5 c1_i32_1518
  let c4_i32_1519 : BitVec 32 := 4#32
  let c0_i32_1520 : BitVec 32 := 0#32
  let v2271 : BitVec 1 := Scalar.cmpi .eq c4_i32_1519 c0_i32_1520
  let c1_i32_1521 : BitVec 32 := 1#32
  let v2272 : BitVec 32 := Scalar.select v2271 c1_i32_1521 c4_i32_1519
  let v2273 : BitVec 32 := Scalar.remsi v2270 v2272
  let c0_i32_1523 : BitVec 32 := 0#32
  let v2275 : BitVec 1 := Scalar.cmpi .slt v2273 c0_i32_1523
  let c0_i32_1524 : BitVec 32 := 0#32
  let v2276 : BitVec 1 := Scalar.cmpi .slt v2272 c0_i32_1524
  let v2277 : BitVec 1 := Scalar.xori v2275 v2276
  let c0_i32_1522 : BitVec 32 := 0#32
  let v2274 : BitVec 1 := Scalar.cmpi .ne v2273 c0_i32_1522
  let v2278 : BitVec 1 := Scalar.andi v2277 v2274
  let v2279 : BitVec 32 := Scalar.addi v2273 v2272
  let v2280 : BitVec 32 := Scalar.select v2278 v2279 v2273
  let c4_i32_1537 : BitVec 32 := 4#32
  let v2294 : BitVec 32 := Scalar.muli v2280 c4_i32_1537
  let v2295 : BitVec 32 := Scalar.addi v2293 v2294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1525 : BitVec 32 := 0#32
  let v2281 : BitVec 32 := Scalar.addi v8 c0_i32_1525
  let c4_i32_1526 : BitVec 32 := 4#32
  let c0_i32_1527 : BitVec 32 := 0#32
  let v2282 : BitVec 1 := Scalar.cmpi .eq c4_i32_1526 c0_i32_1527
  let c1_i32_1528 : BitVec 32 := 1#32
  let v2283 : BitVec 32 := Scalar.select v2282 c1_i32_1528 c4_i32_1526
  let v2284 : BitVec 32 := Scalar.remsi v2281 v2283
  let c0_i32_1530 : BitVec 32 := 0#32
  let v2286 : BitVec 1 := Scalar.cmpi .slt v2284 c0_i32_1530
  let c0_i32_1531 : BitVec 32 := 0#32
  let v2287 : BitVec 1 := Scalar.cmpi .slt v2283 c0_i32_1531
  let v2288 : BitVec 1 := Scalar.xori v2286 v2287
  let c0_i32_1529 : BitVec 32 := 0#32
  let v2285 : BitVec 1 := Scalar.cmpi .ne v2284 c0_i32_1529
  let v2289 : BitVec 1 := Scalar.andi v2288 v2285
  let v2290 : BitVec 32 := Scalar.addi v2284 v2283
  let v2291 : BitVec 32 := Scalar.select v2289 v2290 v2284
  let c1_i32_1538 : BitVec 32 := 1#32
  let v2296 : BitVec 32 := Scalar.muli v2291 c1_i32_1538
  let v2297 : BitVec 32 := Scalar.addi v2295 v2296
  v2297.toNat
def k0_dev52 (d0 : Dev nD) : Nat :=
  let c0_i32_1568 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1543 : BitVec 32 := 1#32
  let v2306 : BitVec 32 := Scalar.addi v2 c1_i32_1543
  let c2_i32_1544 : BitVec 32 := 2#32
  let c0_i32_1545 : BitVec 32 := 0#32
  let v2307 : BitVec 1 := Scalar.cmpi .eq c2_i32_1544 c0_i32_1545
  let c1_i32_1546 : BitVec 32 := 1#32
  let v2308 : BitVec 32 := Scalar.select v2307 c1_i32_1546 c2_i32_1544
  let v2309 : BitVec 32 := Scalar.remsi v2306 v2308
  let c0_i32_1548 : BitVec 32 := 0#32
  let v2311 : BitVec 1 := Scalar.cmpi .slt v2309 c0_i32_1548
  let c0_i32_1549 : BitVec 32 := 0#32
  let v2312 : BitVec 1 := Scalar.cmpi .slt v2308 c0_i32_1549
  let v2313 : BitVec 1 := Scalar.xori v2311 v2312
  let c0_i32_1547 : BitVec 32 := 0#32
  let v2310 : BitVec 1 := Scalar.cmpi .ne v2309 c0_i32_1547
  let v2314 : BitVec 1 := Scalar.andi v2313 v2310
  let v2315 : BitVec 32 := Scalar.addi v2309 v2308
  let v2316 : BitVec 32 := Scalar.select v2314 v2315 v2309
  let c16_i32_1567 : BitVec 32 := 16#32
  let v2339 : BitVec 32 := Scalar.muli v2316 c16_i32_1567
  let v2340 : BitVec 32 := Scalar.addi c0_i32_1568 v2339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1550 : BitVec 32 := 1#32
  let v2317 : BitVec 32 := Scalar.addi v5 c1_i32_1550
  let c4_i32_1551 : BitVec 32 := 4#32
  let c0_i32_1552 : BitVec 32 := 0#32
  let v2318 : BitVec 1 := Scalar.cmpi .eq c4_i32_1551 c0_i32_1552
  let c1_i32_1553 : BitVec 32 := 1#32
  let v2319 : BitVec 32 := Scalar.select v2318 c1_i32_1553 c4_i32_1551
  let v2320 : BitVec 32 := Scalar.remsi v2317 v2319
  let c0_i32_1555 : BitVec 32 := 0#32
  let v2322 : BitVec 1 := Scalar.cmpi .slt v2320 c0_i32_1555
  let c0_i32_1556 : BitVec 32 := 0#32
  let v2323 : BitVec 1 := Scalar.cmpi .slt v2319 c0_i32_1556
  let v2324 : BitVec 1 := Scalar.xori v2322 v2323
  let c0_i32_1554 : BitVec 32 := 0#32
  let v2321 : BitVec 1 := Scalar.cmpi .ne v2320 c0_i32_1554
  let v2325 : BitVec 1 := Scalar.andi v2324 v2321
  let v2326 : BitVec 32 := Scalar.addi v2320 v2319
  let v2327 : BitVec 32 := Scalar.select v2325 v2326 v2320
  let c4_i32_1569 : BitVec 32 := 4#32
  let v2341 : BitVec 32 := Scalar.muli v2327 c4_i32_1569
  let v2342 : BitVec 32 := Scalar.addi v2340 v2341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1557 : BitVec 32 := 1#32
  let v2328 : BitVec 32 := Scalar.addi v8 c1_i32_1557
  let c4_i32_1558 : BitVec 32 := 4#32
  let c0_i32_1559 : BitVec 32 := 0#32
  let v2329 : BitVec 1 := Scalar.cmpi .eq c4_i32_1558 c0_i32_1559
  let c1_i32_1560 : BitVec 32 := 1#32
  let v2330 : BitVec 32 := Scalar.select v2329 c1_i32_1560 c4_i32_1558
  let v2331 : BitVec 32 := Scalar.remsi v2328 v2330
  let c0_i32_1562 : BitVec 32 := 0#32
  let v2333 : BitVec 1 := Scalar.cmpi .slt v2331 c0_i32_1562
  let c0_i32_1563 : BitVec 32 := 0#32
  let v2334 : BitVec 1 := Scalar.cmpi .slt v2330 c0_i32_1563
  let v2335 : BitVec 1 := Scalar.xori v2333 v2334
  let c0_i32_1561 : BitVec 32 := 0#32
  let v2332 : BitVec 1 := Scalar.cmpi .ne v2331 c0_i32_1561
  let v2336 : BitVec 1 := Scalar.andi v2335 v2332
  let v2337 : BitVec 32 := Scalar.addi v2331 v2330
  let v2338 : BitVec 32 := Scalar.select v2336 v2337 v2331
  let c1_i32_1570 : BitVec 32 := 1#32
  let v2343 : BitVec 32 := Scalar.muli v2338 c1_i32_1570
  let v2344 : BitVec 32 := Scalar.addi v2342 v2343
  v2344.toNat
def k0_dev53 (d0 : Dev nD) : Nat :=
  let c0_i32_1600 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1575 : BitVec 32 := 1#32
  let v2353 : BitVec 32 := Scalar.addi v2 c1_i32_1575
  let c2_i32_1576 : BitVec 32 := 2#32
  let c0_i32_1577 : BitVec 32 := 0#32
  let v2354 : BitVec 1 := Scalar.cmpi .eq c2_i32_1576 c0_i32_1577
  let c1_i32_1578 : BitVec 32 := 1#32
  let v2355 : BitVec 32 := Scalar.select v2354 c1_i32_1578 c2_i32_1576
  let v2356 : BitVec 32 := Scalar.remsi v2353 v2355
  let c0_i32_1580 : BitVec 32 := 0#32
  let v2358 : BitVec 1 := Scalar.cmpi .slt v2356 c0_i32_1580
  let c0_i32_1581 : BitVec 32 := 0#32
  let v2359 : BitVec 1 := Scalar.cmpi .slt v2355 c0_i32_1581
  let v2360 : BitVec 1 := Scalar.xori v2358 v2359
  let c0_i32_1579 : BitVec 32 := 0#32
  let v2357 : BitVec 1 := Scalar.cmpi .ne v2356 c0_i32_1579
  let v2361 : BitVec 1 := Scalar.andi v2360 v2357
  let v2362 : BitVec 32 := Scalar.addi v2356 v2355
  let v2363 : BitVec 32 := Scalar.select v2361 v2362 v2356
  let c16_i32_1599 : BitVec 32 := 16#32
  let v2386 : BitVec 32 := Scalar.muli v2363 c16_i32_1599
  let v2387 : BitVec 32 := Scalar.addi c0_i32_1600 v2386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1582 : BitVec 32 := 1#32
  let v2364 : BitVec 32 := Scalar.addi v5 c1_i32_1582
  let c4_i32_1583 : BitVec 32 := 4#32
  let c0_i32_1584 : BitVec 32 := 0#32
  let v2365 : BitVec 1 := Scalar.cmpi .eq c4_i32_1583 c0_i32_1584
  let c1_i32_1585 : BitVec 32 := 1#32
  let v2366 : BitVec 32 := Scalar.select v2365 c1_i32_1585 c4_i32_1583
  let v2367 : BitVec 32 := Scalar.remsi v2364 v2366
  let c0_i32_1587 : BitVec 32 := 0#32
  let v2369 : BitVec 1 := Scalar.cmpi .slt v2367 c0_i32_1587
  let c0_i32_1588 : BitVec 32 := 0#32
  let v2370 : BitVec 1 := Scalar.cmpi .slt v2366 c0_i32_1588
  let v2371 : BitVec 1 := Scalar.xori v2369 v2370
  let c0_i32_1586 : BitVec 32 := 0#32
  let v2368 : BitVec 1 := Scalar.cmpi .ne v2367 c0_i32_1586
  let v2372 : BitVec 1 := Scalar.andi v2371 v2368
  let v2373 : BitVec 32 := Scalar.addi v2367 v2366
  let v2374 : BitVec 32 := Scalar.select v2372 v2373 v2367
  let c4_i32_1601 : BitVec 32 := 4#32
  let v2388 : BitVec 32 := Scalar.muli v2374 c4_i32_1601
  let v2389 : BitVec 32 := Scalar.addi v2387 v2388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1589 : BitVec 32 := 2#32
  let v2375 : BitVec 32 := Scalar.addi v8 c2_i32_1589
  let c4_i32_1590 : BitVec 32 := 4#32
  let c0_i32_1591 : BitVec 32 := 0#32
  let v2376 : BitVec 1 := Scalar.cmpi .eq c4_i32_1590 c0_i32_1591
  let c1_i32_1592 : BitVec 32 := 1#32
  let v2377 : BitVec 32 := Scalar.select v2376 c1_i32_1592 c4_i32_1590
  let v2378 : BitVec 32 := Scalar.remsi v2375 v2377
  let c0_i32_1594 : BitVec 32 := 0#32
  let v2380 : BitVec 1 := Scalar.cmpi .slt v2378 c0_i32_1594
  let c0_i32_1595 : BitVec 32 := 0#32
  let v2381 : BitVec 1 := Scalar.cmpi .slt v2377 c0_i32_1595
  let v2382 : BitVec 1 := Scalar.xori v2380 v2381
  let c0_i32_1593 : BitVec 32 := 0#32
  let v2379 : BitVec 1 := Scalar.cmpi .ne v2378 c0_i32_1593
  let v2383 : BitVec 1 := Scalar.andi v2382 v2379
  let v2384 : BitVec 32 := Scalar.addi v2378 v2377
  let v2385 : BitVec 32 := Scalar.select v2383 v2384 v2378
  let c1_i32_1602 : BitVec 32 := 1#32
  let v2390 : BitVec 32 := Scalar.muli v2385 c1_i32_1602
  let v2391 : BitVec 32 := Scalar.addi v2389 v2390
  v2391.toNat
def k0_dev54 (d0 : Dev nD) : Nat :=
  let c0_i32_1632 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1607 : BitVec 32 := 1#32
  let v2400 : BitVec 32 := Scalar.addi v2 c1_i32_1607
  let c2_i32_1608 : BitVec 32 := 2#32
  let c0_i32_1609 : BitVec 32 := 0#32
  let v2401 : BitVec 1 := Scalar.cmpi .eq c2_i32_1608 c0_i32_1609
  let c1_i32_1610 : BitVec 32 := 1#32
  let v2402 : BitVec 32 := Scalar.select v2401 c1_i32_1610 c2_i32_1608
  let v2403 : BitVec 32 := Scalar.remsi v2400 v2402
  let c0_i32_1612 : BitVec 32 := 0#32
  let v2405 : BitVec 1 := Scalar.cmpi .slt v2403 c0_i32_1612
  let c0_i32_1613 : BitVec 32 := 0#32
  let v2406 : BitVec 1 := Scalar.cmpi .slt v2402 c0_i32_1613
  let v2407 : BitVec 1 := Scalar.xori v2405 v2406
  let c0_i32_1611 : BitVec 32 := 0#32
  let v2404 : BitVec 1 := Scalar.cmpi .ne v2403 c0_i32_1611
  let v2408 : BitVec 1 := Scalar.andi v2407 v2404
  let v2409 : BitVec 32 := Scalar.addi v2403 v2402
  let v2410 : BitVec 32 := Scalar.select v2408 v2409 v2403
  let c16_i32_1631 : BitVec 32 := 16#32
  let v2433 : BitVec 32 := Scalar.muli v2410 c16_i32_1631
  let v2434 : BitVec 32 := Scalar.addi c0_i32_1632 v2433
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1614 : BitVec 32 := 1#32
  let v2411 : BitVec 32 := Scalar.addi v5 c1_i32_1614
  let c4_i32_1615 : BitVec 32 := 4#32
  let c0_i32_1616 : BitVec 32 := 0#32
  let v2412 : BitVec 1 := Scalar.cmpi .eq c4_i32_1615 c0_i32_1616
  let c1_i32_1617 : BitVec 32 := 1#32
  let v2413 : BitVec 32 := Scalar.select v2412 c1_i32_1617 c4_i32_1615
  let v2414 : BitVec 32 := Scalar.remsi v2411 v2413
  let c0_i32_1619 : BitVec 32 := 0#32
  let v2416 : BitVec 1 := Scalar.cmpi .slt v2414 c0_i32_1619
  let c0_i32_1620 : BitVec 32 := 0#32
  let v2417 : BitVec 1 := Scalar.cmpi .slt v2413 c0_i32_1620
  let v2418 : BitVec 1 := Scalar.xori v2416 v2417
  let c0_i32_1618 : BitVec 32 := 0#32
  let v2415 : BitVec 1 := Scalar.cmpi .ne v2414 c0_i32_1618
  let v2419 : BitVec 1 := Scalar.andi v2418 v2415
  let v2420 : BitVec 32 := Scalar.addi v2414 v2413
  let v2421 : BitVec 32 := Scalar.select v2419 v2420 v2414
  let c4_i32_1633 : BitVec 32 := 4#32
  let v2435 : BitVec 32 := Scalar.muli v2421 c4_i32_1633
  let v2436 : BitVec 32 := Scalar.addi v2434 v2435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1621 : BitVec 32 := 3#32
  let v2422 : BitVec 32 := Scalar.addi v8 c3_i32_1621
  let c4_i32_1622 : BitVec 32 := 4#32
  let c0_i32_1623 : BitVec 32 := 0#32
  let v2423 : BitVec 1 := Scalar.cmpi .eq c4_i32_1622 c0_i32_1623
  let c1_i32_1624 : BitVec 32 := 1#32
  let v2424 : BitVec 32 := Scalar.select v2423 c1_i32_1624 c4_i32_1622
  let v2425 : BitVec 32 := Scalar.remsi v2422 v2424
  let c0_i32_1626 : BitVec 32 := 0#32
  let v2427 : BitVec 1 := Scalar.cmpi .slt v2425 c0_i32_1626
  let c0_i32_1627 : BitVec 32 := 0#32
  let v2428 : BitVec 1 := Scalar.cmpi .slt v2424 c0_i32_1627
  let v2429 : BitVec 1 := Scalar.xori v2427 v2428
  let c0_i32_1625 : BitVec 32 := 0#32
  let v2426 : BitVec 1 := Scalar.cmpi .ne v2425 c0_i32_1625
  let v2430 : BitVec 1 := Scalar.andi v2429 v2426
  let v2431 : BitVec 32 := Scalar.addi v2425 v2424
  let v2432 : BitVec 32 := Scalar.select v2430 v2431 v2425
  let c1_i32_1634 : BitVec 32 := 1#32
  let v2437 : BitVec 32 := Scalar.muli v2432 c1_i32_1634
  let v2438 : BitVec 32 := Scalar.addi v2436 v2437
  v2438.toNat
def k0_dev55 (d0 : Dev nD) : Nat :=
  let c0_i32_1664 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1639 : BitVec 32 := 1#32
  let v2447 : BitVec 32 := Scalar.addi v2 c1_i32_1639
  let c2_i32_1640 : BitVec 32 := 2#32
  let c0_i32_1641 : BitVec 32 := 0#32
  let v2448 : BitVec 1 := Scalar.cmpi .eq c2_i32_1640 c0_i32_1641
  let c1_i32_1642 : BitVec 32 := 1#32
  let v2449 : BitVec 32 := Scalar.select v2448 c1_i32_1642 c2_i32_1640
  let v2450 : BitVec 32 := Scalar.remsi v2447 v2449
  let c0_i32_1644 : BitVec 32 := 0#32
  let v2452 : BitVec 1 := Scalar.cmpi .slt v2450 c0_i32_1644
  let c0_i32_1645 : BitVec 32 := 0#32
  let v2453 : BitVec 1 := Scalar.cmpi .slt v2449 c0_i32_1645
  let v2454 : BitVec 1 := Scalar.xori v2452 v2453
  let c0_i32_1643 : BitVec 32 := 0#32
  let v2451 : BitVec 1 := Scalar.cmpi .ne v2450 c0_i32_1643
  let v2455 : BitVec 1 := Scalar.andi v2454 v2451
  let v2456 : BitVec 32 := Scalar.addi v2450 v2449
  let v2457 : BitVec 32 := Scalar.select v2455 v2456 v2450
  let c16_i32_1663 : BitVec 32 := 16#32
  let v2480 : BitVec 32 := Scalar.muli v2457 c16_i32_1663
  let v2481 : BitVec 32 := Scalar.addi c0_i32_1664 v2480
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1646 : BitVec 32 := 2#32
  let v2458 : BitVec 32 := Scalar.addi v5 c2_i32_1646
  let c4_i32_1647 : BitVec 32 := 4#32
  let c0_i32_1648 : BitVec 32 := 0#32
  let v2459 : BitVec 1 := Scalar.cmpi .eq c4_i32_1647 c0_i32_1648
  let c1_i32_1649 : BitVec 32 := 1#32
  let v2460 : BitVec 32 := Scalar.select v2459 c1_i32_1649 c4_i32_1647
  let v2461 : BitVec 32 := Scalar.remsi v2458 v2460
  let c0_i32_1651 : BitVec 32 := 0#32
  let v2463 : BitVec 1 := Scalar.cmpi .slt v2461 c0_i32_1651
  let c0_i32_1652 : BitVec 32 := 0#32
  let v2464 : BitVec 1 := Scalar.cmpi .slt v2460 c0_i32_1652
  let v2465 : BitVec 1 := Scalar.xori v2463 v2464
  let c0_i32_1650 : BitVec 32 := 0#32
  let v2462 : BitVec 1 := Scalar.cmpi .ne v2461 c0_i32_1650
  let v2466 : BitVec 1 := Scalar.andi v2465 v2462
  let v2467 : BitVec 32 := Scalar.addi v2461 v2460
  let v2468 : BitVec 32 := Scalar.select v2466 v2467 v2461
  let c4_i32_1665 : BitVec 32 := 4#32
  let v2482 : BitVec 32 := Scalar.muli v2468 c4_i32_1665
  let v2483 : BitVec 32 := Scalar.addi v2481 v2482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1653 : BitVec 32 := 0#32
  let v2469 : BitVec 32 := Scalar.addi v8 c0_i32_1653
  let c4_i32_1654 : BitVec 32 := 4#32
  let c0_i32_1655 : BitVec 32 := 0#32
  let v2470 : BitVec 1 := Scalar.cmpi .eq c4_i32_1654 c0_i32_1655
  let c1_i32_1656 : BitVec 32 := 1#32
  let v2471 : BitVec 32 := Scalar.select v2470 c1_i32_1656 c4_i32_1654
  let v2472 : BitVec 32 := Scalar.remsi v2469 v2471
  let c0_i32_1658 : BitVec 32 := 0#32
  let v2474 : BitVec 1 := Scalar.cmpi .slt v2472 c0_i32_1658
  let c0_i32_1659 : BitVec 32 := 0#32
  let v2475 : BitVec 1 := Scalar.cmpi .slt v2471 c0_i32_1659
  let v2476 : BitVec 1 := Scalar.xori v2474 v2475
  let c0_i32_1657 : BitVec 32 := 0#32
  let v2473 : BitVec 1 := Scalar.cmpi .ne v2472 c0_i32_1657
  let v2477 : BitVec 1 := Scalar.andi v2476 v2473
  let v2478 : BitVec 32 := Scalar.addi v2472 v2471
  let v2479 : BitVec 32 := Scalar.select v2477 v2478 v2472
  let c1_i32_1666 : BitVec 32 := 1#32
  let v2484 : BitVec 32 := Scalar.muli v2479 c1_i32_1666
  let v2485 : BitVec 32 := Scalar.addi v2483 v2484
  v2485.toNat
def k0_dev56 (d0 : Dev nD) : Nat :=
  let c0_i32_1696 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1671 : BitVec 32 := 1#32
  let v2494 : BitVec 32 := Scalar.addi v2 c1_i32_1671
  let c2_i32_1672 : BitVec 32 := 2#32
  let c0_i32_1673 : BitVec 32 := 0#32
  let v2495 : BitVec 1 := Scalar.cmpi .eq c2_i32_1672 c0_i32_1673
  let c1_i32_1674 : BitVec 32 := 1#32
  let v2496 : BitVec 32 := Scalar.select v2495 c1_i32_1674 c2_i32_1672
  let v2497 : BitVec 32 := Scalar.remsi v2494 v2496
  let c0_i32_1676 : BitVec 32 := 0#32
  let v2499 : BitVec 1 := Scalar.cmpi .slt v2497 c0_i32_1676
  let c0_i32_1677 : BitVec 32 := 0#32
  let v2500 : BitVec 1 := Scalar.cmpi .slt v2496 c0_i32_1677
  let v2501 : BitVec 1 := Scalar.xori v2499 v2500
  let c0_i32_1675 : BitVec 32 := 0#32
  let v2498 : BitVec 1 := Scalar.cmpi .ne v2497 c0_i32_1675
  let v2502 : BitVec 1 := Scalar.andi v2501 v2498
  let v2503 : BitVec 32 := Scalar.addi v2497 v2496
  let v2504 : BitVec 32 := Scalar.select v2502 v2503 v2497
  let c16_i32_1695 : BitVec 32 := 16#32
  let v2527 : BitVec 32 := Scalar.muli v2504 c16_i32_1695
  let v2528 : BitVec 32 := Scalar.addi c0_i32_1696 v2527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1678 : BitVec 32 := 2#32
  let v2505 : BitVec 32 := Scalar.addi v5 c2_i32_1678
  let c4_i32_1679 : BitVec 32 := 4#32
  let c0_i32_1680 : BitVec 32 := 0#32
  let v2506 : BitVec 1 := Scalar.cmpi .eq c4_i32_1679 c0_i32_1680
  let c1_i32_1681 : BitVec 32 := 1#32
  let v2507 : BitVec 32 := Scalar.select v2506 c1_i32_1681 c4_i32_1679
  let v2508 : BitVec 32 := Scalar.remsi v2505 v2507
  let c0_i32_1683 : BitVec 32 := 0#32
  let v2510 : BitVec 1 := Scalar.cmpi .slt v2508 c0_i32_1683
  let c0_i32_1684 : BitVec 32 := 0#32
  let v2511 : BitVec 1 := Scalar.cmpi .slt v2507 c0_i32_1684
  let v2512 : BitVec 1 := Scalar.xori v2510 v2511
  let c0_i32_1682 : BitVec 32 := 0#32
  let v2509 : BitVec 1 := Scalar.cmpi .ne v2508 c0_i32_1682
  let v2513 : BitVec 1 := Scalar.andi v2512 v2509
  let v2514 : BitVec 32 := Scalar.addi v2508 v2507
  let v2515 : BitVec 32 := Scalar.select v2513 v2514 v2508
  let c4_i32_1697 : BitVec 32 := 4#32
  let v2529 : BitVec 32 := Scalar.muli v2515 c4_i32_1697
  let v2530 : BitVec 32 := Scalar.addi v2528 v2529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1685 : BitVec 32 := 1#32
  let v2516 : BitVec 32 := Scalar.addi v8 c1_i32_1685
  let c4_i32_1686 : BitVec 32 := 4#32
  let c0_i32_1687 : BitVec 32 := 0#32
  let v2517 : BitVec 1 := Scalar.cmpi .eq c4_i32_1686 c0_i32_1687
  let c1_i32_1688 : BitVec 32 := 1#32
  let v2518 : BitVec 32 := Scalar.select v2517 c1_i32_1688 c4_i32_1686
  let v2519 : BitVec 32 := Scalar.remsi v2516 v2518
  let c0_i32_1690 : BitVec 32 := 0#32
  let v2521 : BitVec 1 := Scalar.cmpi .slt v2519 c0_i32_1690
  let c0_i32_1691 : BitVec 32 := 0#32
  let v2522 : BitVec 1 := Scalar.cmpi .slt v2518 c0_i32_1691
  let v2523 : BitVec 1 := Scalar.xori v2521 v2522
  let c0_i32_1689 : BitVec 32 := 0#32
  let v2520 : BitVec 1 := Scalar.cmpi .ne v2519 c0_i32_1689
  let v2524 : BitVec 1 := Scalar.andi v2523 v2520
  let v2525 : BitVec 32 := Scalar.addi v2519 v2518
  let v2526 : BitVec 32 := Scalar.select v2524 v2525 v2519
  let c1_i32_1698 : BitVec 32 := 1#32
  let v2531 : BitVec 32 := Scalar.muli v2526 c1_i32_1698
  let v2532 : BitVec 32 := Scalar.addi v2530 v2531
  v2532.toNat
def k0_dev57 (d0 : Dev nD) : Nat :=
  let c0_i32_1728 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1703 : BitVec 32 := 1#32
  let v2541 : BitVec 32 := Scalar.addi v2 c1_i32_1703
  let c2_i32_1704 : BitVec 32 := 2#32
  let c0_i32_1705 : BitVec 32 := 0#32
  let v2542 : BitVec 1 := Scalar.cmpi .eq c2_i32_1704 c0_i32_1705
  let c1_i32_1706 : BitVec 32 := 1#32
  let v2543 : BitVec 32 := Scalar.select v2542 c1_i32_1706 c2_i32_1704
  let v2544 : BitVec 32 := Scalar.remsi v2541 v2543
  let c0_i32_1708 : BitVec 32 := 0#32
  let v2546 : BitVec 1 := Scalar.cmpi .slt v2544 c0_i32_1708
  let c0_i32_1709 : BitVec 32 := 0#32
  let v2547 : BitVec 1 := Scalar.cmpi .slt v2543 c0_i32_1709
  let v2548 : BitVec 1 := Scalar.xori v2546 v2547
  let c0_i32_1707 : BitVec 32 := 0#32
  let v2545 : BitVec 1 := Scalar.cmpi .ne v2544 c0_i32_1707
  let v2549 : BitVec 1 := Scalar.andi v2548 v2545
  let v2550 : BitVec 32 := Scalar.addi v2544 v2543
  let v2551 : BitVec 32 := Scalar.select v2549 v2550 v2544
  let c16_i32_1727 : BitVec 32 := 16#32
  let v2574 : BitVec 32 := Scalar.muli v2551 c16_i32_1727
  let v2575 : BitVec 32 := Scalar.addi c0_i32_1728 v2574
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1710 : BitVec 32 := 2#32
  let v2552 : BitVec 32 := Scalar.addi v5 c2_i32_1710
  let c4_i32_1711 : BitVec 32 := 4#32
  let c0_i32_1712 : BitVec 32 := 0#32
  let v2553 : BitVec 1 := Scalar.cmpi .eq c4_i32_1711 c0_i32_1712
  let c1_i32_1713 : BitVec 32 := 1#32
  let v2554 : BitVec 32 := Scalar.select v2553 c1_i32_1713 c4_i32_1711
  let v2555 : BitVec 32 := Scalar.remsi v2552 v2554
  let c0_i32_1715 : BitVec 32 := 0#32
  let v2557 : BitVec 1 := Scalar.cmpi .slt v2555 c0_i32_1715
  let c0_i32_1716 : BitVec 32 := 0#32
  let v2558 : BitVec 1 := Scalar.cmpi .slt v2554 c0_i32_1716
  let v2559 : BitVec 1 := Scalar.xori v2557 v2558
  let c0_i32_1714 : BitVec 32 := 0#32
  let v2556 : BitVec 1 := Scalar.cmpi .ne v2555 c0_i32_1714
  let v2560 : BitVec 1 := Scalar.andi v2559 v2556
  let v2561 : BitVec 32 := Scalar.addi v2555 v2554
  let v2562 : BitVec 32 := Scalar.select v2560 v2561 v2555
  let c4_i32_1729 : BitVec 32 := 4#32
  let v2576 : BitVec 32 := Scalar.muli v2562 c4_i32_1729
  let v2577 : BitVec 32 := Scalar.addi v2575 v2576
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1717 : BitVec 32 := 2#32
  let v2563 : BitVec 32 := Scalar.addi v8 c2_i32_1717
  let c4_i32_1718 : BitVec 32 := 4#32
  let c0_i32_1719 : BitVec 32 := 0#32
  let v2564 : BitVec 1 := Scalar.cmpi .eq c4_i32_1718 c0_i32_1719
  let c1_i32_1720 : BitVec 32 := 1#32
  let v2565 : BitVec 32 := Scalar.select v2564 c1_i32_1720 c4_i32_1718
  let v2566 : BitVec 32 := Scalar.remsi v2563 v2565
  let c0_i32_1722 : BitVec 32 := 0#32
  let v2568 : BitVec 1 := Scalar.cmpi .slt v2566 c0_i32_1722
  let c0_i32_1723 : BitVec 32 := 0#32
  let v2569 : BitVec 1 := Scalar.cmpi .slt v2565 c0_i32_1723
  let v2570 : BitVec 1 := Scalar.xori v2568 v2569
  let c0_i32_1721 : BitVec 32 := 0#32
  let v2567 : BitVec 1 := Scalar.cmpi .ne v2566 c0_i32_1721
  let v2571 : BitVec 1 := Scalar.andi v2570 v2567
  let v2572 : BitVec 32 := Scalar.addi v2566 v2565
  let v2573 : BitVec 32 := Scalar.select v2571 v2572 v2566
  let c1_i32_1730 : BitVec 32 := 1#32
  let v2578 : BitVec 32 := Scalar.muli v2573 c1_i32_1730
  let v2579 : BitVec 32 := Scalar.addi v2577 v2578
  v2579.toNat
def k0_dev58 (d0 : Dev nD) : Nat :=
  let c0_i32_1760 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1735 : BitVec 32 := 1#32
  let v2588 : BitVec 32 := Scalar.addi v2 c1_i32_1735
  let c2_i32_1736 : BitVec 32 := 2#32
  let c0_i32_1737 : BitVec 32 := 0#32
  let v2589 : BitVec 1 := Scalar.cmpi .eq c2_i32_1736 c0_i32_1737
  let c1_i32_1738 : BitVec 32 := 1#32
  let v2590 : BitVec 32 := Scalar.select v2589 c1_i32_1738 c2_i32_1736
  let v2591 : BitVec 32 := Scalar.remsi v2588 v2590
  let c0_i32_1740 : BitVec 32 := 0#32
  let v2593 : BitVec 1 := Scalar.cmpi .slt v2591 c0_i32_1740
  let c0_i32_1741 : BitVec 32 := 0#32
  let v2594 : BitVec 1 := Scalar.cmpi .slt v2590 c0_i32_1741
  let v2595 : BitVec 1 := Scalar.xori v2593 v2594
  let c0_i32_1739 : BitVec 32 := 0#32
  let v2592 : BitVec 1 := Scalar.cmpi .ne v2591 c0_i32_1739
  let v2596 : BitVec 1 := Scalar.andi v2595 v2592
  let v2597 : BitVec 32 := Scalar.addi v2591 v2590
  let v2598 : BitVec 32 := Scalar.select v2596 v2597 v2591
  let c16_i32_1759 : BitVec 32 := 16#32
  let v2621 : BitVec 32 := Scalar.muli v2598 c16_i32_1759
  let v2622 : BitVec 32 := Scalar.addi c0_i32_1760 v2621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1742 : BitVec 32 := 2#32
  let v2599 : BitVec 32 := Scalar.addi v5 c2_i32_1742
  let c4_i32_1743 : BitVec 32 := 4#32
  let c0_i32_1744 : BitVec 32 := 0#32
  let v2600 : BitVec 1 := Scalar.cmpi .eq c4_i32_1743 c0_i32_1744
  let c1_i32_1745 : BitVec 32 := 1#32
  let v2601 : BitVec 32 := Scalar.select v2600 c1_i32_1745 c4_i32_1743
  let v2602 : BitVec 32 := Scalar.remsi v2599 v2601
  let c0_i32_1747 : BitVec 32 := 0#32
  let v2604 : BitVec 1 := Scalar.cmpi .slt v2602 c0_i32_1747
  let c0_i32_1748 : BitVec 32 := 0#32
  let v2605 : BitVec 1 := Scalar.cmpi .slt v2601 c0_i32_1748
  let v2606 : BitVec 1 := Scalar.xori v2604 v2605
  let c0_i32_1746 : BitVec 32 := 0#32
  let v2603 : BitVec 1 := Scalar.cmpi .ne v2602 c0_i32_1746
  let v2607 : BitVec 1 := Scalar.andi v2606 v2603
  let v2608 : BitVec 32 := Scalar.addi v2602 v2601
  let v2609 : BitVec 32 := Scalar.select v2607 v2608 v2602
  let c4_i32_1761 : BitVec 32 := 4#32
  let v2623 : BitVec 32 := Scalar.muli v2609 c4_i32_1761
  let v2624 : BitVec 32 := Scalar.addi v2622 v2623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1749 : BitVec 32 := 3#32
  let v2610 : BitVec 32 := Scalar.addi v8 c3_i32_1749
  let c4_i32_1750 : BitVec 32 := 4#32
  let c0_i32_1751 : BitVec 32 := 0#32
  let v2611 : BitVec 1 := Scalar.cmpi .eq c4_i32_1750 c0_i32_1751
  let c1_i32_1752 : BitVec 32 := 1#32
  let v2612 : BitVec 32 := Scalar.select v2611 c1_i32_1752 c4_i32_1750
  let v2613 : BitVec 32 := Scalar.remsi v2610 v2612
  let c0_i32_1754 : BitVec 32 := 0#32
  let v2615 : BitVec 1 := Scalar.cmpi .slt v2613 c0_i32_1754
  let c0_i32_1755 : BitVec 32 := 0#32
  let v2616 : BitVec 1 := Scalar.cmpi .slt v2612 c0_i32_1755
  let v2617 : BitVec 1 := Scalar.xori v2615 v2616
  let c0_i32_1753 : BitVec 32 := 0#32
  let v2614 : BitVec 1 := Scalar.cmpi .ne v2613 c0_i32_1753
  let v2618 : BitVec 1 := Scalar.andi v2617 v2614
  let v2619 : BitVec 32 := Scalar.addi v2613 v2612
  let v2620 : BitVec 32 := Scalar.select v2618 v2619 v2613
  let c1_i32_1762 : BitVec 32 := 1#32
  let v2625 : BitVec 32 := Scalar.muli v2620 c1_i32_1762
  let v2626 : BitVec 32 := Scalar.addi v2624 v2625
  v2626.toNat
def k0_dev59 (d0 : Dev nD) : Nat :=
  let c0_i32_1792 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1767 : BitVec 32 := 1#32
  let v2635 : BitVec 32 := Scalar.addi v2 c1_i32_1767
  let c2_i32_1768 : BitVec 32 := 2#32
  let c0_i32_1769 : BitVec 32 := 0#32
  let v2636 : BitVec 1 := Scalar.cmpi .eq c2_i32_1768 c0_i32_1769
  let c1_i32_1770 : BitVec 32 := 1#32
  let v2637 : BitVec 32 := Scalar.select v2636 c1_i32_1770 c2_i32_1768
  let v2638 : BitVec 32 := Scalar.remsi v2635 v2637
  let c0_i32_1772 : BitVec 32 := 0#32
  let v2640 : BitVec 1 := Scalar.cmpi .slt v2638 c0_i32_1772
  let c0_i32_1773 : BitVec 32 := 0#32
  let v2641 : BitVec 1 := Scalar.cmpi .slt v2637 c0_i32_1773
  let v2642 : BitVec 1 := Scalar.xori v2640 v2641
  let c0_i32_1771 : BitVec 32 := 0#32
  let v2639 : BitVec 1 := Scalar.cmpi .ne v2638 c0_i32_1771
  let v2643 : BitVec 1 := Scalar.andi v2642 v2639
  let v2644 : BitVec 32 := Scalar.addi v2638 v2637
  let v2645 : BitVec 32 := Scalar.select v2643 v2644 v2638
  let c16_i32_1791 : BitVec 32 := 16#32
  let v2668 : BitVec 32 := Scalar.muli v2645 c16_i32_1791
  let v2669 : BitVec 32 := Scalar.addi c0_i32_1792 v2668
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1774 : BitVec 32 := 3#32
  let v2646 : BitVec 32 := Scalar.addi v5 c3_i32_1774
  let c4_i32_1775 : BitVec 32 := 4#32
  let c0_i32_1776 : BitVec 32 := 0#32
  let v2647 : BitVec 1 := Scalar.cmpi .eq c4_i32_1775 c0_i32_1776
  let c1_i32_1777 : BitVec 32 := 1#32
  let v2648 : BitVec 32 := Scalar.select v2647 c1_i32_1777 c4_i32_1775
  let v2649 : BitVec 32 := Scalar.remsi v2646 v2648
  let c0_i32_1779 : BitVec 32 := 0#32
  let v2651 : BitVec 1 := Scalar.cmpi .slt v2649 c0_i32_1779
  let c0_i32_1780 : BitVec 32 := 0#32
  let v2652 : BitVec 1 := Scalar.cmpi .slt v2648 c0_i32_1780
  let v2653 : BitVec 1 := Scalar.xori v2651 v2652
  let c0_i32_1778 : BitVec 32 := 0#32
  let v2650 : BitVec 1 := Scalar.cmpi .ne v2649 c0_i32_1778
  let v2654 : BitVec 1 := Scalar.andi v2653 v2650
  let v2655 : BitVec 32 := Scalar.addi v2649 v2648
  let v2656 : BitVec 32 := Scalar.select v2654 v2655 v2649
  let c4_i32_1793 : BitVec 32 := 4#32
  let v2670 : BitVec 32 := Scalar.muli v2656 c4_i32_1793
  let v2671 : BitVec 32 := Scalar.addi v2669 v2670
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1781 : BitVec 32 := 0#32
  let v2657 : BitVec 32 := Scalar.addi v8 c0_i32_1781
  let c4_i32_1782 : BitVec 32 := 4#32
  let c0_i32_1783 : BitVec 32 := 0#32
  let v2658 : BitVec 1 := Scalar.cmpi .eq c4_i32_1782 c0_i32_1783
  let c1_i32_1784 : BitVec 32 := 1#32
  let v2659 : BitVec 32 := Scalar.select v2658 c1_i32_1784 c4_i32_1782
  let v2660 : BitVec 32 := Scalar.remsi v2657 v2659
  let c0_i32_1786 : BitVec 32 := 0#32
  let v2662 : BitVec 1 := Scalar.cmpi .slt v2660 c0_i32_1786
  let c0_i32_1787 : BitVec 32 := 0#32
  let v2663 : BitVec 1 := Scalar.cmpi .slt v2659 c0_i32_1787
  let v2664 : BitVec 1 := Scalar.xori v2662 v2663
  let c0_i32_1785 : BitVec 32 := 0#32
  let v2661 : BitVec 1 := Scalar.cmpi .ne v2660 c0_i32_1785
  let v2665 : BitVec 1 := Scalar.andi v2664 v2661
  let v2666 : BitVec 32 := Scalar.addi v2660 v2659
  let v2667 : BitVec 32 := Scalar.select v2665 v2666 v2660
  let c1_i32_1794 : BitVec 32 := 1#32
  let v2672 : BitVec 32 := Scalar.muli v2667 c1_i32_1794
  let v2673 : BitVec 32 := Scalar.addi v2671 v2672
  v2673.toNat
def k0_dev60 (d0 : Dev nD) : Nat :=
  let c0_i32_1824 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1799 : BitVec 32 := 1#32
  let v2682 : BitVec 32 := Scalar.addi v2 c1_i32_1799
  let c2_i32_1800 : BitVec 32 := 2#32
  let c0_i32_1801 : BitVec 32 := 0#32
  let v2683 : BitVec 1 := Scalar.cmpi .eq c2_i32_1800 c0_i32_1801
  let c1_i32_1802 : BitVec 32 := 1#32
  let v2684 : BitVec 32 := Scalar.select v2683 c1_i32_1802 c2_i32_1800
  let v2685 : BitVec 32 := Scalar.remsi v2682 v2684
  let c0_i32_1804 : BitVec 32 := 0#32
  let v2687 : BitVec 1 := Scalar.cmpi .slt v2685 c0_i32_1804
  let c0_i32_1805 : BitVec 32 := 0#32
  let v2688 : BitVec 1 := Scalar.cmpi .slt v2684 c0_i32_1805
  let v2689 : BitVec 1 := Scalar.xori v2687 v2688
  let c0_i32_1803 : BitVec 32 := 0#32
  let v2686 : BitVec 1 := Scalar.cmpi .ne v2685 c0_i32_1803
  let v2690 : BitVec 1 := Scalar.andi v2689 v2686
  let v2691 : BitVec 32 := Scalar.addi v2685 v2684
  let v2692 : BitVec 32 := Scalar.select v2690 v2691 v2685
  let c16_i32_1823 : BitVec 32 := 16#32
  let v2715 : BitVec 32 := Scalar.muli v2692 c16_i32_1823
  let v2716 : BitVec 32 := Scalar.addi c0_i32_1824 v2715
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1806 : BitVec 32 := 3#32
  let v2693 : BitVec 32 := Scalar.addi v5 c3_i32_1806
  let c4_i32_1807 : BitVec 32 := 4#32
  let c0_i32_1808 : BitVec 32 := 0#32
  let v2694 : BitVec 1 := Scalar.cmpi .eq c4_i32_1807 c0_i32_1808
  let c1_i32_1809 : BitVec 32 := 1#32
  let v2695 : BitVec 32 := Scalar.select v2694 c1_i32_1809 c4_i32_1807
  let v2696 : BitVec 32 := Scalar.remsi v2693 v2695
  let c0_i32_1811 : BitVec 32 := 0#32
  let v2698 : BitVec 1 := Scalar.cmpi .slt v2696 c0_i32_1811
  let c0_i32_1812 : BitVec 32 := 0#32
  let v2699 : BitVec 1 := Scalar.cmpi .slt v2695 c0_i32_1812
  let v2700 : BitVec 1 := Scalar.xori v2698 v2699
  let c0_i32_1810 : BitVec 32 := 0#32
  let v2697 : BitVec 1 := Scalar.cmpi .ne v2696 c0_i32_1810
  let v2701 : BitVec 1 := Scalar.andi v2700 v2697
  let v2702 : BitVec 32 := Scalar.addi v2696 v2695
  let v2703 : BitVec 32 := Scalar.select v2701 v2702 v2696
  let c4_i32_1825 : BitVec 32 := 4#32
  let v2717 : BitVec 32 := Scalar.muli v2703 c4_i32_1825
  let v2718 : BitVec 32 := Scalar.addi v2716 v2717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1813 : BitVec 32 := 1#32
  let v2704 : BitVec 32 := Scalar.addi v8 c1_i32_1813
  let c4_i32_1814 : BitVec 32 := 4#32
  let c0_i32_1815 : BitVec 32 := 0#32
  let v2705 : BitVec 1 := Scalar.cmpi .eq c4_i32_1814 c0_i32_1815
  let c1_i32_1816 : BitVec 32 := 1#32
  let v2706 : BitVec 32 := Scalar.select v2705 c1_i32_1816 c4_i32_1814
  let v2707 : BitVec 32 := Scalar.remsi v2704 v2706
  let c0_i32_1818 : BitVec 32 := 0#32
  let v2709 : BitVec 1 := Scalar.cmpi .slt v2707 c0_i32_1818
  let c0_i32_1819 : BitVec 32 := 0#32
  let v2710 : BitVec 1 := Scalar.cmpi .slt v2706 c0_i32_1819
  let v2711 : BitVec 1 := Scalar.xori v2709 v2710
  let c0_i32_1817 : BitVec 32 := 0#32
  let v2708 : BitVec 1 := Scalar.cmpi .ne v2707 c0_i32_1817
  let v2712 : BitVec 1 := Scalar.andi v2711 v2708
  let v2713 : BitVec 32 := Scalar.addi v2707 v2706
  let v2714 : BitVec 32 := Scalar.select v2712 v2713 v2707
  let c1_i32_1826 : BitVec 32 := 1#32
  let v2719 : BitVec 32 := Scalar.muli v2714 c1_i32_1826
  let v2720 : BitVec 32 := Scalar.addi v2718 v2719
  v2720.toNat
def k0_dev61 (d0 : Dev nD) : Nat :=
  let c0_i32_1856 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1831 : BitVec 32 := 1#32
  let v2729 : BitVec 32 := Scalar.addi v2 c1_i32_1831
  let c2_i32_1832 : BitVec 32 := 2#32
  let c0_i32_1833 : BitVec 32 := 0#32
  let v2730 : BitVec 1 := Scalar.cmpi .eq c2_i32_1832 c0_i32_1833
  let c1_i32_1834 : BitVec 32 := 1#32
  let v2731 : BitVec 32 := Scalar.select v2730 c1_i32_1834 c2_i32_1832
  let v2732 : BitVec 32 := Scalar.remsi v2729 v2731
  let c0_i32_1836 : BitVec 32 := 0#32
  let v2734 : BitVec 1 := Scalar.cmpi .slt v2732 c0_i32_1836
  let c0_i32_1837 : BitVec 32 := 0#32
  let v2735 : BitVec 1 := Scalar.cmpi .slt v2731 c0_i32_1837
  let v2736 : BitVec 1 := Scalar.xori v2734 v2735
  let c0_i32_1835 : BitVec 32 := 0#32
  let v2733 : BitVec 1 := Scalar.cmpi .ne v2732 c0_i32_1835
  let v2737 : BitVec 1 := Scalar.andi v2736 v2733
  let v2738 : BitVec 32 := Scalar.addi v2732 v2731
  let v2739 : BitVec 32 := Scalar.select v2737 v2738 v2732
  let c16_i32_1855 : BitVec 32 := 16#32
  let v2762 : BitVec 32 := Scalar.muli v2739 c16_i32_1855
  let v2763 : BitVec 32 := Scalar.addi c0_i32_1856 v2762
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1838 : BitVec 32 := 3#32
  let v2740 : BitVec 32 := Scalar.addi v5 c3_i32_1838
  let c4_i32_1839 : BitVec 32 := 4#32
  let c0_i32_1840 : BitVec 32 := 0#32
  let v2741 : BitVec 1 := Scalar.cmpi .eq c4_i32_1839 c0_i32_1840
  let c1_i32_1841 : BitVec 32 := 1#32
  let v2742 : BitVec 32 := Scalar.select v2741 c1_i32_1841 c4_i32_1839
  let v2743 : BitVec 32 := Scalar.remsi v2740 v2742
  let c0_i32_1843 : BitVec 32 := 0#32
  let v2745 : BitVec 1 := Scalar.cmpi .slt v2743 c0_i32_1843
  let c0_i32_1844 : BitVec 32 := 0#32
  let v2746 : BitVec 1 := Scalar.cmpi .slt v2742 c0_i32_1844
  let v2747 : BitVec 1 := Scalar.xori v2745 v2746
  let c0_i32_1842 : BitVec 32 := 0#32
  let v2744 : BitVec 1 := Scalar.cmpi .ne v2743 c0_i32_1842
  let v2748 : BitVec 1 := Scalar.andi v2747 v2744
  let v2749 : BitVec 32 := Scalar.addi v2743 v2742
  let v2750 : BitVec 32 := Scalar.select v2748 v2749 v2743
  let c4_i32_1857 : BitVec 32 := 4#32
  let v2764 : BitVec 32 := Scalar.muli v2750 c4_i32_1857
  let v2765 : BitVec 32 := Scalar.addi v2763 v2764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1845 : BitVec 32 := 2#32
  let v2751 : BitVec 32 := Scalar.addi v8 c2_i32_1845
  let c4_i32_1846 : BitVec 32 := 4#32
  let c0_i32_1847 : BitVec 32 := 0#32
  let v2752 : BitVec 1 := Scalar.cmpi .eq c4_i32_1846 c0_i32_1847
  let c1_i32_1848 : BitVec 32 := 1#32
  let v2753 : BitVec 32 := Scalar.select v2752 c1_i32_1848 c4_i32_1846
  let v2754 : BitVec 32 := Scalar.remsi v2751 v2753
  let c0_i32_1850 : BitVec 32 := 0#32
  let v2756 : BitVec 1 := Scalar.cmpi .slt v2754 c0_i32_1850
  let c0_i32_1851 : BitVec 32 := 0#32
  let v2757 : BitVec 1 := Scalar.cmpi .slt v2753 c0_i32_1851
  let v2758 : BitVec 1 := Scalar.xori v2756 v2757
  let c0_i32_1849 : BitVec 32 := 0#32
  let v2755 : BitVec 1 := Scalar.cmpi .ne v2754 c0_i32_1849
  let v2759 : BitVec 1 := Scalar.andi v2758 v2755
  let v2760 : BitVec 32 := Scalar.addi v2754 v2753
  let v2761 : BitVec 32 := Scalar.select v2759 v2760 v2754
  let c1_i32_1858 : BitVec 32 := 1#32
  let v2766 : BitVec 32 := Scalar.muli v2761 c1_i32_1858
  let v2767 : BitVec 32 := Scalar.addi v2765 v2766
  v2767.toNat
def k0_dev62 (d0 : Dev nD) : Nat :=
  let c0_i32_1889 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_1863 : BitVec 32 := 1#32
  let v2776 : BitVec 32 := Scalar.addi v2 c1_i32_1863
  let c2_i32_1864 : BitVec 32 := 2#32
  let c0_i32_1865 : BitVec 32 := 0#32
  let v2777 : BitVec 1 := Scalar.cmpi .eq c2_i32_1864 c0_i32_1865
  let c1_i32_1866 : BitVec 32 := 1#32
  let v2778 : BitVec 32 := Scalar.select v2777 c1_i32_1866 c2_i32_1864
  let v2779 : BitVec 32 := Scalar.remsi v2776 v2778
  let c0_i32_1868 : BitVec 32 := 0#32
  let v2781 : BitVec 1 := Scalar.cmpi .slt v2779 c0_i32_1868
  let c0_i32_1869 : BitVec 32 := 0#32
  let v2782 : BitVec 1 := Scalar.cmpi .slt v2778 c0_i32_1869
  let v2783 : BitVec 1 := Scalar.xori v2781 v2782
  let c0_i32_1867 : BitVec 32 := 0#32
  let v2780 : BitVec 1 := Scalar.cmpi .ne v2779 c0_i32_1867
  let v2784 : BitVec 1 := Scalar.andi v2783 v2780
  let v2785 : BitVec 32 := Scalar.addi v2779 v2778
  let v2786 : BitVec 32 := Scalar.select v2784 v2785 v2779
  let c16_i32_1888 : BitVec 32 := 16#32
  let v2809 : BitVec 32 := Scalar.muli v2786 c16_i32_1888
  let v2810 : BitVec 32 := Scalar.addi c0_i32_1889 v2809
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1870 : BitVec 32 := 3#32
  let v2787 : BitVec 32 := Scalar.addi v5 c3_i32_1870
  let c4_i32_1871 : BitVec 32 := 4#32
  let c0_i32_1872 : BitVec 32 := 0#32
  let v2788 : BitVec 1 := Scalar.cmpi .eq c4_i32_1871 c0_i32_1872
  let c1_i32_1873 : BitVec 32 := 1#32
  let v2789 : BitVec 32 := Scalar.select v2788 c1_i32_1873 c4_i32_1871
  let v2790 : BitVec 32 := Scalar.remsi v2787 v2789
  let c0_i32_1875 : BitVec 32 := 0#32
  let v2792 : BitVec 1 := Scalar.cmpi .slt v2790 c0_i32_1875
  let c0_i32_1876 : BitVec 32 := 0#32
  let v2793 : BitVec 1 := Scalar.cmpi .slt v2789 c0_i32_1876
  let v2794 : BitVec 1 := Scalar.xori v2792 v2793
  let c0_i32_1874 : BitVec 32 := 0#32
  let v2791 : BitVec 1 := Scalar.cmpi .ne v2790 c0_i32_1874
  let v2795 : BitVec 1 := Scalar.andi v2794 v2791
  let v2796 : BitVec 32 := Scalar.addi v2790 v2789
  let v2797 : BitVec 32 := Scalar.select v2795 v2796 v2790
  let c4_i32_1890 : BitVec 32 := 4#32
  let v2811 : BitVec 32 := Scalar.muli v2797 c4_i32_1890
  let v2812 : BitVec 32 := Scalar.addi v2810 v2811
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1877 : BitVec 32 := 3#32
  let v2798 : BitVec 32 := Scalar.addi v8 c3_i32_1877
  let c4_i32_1878 : BitVec 32 := 4#32
  let c0_i32_1879 : BitVec 32 := 0#32
  let v2799 : BitVec 1 := Scalar.cmpi .eq c4_i32_1878 c0_i32_1879
  let c1_i32_1880 : BitVec 32 := 1#32
  let v2800 : BitVec 32 := Scalar.select v2799 c1_i32_1880 c4_i32_1878
  let v2801 : BitVec 32 := Scalar.remsi v2798 v2800
  let c0_i32_1882 : BitVec 32 := 0#32
  let v2803 : BitVec 1 := Scalar.cmpi .slt v2801 c0_i32_1882
  let c0_i32_1883 : BitVec 32 := 0#32
  let v2804 : BitVec 1 := Scalar.cmpi .slt v2800 c0_i32_1883
  let v2805 : BitVec 1 := Scalar.xori v2803 v2804
  let c0_i32_1881 : BitVec 32 := 0#32
  let v2802 : BitVec 1 := Scalar.cmpi .ne v2801 c0_i32_1881
  let v2806 : BitVec 1 := Scalar.andi v2805 v2802
  let v2807 : BitVec 32 := Scalar.addi v2801 v2800
  let v2808 : BitVec 32 := Scalar.select v2806 v2807 v2801
  let c1_i32_1891 : BitVec 32 := 1#32
  let v2813 : BitVec 32 := Scalar.muli v2808 c1_i32_1891
  let v2814 : BitVec 32 := Scalar.addi v2812 v2813
  v2814.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x32768 : Shape := ⟨2, ![1024, 32768]⟩
abbrev S512 : Shape := ⟨1, ![512]⟩
abbrev S512x32768 : Shape := ⟨2, ![512, 32768]⟩
abbrev S_ : Shape := ⟨0, ![]⟩
abbrev S512x1 : Shape := ⟨2, ![512, 1]⟩
abbrev S512x2 : Shape := ⟨2, ![512, 2]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S512, .i32⟩
  | .hbm, ⟨3, _⟩ => ⟨S512x32768, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x32768, .f32⟩
  | .hbm, ⟨8, _⟩ => ⟨S512x32768, .f32⟩
  | .hbm, ⟨9, _⟩ => ⟨S512x32768, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1, .i32⟩
  | .hbm, ⟨33, _⟩ => ⟨S512x2, .i32⟩
  | .hbm, ⟨34, _⟩ => ⟨S512, .f32⟩
  | .hbm, ⟨35, _⟩ => ⟨S512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Program.lean ====
/-
The kernel body as loops.

One device's body does the same thing for each of the 31 offsets of the mesh: signals the peer at the offset, later
copies its partial sums to it, later waits for the copy it receives and for the copy it sent. The printed body writes
these out one after another. Here the body is written with one step per kind of effect and a list of offsets, and
`body_eq` says that this is the printed body: the two unfold to the same program.
-/
module

public import proofs.«01_k».proof.Proof.Gen.KernelIdeal
public import proofs.«01_k».proof.Proof.Gen.KernelIdeal.Skeleton

@[expose] public section

noncomputable section

namespace Cert.Nll

open Cert.KernelIdeal Cert.KernelIdeal.Gen
open Idealize.ShloMosaic Idealize.SL.Sem

variable {F : FTy → Type} [FloatOps F]

/-! ## The buffers the body is called with -/

/-- The staged copy of the tokens' features. -/
abbrev xM : Memref sig .tc .vmem S512x1024 .f32 := Memref.whole cc0_stg0_0
/-- The device's columns of the weights, in HBM. -/
abbrev aM : Memref sig .tc .hbm S1024x8192 .f32 := Memref.whole main_arg1
/-- The staged copy of the labels. -/
abbrev labM : Memref sig .tc .vmem S512 .i32 := Memref.whole cc0_stg1_0
/-- The staging buffer of the result. -/
abbrev oM : Memref sig .tc .vmem S512 .f32 := Memref.whole cc0_stg2_0
/-- Four slots, one per chunk of 256 columns. -/
abbrev wM : Memref sig .tc .vmem S4x1024x256 .f32 := Memref.whole cc0_scratch0
/-- Thirty-two slots of partial sums: slot 0 the device's own, slot `1 + k` the one received at offset `k`. -/
abbrev commM : Memref sig .tc .vmem S32x2x512 .f32 := Memref.whole cc0_scratch1

/-- The barrier semaphore. -/
abbrev barS : Sem sig := (SemArray.scalar (sig.barrier 0 rfl) : Sems sig S_).sem

/-! ## Slices at a variable index -/

/-- Each of the 32 slots lies in its buffer. -/
theorem slot_inb (s : Fin 32) : ∀ a : Fin 3, (![s.val, 0, 0] : Fin 3 → ℕ) a + S1x2x512.size a ≤ S32x2x512.size a := by
  have := s.isLt
  intro a; fin_cases a
  · show s.val + 1 ≤ 32; omega
  · show 0 + 2 ≤ 2; omega
  · show 0 + 512 ≤ 512; omega
/-- Each of the four chunk slots lies in its buffer. -/
theorem wslot_inb (r : Fin 4) : ∀ a : Fin 3, (![r.val, 0, 0] : Fin 3 → ℕ) a + S1x1024x256.size a ≤ S4x1024x256.size a := by
  have := r.isLt
  intro a; fin_cases a
  · show r.val + 1 ≤ 4; omega
  · show 0 + 1024 ≤ 1024; omega
  · show 0 + 256 ≤ 256; omega
/-- Each of the four semaphores of the chunk copies is in their array. -/
theorem sem4_inb (r : Fin 4) : ∀ a : Fin 1, (![r.val] : Fin 1 → ℕ) a + S1.size a ≤ S4.size a := by
  have := r.isLt
  intro a; fin_cases a; show r.val + 1 ≤ 4; omega
/-- Each offset has a semaphore in an array of 31. -/
theorem sem31_inb (k : Fin 31) : ∀ a : Fin 1, (![k.val] : Fin 1 → ℕ) a + S1.size a ≤ S31.size a := by
  have := k.isLt
  intro a; fin_cases a; show k.val + 1 ≤ 31; omega

/-- Slot `s` of the partial sums. -/
abbrev slot (s : Fin 32) : Memref sig .tc .vmem S2x512 .f32 :=
  (commM.slice (Rect.unit (s := S32x2x512) ![s.val, 0, 0] S1x2x512.size (slot_inb s)) (fun _ => rfl)).squeeze S2x512 squeezes_S1x2x512_S2x512
/-- Slot `r` of the chunks. -/
abbrev wslot (r : Fin 4) : Memref sig .tc .vmem S1024x256 .f32 :=
  (wM.slice (Rect.unit (s := S4x1024x256) ![r.val, 0, 0] S1x1024x256.size (wslot_inb r)) (fun _ => rfl)).squeeze S1024x256 squeezes_S1x1024x256_S1024x256
/-- The 256 columns of the weights that chunk `r` of device `d` takes. -/
abbrev acols (d : Dev nD) (r : Fin 4) : Memref sig .tc .hbm S1024x256 .f32 :=
  aM.slice (Rect.unit (s := S1024x8192) (k0_off1 d (BitVec.ofNat 32 (256 * r.val))) S1024x256.size (k0_off1_inb d r)) (fun _ => rfl)
/-- The semaphore of chunk `r`'s copy. -/
abbrev copyS (r : Fin 4) : DmaSem sig := ((cc0_scratch2.slice (Rect.unit (s := S4) ![r.val] S1.size (sem4_inb r))).squeeze S_ squeezes_S1_S_).sem
/-- The semaphore counting what was read of the copy sent at offset `k`. -/
abbrev sendS (k : Fin 31) : DmaSem sig := ((cc0_scratch3.slice (Rect.unit (s := S31) ![k.val] S1.size (sem31_inb k))).squeeze S_ squeezes_S1_S_).sem
/-- The semaphore counting what was written by the copy received at offset `k`. -/
abbrev recvS (k : Fin 31) : DmaSem sig := ((cc0_scratch4.slice (Rect.unit (s := S31) ![k.val] S1.size (sem31_inb k))).squeeze S_ squeezes_S1_S_).sem

/-! ## The peers, as the body computes them -/

/-- Whom the signal at offset `k` is sent to. -/
def sigDev (d : Dev nD) : Fin 31 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩, ⟨k0_dev16 d, k0_dev16_lt d⟩,
    ⟨k0_dev17 d, k0_dev17_lt d⟩, ⟨k0_dev18 d, k0_dev18_lt d⟩, ⟨k0_dev19 d, k0_dev19_lt d⟩, ⟨k0_dev20 d, k0_dev20_lt d⟩,
    ⟨k0_dev21 d, k0_dev21_lt d⟩, ⟨k0_dev22 d, k0_dev22_lt d⟩, ⟨k0_dev23 d, k0_dev23_lt d⟩, ⟨k0_dev24 d, k0_dev24_lt d⟩,
    ⟨k0_dev25 d, k0_dev25_lt d⟩, ⟨k0_dev26 d, k0_dev26_lt d⟩, ⟨k0_dev27 d, k0_dev27_lt d⟩, ⟨k0_dev28 d, k0_dev28_lt d⟩,
    ⟨k0_dev29 d, k0_dev29_lt d⟩, ⟨k0_dev30 d, k0_dev30_lt d⟩, ⟨k0_dev31 d, k0_dev31_lt d⟩]
/-- Whom the copy at offset `k` is sent to. -/
def sndDev (d : Dev nD) : Fin 31 → Dev nD :=
  ![⟨k0_dev32 d, k0_dev32_lt d⟩, ⟨k0_dev33 d, k0_dev33_lt d⟩, ⟨k0_dev34 d, k0_dev34_lt d⟩, ⟨k0_dev35 d, k0_dev35_lt d⟩,
    ⟨k0_dev36 d, k0_dev36_lt d⟩, ⟨k0_dev37 d, k0_dev37_lt d⟩, ⟨k0_dev38 d, k0_dev38_lt d⟩, ⟨k0_dev39 d, k0_dev39_lt d⟩,
    ⟨k0_dev40 d, k0_dev40_lt d⟩, ⟨k0_dev41 d, k0_dev41_lt d⟩, ⟨k0_dev42 d, k0_dev42_lt d⟩, ⟨k0_dev43 d, k0_dev43_lt d⟩,
    ⟨k0_dev44 d, k0_dev44_lt d⟩, ⟨k0_dev45 d, k0_dev45_lt d⟩, ⟨k0_dev46 d, k0_dev46_lt d⟩, ⟨k0_dev47 d, k0_dev47_lt d⟩,
    ⟨k0_dev48 d, k0_dev48_lt d⟩, ⟨k0_dev49 d, k0_dev49_lt d⟩, ⟨k0_dev50 d, k0_dev50_lt d⟩, ⟨k0_dev51 d, k0_dev51_lt d⟩,
    ⟨k0_dev52 d, k0_dev52_lt d⟩, ⟨k0_dev53 d, k0_dev53_lt d⟩, ⟨k0_dev54 d, k0_dev54_lt d⟩, ⟨k0_dev55 d, k0_dev55_lt d⟩,
    ⟨k0_dev56 d, k0_dev56_lt d⟩, ⟨k0_dev57 d, k0_dev57_lt d⟩, ⟨k0_dev58 d, k0_dev58_lt d⟩, ⟨k0_dev59 d, k0_dev59_lt d⟩,
    ⟨k0_dev60 d, k0_dev60_lt d⟩, ⟨k0_dev61 d, k0_dev61_lt d⟩, ⟨k0_dev62 d, k0_dev62_lt d⟩]

/-- The mesh row of the device, as a word. -/
abbrev yWord (d : Dev nD) : BitVec 32 := Scalar.remsi (Scalar.divsi (Dev.word d) 4#32) 4#32
/-- The first column of the device's share of its row's columns, as a word. -/
abbrev baseWord (d : Dev nD) : BitVec 32 :=
  Scalar.muli (Scalar.addi (Scalar.muli (Scalar.remsi (Scalar.divsi (Dev.word d) 16#32) 2#32) 4#32)
    (Scalar.remsi (Scalar.divsi (Dev.word d) 1#32) 4#32)) 1024#32

/-- The offsets in the order the body takes them. -/
abbrev offs : List (Fin 31) := [0, 1, 2, 3, 4, 5, 6, 7, 8, 9, 10, 11, 12, 13, 14, 15, 16, 17, 18, 19, 20, 21, 22, 23, 24, 25, 26, 27, 28, 29, 30]
/-- The chunks in the order the body takes them. -/
abbrev chunks : List (Fin 4) := [0, 1, 2, 3]

/-! ## The steps -/

/-- A program of this kernel's. -/
abbrev KProg (F : FTy → Type) (α : Type) := Prog (TpuEff nD τ sig (Elt F) Λ₀ .tc) α

/-- One step per member of a list, in order. -/
def each {K : Type} (f : K → KProg F PUnit) : List K → KProg F PUnit
  | [] => pure ⟨⟩
  | k :: l => do f k; each f l

/-- Signals the peer at offset `k`. -/
def sigStep (d : Dev nD) (k : Fin 31) : KProg F PUnit := semSignalWord (sigDev d k) barS 1#32

/-- Starts the copy of chunk `r`. -/
def copyStep (d : Dev nD) (r : Fin 4) : KProg F PUnit :=
  Prog.lift (.enqueueDma (acols d r) (.here (wslot r)) (.dma (copyS r)) (View.wordExact_bits rfl) ((View.wordExact_bits rfl).reshape _ _) ⟨Or.inl rfl, trivial⟩)

/-- Waits for chunk `r` and loads the features, the chunk and the labels. -/
def fetch (d : Dev nD) (r : Fin 4) : KProg F (Vec F S512x1024 .f32 × Vec F S1x1024x256 .f32 × Vec F S512 .i32) := do
  Prog.lift (.waitDma2 (copyS r) (acols d r) (wslot r) (View.wordExact_bits rfl) ((View.wordExact_bits rfl).reshape _ _))
  let x : Vec F S512x1024 .f32 ← Prog.lift (.load xM (Rect.unit (s := S512x1024) ![0, 0] S512x1024.size inb_S512x1024_S512x1024_0_0).toLoadRect (View.loadsAt_vmem h_S512x1024))
  let w : Vec F S1x1024x256 .f32 ← Prog.lift (.load wM (Rect.unit (s := S4x1024x256) ![r.val, 0, 0] S1x1024x256.size (wslot_inb r)).toLoadRect (View.loadsAt_vmem h_S1x1024x256))
  let lab : Vec F S512 .i32 ← Prog.lift (.load labM (Rect.unit (s := S512) ![0] S512.size inb_S512_S512_0).toLoadRect (View.loadsAt_vmem h_S512))
  pure (x, w, lab)

/-- Stores the two rows of the device's own partial sums. -/
def storeOwn (s g : FVec F S1x1x512 .f32) : KProg F PUnit := do
  let _ : Vec F S1x1x512 .f32 ← Prog.lift (.load commM (Rect.unit (s := S32x2x512) ![0, 0, 0] S1x1x512.size inb_S32x2x512_S1x1x512_0_0_0).toLoadRect (View.loadsAt_vmem h_S1x1x512))
  Prog.lift (.store commM (Rect.unit (s := S32x2x512) ![0, 0, 0] S1x1x512.size inb_S32x2x512_S1x1x512_0_0_0) s Finset.univ (View.stores_vmem_bits_univ h_S1x1x512 rfl) (.inl rfl))
  let _ : Vec F S1x1x512 .f32 ← Prog.lift (.load commM (Rect.unit (s := S32x2x512) ![0, 1, 0] S1x1x512.size inb_S32x2x512_S1x1x512_0_1_0).toLoadRect (View.loadsAt_vmem h_S1x1x512))
  Prog.lift (.store commM (Rect.unit (s := S32x2x512) ![0, 1, 0] S1x1x512.size inb_S32x2x512_S1x1x512_0_1_0) g Finset.univ (View.stores_vmem_bits_univ h_S1x1x512 rfl) (.inl rfl))

/-- Sends the device's own slot to the peer at offset `k`. -/
def sendStep (d : Dev nD) (k : Fin 31) : KProg F PUnit :=
  Prog.lift (.enqueueDma (slot 0) (.remote (Dev.tc (sndDev d k)) (slot k.succ) (.dma (sendS k))) (.dma (recvS k))
    ((View.wordExact_bits rfl).reshape _ _) ((View.wordExact_bits rfl).reshape _ _) ⟨⟨rfl, Or.inl rfl⟩, trivial⟩)

/-- Waits for the copy received at offset `k`. -/
def recvWait (k : Fin 31) : KProg F PUnit :=
  Prog.lift (.waitDma2 (recvS k) (slot 0) (slot k.succ) ((View.wordExact_bits rfl).reshape _ _) ((View.wordExact_bits rfl).reshape _ _))

/-- Waits until the copy sent at offset `k` is read. -/
def sendWait (k : Fin 31) : KProg F PUnit :=
  Prog.lift (.waitDma2 (sendS k) (slot k.succ) (slot 0) ((View.wordExact_bits rfl).reshape _ _) ((View.wordExact_bits rfl).reshape _ _))

/-- Loads the two rows of all slots, and stores the result. -/
def finish : KProg F PUnit := do
  let s : Vec F S32x1x512 .f32 ← Prog.lift (.load commM (Rect.unit (s := S32x2x512) ![0, 0, 0] S32x1x512.size inb_S32x2x512_S32x1x512_0_0_0).toLoadRect (View.loadsAt_vmem h_S32x1x512))
  let g : Vec F S32x1x512 .f32 ← Prog.lift (.load commM (Rect.unit (s := S32x2x512) ![0, 1, 0] S32x1x512.size inb_S32x2x512_S32x1x512_0_1_0).toLoadRect (View.loadsAt_vmem h_S32x1x512))
  let _ : Vec F S512 .f32 ← Prog.lift (.load oM (Rect.unit (s := S512) ![0] S512.size inb_S512_S512_0).toLoadRect (View.loadsAt_vmem h_S512))
  Prog.lift (.store oM (Rect.unit (s := S512) ![0] S512.size inb_S512_S512_0) (k0_pay1 (k0_pay17 s) (k0_pay18 g)) Finset.univ (View.stores_vmem_bits_univ h_S512 rfl) (.inl rfl))

/-- Row 0 of a device's partial sums: the sum of the exponentials of its logits, by the four chunks `w`. -/
def rowS (x : Vec F S512x1024 .f32) (w : Fin 4 → Vec F S1x1024x256 .f32) : FVec F S1x1x512 .f32 :=
  k0_pay15 (k0_pay3 x (w 0)) (k0_pay7 x (w 1)) (k0_pay10 x (w 2)) (k0_pay13 x (w 3))

/-- Row 1 of a device's partial sums: the sum of its logits at the labels. -/
def rowG (d : Dev nD) (x : Vec F S512x1024 .f32) (w : Fin 4 → Vec F S1x1024x256 .f32) (lab : Vec F S512 .i32) : FVec F S1x1x512 .f32 :=
  k0_pay16 (yWord d) (baseWord d)
    (k0_pay5 (k0_pay2 x (w 0)) (k0_pay4 (yWord d) (baseWord d) lab) (Scalar.ofBits .f32 0x00000000#32))
    (k0_pay8 (yWord d) (baseWord d) x (w 1) lab) (k0_pay11 (yWord d) (baseWord d) x (w 2) lab) (k0_pay12 x (w 3)) (k0_pay14 lab)

/-- The whole body. -/
def prog : KProg F PUnit := do
  let d : Dev nD ← Prog.lift .deviceId
  each (sigStep d) offs
  each (copyStep d) chunks
  let a0 ← fetch d 0
  let a1 ← fetch d 1
  let a2 ← fetch d 2
  let a3 ← fetch d 3
  storeOwn
    (k0_pay15 (k0_pay3 a0.1 a0.2.1) (k0_pay7 a1.1 a1.2.1) (k0_pay10 a2.1 a2.2.1) (k0_pay13 a3.1 a3.2.1))
    (k0_pay16 (yWord d) (baseWord d)
      (k0_pay5 (k0_pay2 a0.1 a0.2.1) (k0_pay4 (yWord d) (baseWord d) a0.2.2) (Scalar.ofBits .f32 0x00000000#32))
      (k0_pay8 (yWord d) (baseWord d) a1.1 a1.2.1 a1.2.2) (k0_pay11 (yWord d) (baseWord d) a2.1 a2.2.1 a2.2.2) (k0_pay12 a3.1 a3.2.1) (k0_pay14 a3.2.2))
  semWaitWord barS 31#32
  each (sendStep d) offs
  each recvWait offs
  each sendWait offs
  finish

set_option maxRecDepth 65536 in
/-- The printed body, called with its buffers and semaphores, is the body written with loops. -/
theorem body_eq : cc0_body (F := F) xM (hstage0_0 0) aM (Memref.isWhole_whole _) labM (hstage0_1 0) oM (hstage0_2 0) wM (Memref.isWhole_whole _)
    commM (Memref.isWhole_whole _) cc0_scratch2 cc0_scratch3 cc0_scratch4 = prog (F := F) := by
  rw [cc0_body_eq_skeleton]
  exact (by rfl)

end Cert.Nll

end
-- ==== Proof.Mesh.lean ====
/-
The mesh's offsets.

The 32 devices form a 2×4×4 mesh, device `16x + 4y + z` standing at `(x, y, z)`. Offset `k` (of 31) stands for the
displacement `(n / 16, n / 4 mod 4, n mod 4)` with `n = k + 1`. Here: the peer at an offset, the opposite offset, and that
the peers the body computes with words are these.
-/
module

public import proofs.«01_k».proof.Proof.Program

@[expose] public section

namespace Cert.Nll

open Cert.KernelIdeal Cert.KernelIdeal.Gen
open Idealize.ShloMosaic

/-- The device at offset `k` from `d`: each coordinate moved by the offset's, around the mesh. -/
def peer (d : Dev nD) (k : Fin 31) : Dev nD :=
  ⟨(d.val / 16 + (k.val + 1) / 16) % 2 * 16 + (d.val / 4 % 4 + (k.val + 1) / 4 % 4) % 4 * 4 + (d.val % 4 + (k.val + 1) % 4) % 4, by
    show _ < 32; omega⟩

/-- The opposite offset. -/
def inv (k : Fin 31) : Fin 31 :=
  ⟨((2 - (k.val + 1) / 16) % 2 * 16 + (4 - (k.val + 1) / 4 % 4) % 4 * 4 + (4 - (k.val + 1) % 4) % 4) - 1, by have := k.isLt; omega⟩

/-- The opposite of the opposite offset is the offset. -/
theorem inv_inv (k : Fin 31) : inv (inv k) = k := by
  revert k; decide +kernel
/-- Going by an offset and back by the opposite one. -/
theorem peer_inv (d : Dev nD) (k : Fin 31) : peer (peer d k) (inv k) = d := by
  revert d k; decide +kernel
/-- Going by the opposite offset and back by the offset. -/
theorem peer_inv' (d : Dev nD) (k : Fin 31) : peer (peer d (inv k)) k = d := by
  have := peer_inv d (inv k); rwa [inv_inv] at this
/-- Different offsets lead to different devices, none of them the device itself. -/
theorem peer_injective (d : Dev nD) : Function.Injective (peer d) := by
  intro a b; revert d a b; decide +kernel
/-- No offset leads back to the device itself. -/
theorem peer_ne (d : Dev nD) (k : Fin 31) : peer d k ≠ d := by
  revert d k; decide +kernel
/-- Whoever is reached from `d` by `k` is reached from nobody else by `k`. -/
theorem peer_eq_iff {a c : Dev nD} {k : Fin 31} : peer a k = c ↔ a = peer c (inv k) :=
  ⟨fun h => by rw [← h, peer_inv], fun h => by rw [h, peer_inv']⟩

/-- The opposite offset, as a rearrangement of the offsets. -/
def invE : Fin 31 ≃ Fin 31 := ⟨inv, inv, inv_inv, inv_inv⟩
/-- Going by offset `k`, as a rearrangement of the devices. -/
def peerE (k : Fin 31) : Dev nD ≃ Dev nD := ⟨fun d => peer d k, fun d => peer d (inv k), fun d => peer_inv d k, fun d => peer_inv' d k⟩

/-- The signals go to the peers. -/
theorem sigDev_eq (d : Dev nD) (k : Fin 31) : sigDev d k = peer d k := by
  revert d k; decide +kernel
/-- The copies go to the peers. -/
theorem sndDev_eq (d : Dev nD) (k : Fin 31) : sndDev d k = peer d k := by
  revert d k; decide +kernel

/-- Whose partial sums slot `s` of device `c` holds in the end: its own in slot 0, and in slot `1 + k` those of the
    device that sends at offset `k` to it. -/
def orig (c : Dev nD) (s : Fin 32) : Dev nD := Fin.cases c (fun k => peer c (inv k)) s

/-- Slot 0 holds the device's own sums. -/
theorem orig_zero (c : Dev nD) : orig c 0 = c := rfl
/-- Slot `1 + k` holds the sums of the device from which `k` leads here. -/
theorem orig_succ (c : Dev nD) (k : Fin 31) : orig c k.succ = peer c (inv k) := rfl
/-- The slots hold every device's partial sums, each once. -/
theorem orig_bijective (c : Dev nD) : Function.Bijective (orig c) := by
  refine (Fintype.bijective_iff_injective_and_card _).mpr ⟨?_, rfl⟩
  intro a b
  refine Fin.cases ?_ (fun i => ?_) a <;> refine Fin.cases ?_ (fun j => ?_) b
  · intro _; rfl
  · intro h; exact absurd h.symm (peer_ne c (inv j))
  · intro h; exact absurd h (peer_ne c (inv i))
  · intro h
    have h' := peer_injective c h
    rw [← inv_inv i, h', inv_inv]

end Cert.Nll

end
-- ==== Proof.Contents.lean ====
/-
What the buffers hold.

`wBuf` is what a device's four chunk slots hold once copied, `commBuf` what its thirty-two slots of partial sums hold once
everything has arrived. The lemmas place a slot in its buffer, and say that each copy leaves these contents in its slot,
whatever the slot held before.
-/
module

public import proofs.«01_k».proof.Proof.Mesh
public import Idealize.ShloMosaic.Lib.ValueLayout
public import Idealize.ShloMosaic.Lib.Pipeline.ValueKit.Geometry
public import Idealize.ShloMosaic.Lib.Exec.Geometry

@[expose] public section

noncomputable section

namespace Cert.Nll

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-! ## Places -/

/-- An index of the slots of partial sums by its three coordinates. -/
theorem comm_idx (i : S32x2x512.Idx) : ∃ (s : Fin 32) (a : Fin 2) (b : Fin 512), i = ix3 s a b := ⟨i 0, i 1, i 2, eq_ix3 i⟩
/-- An index of the chunk slots by its three coordinates. -/
theorem w_idx (i : S4x1024x256.Idx) : ∃ (r : Fin 4) (a : Fin 1024) (b : Fin 256), i = ix3 r a b := ⟨i 0, i 1, i 2, eq_ix3 i⟩

/-- Element `(a, b)` of slot `s` stands at `(s, a, b)` of the buffer. -/
theorem slot_emb (s : Fin 32) (a : Fin 2) (b : Fin 512) : (slot s).view.emb (ix2 a b : S2x512.Idx) = (ix3 s a b : S32x2x512.Idx) := by
  show ((View.whole cc0_scratch1).slice (Rect.unit (s := S32x2x512) ![s.val, 0, 0] S1x2x512.size (slot_inb s))).emb
    (Shape.reshapeEquiv _ (ix2 a b)) = _
  rw [reshapeEquiv_ix2_1ab]
  refine funext fun d => Fin.ext ?_
  refine (ValueKit.view_emb_slice_whole_unit_val cc0_scratch1 _ _ _ _ d).trans ?_
  fin_cases d
  · rfl
  · exact Nat.zero_add _
  · exact Nat.zero_add _
/-- Element `(a, b)` of chunk slot `r` stands at `(r, a, b)` of the buffer. -/
theorem wslot_emb (r : Fin 4) (a : Fin 1024) (b : Fin 256) : (wslot r).view.emb (ix2 a b : S1024x256.Idx) = (ix3 r a b : S4x1024x256.Idx) := by
  show ((View.whole cc0_scratch0).slice (Rect.unit (s := S4x1024x256) ![r.val, 0, 0] S1x1024x256.size (wslot_inb r))).emb
    (Shape.reshapeEquiv _ (ix2 a b)) = _
  rw [reshapeEquiv_ix2_1ab]
  refine funext fun d => Fin.ext ?_
  refine (ValueKit.view_emb_slice_whole_unit_val cc0_scratch0 _ _ _ _ d).trans ?_
  fin_cases d
  · rfl
  · exact Nat.zero_add _
  · exact Nat.zero_add _

/-- A slot is the elements whose first coordinate is its number. -/
theorem mem_slot {s t : Fin 32} {a : Fin 2} {b : Fin 512} : (ix3 t a b : S32x2x512.Idx) ∈ (slot s).view.set ↔ t = s := by
  unfold View.set
  rw [Finset.mem_map]
  constructor
  · rintro ⟨j, -, h⟩
    rw [show j = (ix2 (j 0) (j 1) : S2x512.Idx) from eq_ix2 j] at h
    exact (congrFun (h.symm.trans (slot_emb s _ _)) 0 : t = s)
  · rintro rfl; exact ⟨ix2 a b, Finset.mem_univ _, slot_emb t a b⟩
/-- A chunk slot is the elements whose first coordinate is its number. -/
theorem mem_wslot {s t : Fin 4} {a : Fin 1024} {b : Fin 256} : (ix3 t a b : S4x1024x256.Idx) ∈ (wslot s).view.set ↔ t = s := by
  unfold View.set
  rw [Finset.mem_map]
  constructor
  · rintro ⟨j, -, h⟩
    rw [show j = (ix2 (j 0) (j 1) : S1024x256.Idx) from eq_ix2 j] at h
    exact (congrFun (h.symm.trans (wslot_emb s _ _)) 0 : t = s)
  · rintro rfl; exact ⟨ix2 a b, Finset.mem_univ _, wslot_emb t a b⟩

/-- The elements of slot `s` in its buffer. -/
def slotSet (s : Fin 32) : Finset S32x2x512.Idx := (slot s).view.set
/-- The elements of chunk slot `r` in its buffer. -/
def wslotSet (r : Fin 4) : Finset S4x1024x256.Idx := (wslot r).view.set

/-- Different slots share no element. -/
theorem slot_disjoint {s t : Fin 32} (h : s ≠ t) : Disjoint (slotSet s) (slotSet t) :=
  Finset.disjoint_left.mpr fun i hs ht => by
    obtain ⟨u, a, b, rfl⟩ := comm_idx i
    exact h ((mem_slot.mp hs).symm.trans (mem_slot.mp ht))
/-- Different chunk slots share no element. -/
theorem wslot_disjoint {s t : Fin 4} (h : s ≠ t) : Disjoint (wslotSet s) (wslotSet t) :=
  Finset.disjoint_left.mpr fun i hs ht => by
    obtain ⟨u, a, b, rfl⟩ := w_idx i
    exact h ((mem_wslot.mp hs).symm.trans (mem_wslot.mp ht))
/-- The 32 slots together are the buffer of partial sums. -/
theorem slots_univ : (Finset.univ.biUnion slotSet) = Finset.univ :=
  Finset.eq_univ_of_forall fun i => by
    obtain ⟨u, a, b, rfl⟩ := comm_idx i
    exact Finset.mem_biUnion.mpr ⟨u, Finset.mem_univ _, mem_slot.mpr rfl⟩
/-- The four chunk slots together are their buffer. -/
theorem wslots_univ : (Finset.univ.biUnion wslotSet) = Finset.univ :=
  Finset.eq_univ_of_forall fun i => by
    obtain ⟨u, a, b, rfl⟩ := w_idx i
    exact Finset.mem_biUnion.mpr ⟨u, Finset.mem_univ _, mem_wslot.mpr rfl⟩

/-! ## Contents -/

/-- The device's staged features. -/
def xstg (c : Dev nD) : (cc0_stg0_0 : Ref sig .tc).ty.Contents (Elt F) := (win0_0.blk (0 : Fin 1)).view.read (Elt F) (m ((c : Thread nD τ).loc main_arg0))
/-- The device's staged labels. -/
def labstg (c : Dev nD) : (cc0_stg1_0 : Ref sig .tc).ty.Contents (Elt F) := (win0_1.blk (0 : Fin 1)).view.read (Elt F) (m ((c : Thread nD τ).loc main_arg2))

/-- The chunk slots once copied: slot `r` the columns chunk `r` takes. -/
def wBuf (c : Dev nD) : (cc0_scratch0 : Ref sig .tc).ty.Contents (Elt F) := fun i =>
  (acols c (i 0)).view.read (Elt F) (m ((c : Thread nD τ).loc main_arg1)) (ix2 (i 1) (i 2))

/-- Chunk `r` as the body loads it. -/
def chunk (c : Dev nD) (r : Fin 4) : Vec F S1x1024x256 .f32 :=
  (wM : Memref sig .tc .vmem S4x1024x256 .f32).view.readAt (Elt F) (Rect.unit (s := S4x1024x256) ![r.val, 0, 0] S1x1024x256.size (wslot_inb r)).toLoadRect (wBuf m c)

/-- The device's own partial sums: row 0 and row 1. -/
def own (c : Dev nD) : S2x512.Idx → Elt F .f32 := fun j =>
  if (j 0).val = 0 then rowS (xstg m c) (chunk m c) (ix3 0 0 (j 1)) else rowG c (xstg m c) (chunk m c) (labstg m c) (ix3 0 0 (j 1))

/-- The slots of partial sums in the end: slot `s` those of device `orig c s`. -/
def commBuf (c : Dev nD) : (cc0_scratch1 : Ref sig .tc).ty.Contents (Elt F) := fun i => own m (orig c (i 0)) (ix2 (i 1) (i 2))

/-- The copy of chunk `r` leaves the columns in slot `r`. -/
theorem copy_lands (c : Dev nD) (r : Fin 4) (fd : (cc0_scratch0 : Ref sig .tc).ty.Contents (Elt F)) (i : S4x1024x256.Idx) (hi : i ∈ (wslot r).view.set) :
    (wslot r).view.write (Elt F) fd ((acols c r).view.read (Elt F) (m ((c : Thread nD τ).loc main_arg1))) Finset.univ i = wBuf m c i := by
  obtain ⟨t, a, b, rfl⟩ := w_idx i
  obtain rfl := mem_wslot.mp hi
  conv_lhs => rw [← wslot_emb]
  rw [View.write_emb_of_mem _ _ (Finset.mem_univ _)]
  rfl

/-- The copy sent at offset `k` leaves the sender's partial sums in the peer's slot `1 + k`. -/
theorem send_lands (c : Dev nD) (k : Fin 31) (fd : (cc0_scratch1 : Ref sig .tc).ty.Contents (Elt F)) (i : S32x2x512.Idx) (hi : i ∈ (slot k.succ).view.set) :
    (slot k.succ).view.write (Elt F) fd ((slot 0).view.read (Elt F) (commBuf m c)) Finset.univ i = commBuf m (peer c k) i := by
  obtain ⟨t, a, b, rfl⟩ := comm_idx i
  obtain rfl := mem_slot.mp hi
  conv_lhs => rw [← slot_emb]
  rw [View.write_emb_of_mem _ _ (Finset.mem_univ _), View.read_apply, slot_emb]
  show own m (orig c 0) (ix2 a b) = own m (orig (peer c k) k.succ) (ix2 a b)
  rw [orig_succ, peer_inv, orig_zero]

/-! ## The device's own slot -/

/-- The rectangle of the first row of slot 0. -/
abbrev r0 : Rect S32x2x512 := Rect.unit (s := S32x2x512) ![0, 0, 0] S1x1x512.size inb_S32x2x512_S1x1x512_0_0_0
/-- The rectangle of the second row of slot 0. -/
abbrev r1 : Rect S32x2x512 := Rect.unit (s := S32x2x512) ![0, 1, 0] S1x1x512.size inb_S32x2x512_S1x1x512_0_1_0

/-- Element `j` of the first row of slot 0 stands at `(0, 0, j)` of the buffer. -/
theorem access_emb0 (j : Fin 512) : ((commM : Memref sig .tc .vmem S32x2x512 .f32).access r0 : View sig .tc _ _ _).emb (ix3 0 0 j : S1x1x512.Idx) = (ix3 0 0 j : S32x2x512.Idx) := by
  refine funext fun d => Fin.ext ?_
  refine (ValueKit.view_emb_slice_whole_unit_val cc0_scratch1 _ _ _ _ d).trans ?_
  fin_cases d
  · rfl
  · rfl
  · exact Nat.zero_add _
/-- Element `j` of the second row of slot 0 stands at `(0, 1, j)` of the buffer. -/
theorem access_emb1 (j : Fin 512) : ((commM : Memref sig .tc .vmem S32x2x512 .f32).access r1 : View sig .tc _ _ _).emb (ix3 0 0 j : S1x1x512.Idx) = (ix3 0 1 j : S32x2x512.Idx) := by
  refine funext fun d => Fin.ext ?_
  refine (ValueKit.view_emb_slice_whole_unit_val cc0_scratch1 _ _ _ _ d).trans ?_
  fin_cases d
  · rfl
  · rfl
  · exact Nat.zero_add _

/-- The first row's elements are in slot 0, in row 0. -/
theorem mem_r0 {t : Fin 32} {a : Fin 2} {b : Fin 512} (h : (ix3 t a b : S32x2x512.Idx) ∈ r0.set) : t = 0 ∧ a = 0 := by
  rw [Rect.mem_set_unit] at h
  have e0 : t.val < 0 + 1 := (h 0).2
  have e1 : a.val < 0 + 1 := (h 1).2
  exact ⟨Fin.ext (show t.val = 0 by omega), Fin.ext (show a.val = 0 by omega)⟩
/-- The second row's elements are in slot 0, in row 1. -/
theorem mem_r1 {t : Fin 32} {a : Fin 2} {b : Fin 512} (h : (ix3 t a b : S32x2x512.Idx) ∈ r1.set) : t = 0 ∧ a = 1 := by
  rw [Rect.mem_set_unit] at h
  have e0 : t.val < 0 + 1 := (h 0).2
  have e1 : 1 ≤ a.val := (h 1).1
  exact ⟨Fin.ext (show t.val = 0 by omega), Fin.ext (show a.val = 1 by omega)⟩

/-- An access to the buffer at a rectangle reaches the elements of the rectangle. -/
theorem set_access (r : Rect S32x2x512) : ((commM : Memref sig .tc .vmem S32x2x512 .f32).access r : View sig .tc _ _ _).set = r.set :=
  View.set_slice_whole cc0_scratch1 r
/-- The first row lies in slot 0. -/
theorem r0_sub : r0.set ⊆ slotSet 0 := fun i hi => by
  obtain ⟨t, a, b, rfl⟩ := comm_idx i
  exact mem_slot.mpr (mem_r0 hi).1
/-- The second row lies in slot 0. -/
theorem r1_sub : r1.set ⊆ slotSet 0 := fun i hi => by
  obtain ⟨t, a, b, rfl⟩ := comm_idx i
  exact mem_slot.mpr (mem_r1 hi).1

/-- The two stores leave the device's own partial sums in slot 0. -/
theorem own_lands (c : Dev nD) (f : (cc0_scratch1 : Ref sig .tc).ty.Contents (Elt F)) (i : S32x2x512.Idx) (hi : i ∈ (slot 0).view.set) :
    ((commM : Memref sig .tc .vmem S32x2x512 .f32).access r1 : View sig .tc _ _ _).write (Elt F)
      (((commM : Memref sig .tc .vmem S32x2x512 .f32).access r0 : View sig .tc _ _ _).write (Elt F) f (rowS (xstg m c) (chunk m c)) Finset.univ)
      (rowG c (xstg m c) (chunk m c) (labstg m c)) Finset.univ i = commBuf m c i := by
  obtain ⟨t, a, b, rfl⟩ := comm_idx i
  obtain rfl := mem_slot.mp hi
  have h1 : a = 0 ∨ a = 1 := by
    rcases Nat.lt_or_ge a.val 1 with h | h
    · exact Or.inl (Fin.ext (show a.val = 0 by omega))
    · exact Or.inr (Fin.ext (show a.val = 1 by omega))
  rcases h1 with rfl | rfl
  · rw [View.write_of_not_mem _ _ _ (by
      intro hm
      have hm' : (ix3 0 0 b : S32x2x512.Idx) ∈ ((commM : Memref sig .tc .vmem S32x2x512 .f32).access r1 : View sig .tc _ _ _).set := by
        rw [View.setOn_univ] at hm; exact hm
      rw [set_access] at hm'
      exact absurd (congrArg Fin.val (mem_r1 hm').2) (by decide))]
    conv_lhs => rw [← access_emb0]
    rw [View.write_emb_of_mem _ _ (Finset.mem_univ _)]
    rfl
  · conv_lhs => rw [← access_emb1]
    rw [View.write_emb_of_mem _ _ (Finset.mem_univ _)]
    rfl

end Cert.Nll

end
-- ==== Proof.Schedule.lean ====
/-
The protocol.

Every device has 67 semaphores that the others or its own copies signal: the barrier, one per chunk copy, one per copy sent
and one per copy received. Each is used for one round. What a signal hands over:

* the barrier of `c`, signalled once by each of the 31 other devices: the signaller's landing slot for what `c` will send it;
* a chunk's semaphore: the chunk slot filled, and the columns read;
* a sent copy's semaphore: the part of slot 0 lent to that copy;
* a received copy's semaphore: the landing slot, holding the sender's partial sums.
-/
module

public import proofs.«01_k».proof.Proof.Contents
public import Idealize.ShloMosaic.Lib.Rounds
public import Idealize.ShloMosaic.Lib.Transfers
public import Idealize.ShloMosaic.Lib.Pipeline.Launch
public import Idealize.ShloMosaic.Lib.Pipeline.Kit

@[expose] public section

noncomputable section

namespace Cert.Nll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the launch's own, and the protocol's, whose duties are numbered by the offsets -/

/-- The protocols' state: rounds at the semaphores, with duties numbered by the offsets. -/
abbrev UB : Type := URounds (GSem nD τ sig) (Fin 31)
/-- The launch's own state beside it. -/
abbrev UU : Type := UR sig nD τ × UB

local notation "𝕄" => MT nD τ sig Unit (Elt F) ℕ UU ℕ

/-- Where the launch's state stands in the whole, -/
abbrev EP : Emb (UR sig nD τ) (MT nD τ sig Unit (Elt F) ℕ UU ℕ) := embL
/-- and where the protocols' does. -/
abbrev ER : Emb UB (MT nD τ sig Unit (Elt F) ℕ UU ℕ) := embR

variable (m : (ℓ : Loc nD τ sig) → Buf (Elt F) ℓ)

/-! ## The semaphores -/

/-- The kernel's own semaphores: chunk copies, copies sent, copies received. -/
abbrev Own := Fin 4 ⊕ (Fin 31 ⊕ Fin 31)
/-- And the barrier before them. -/
abbrev Kind := Unit ⊕ Own
/-- The barrier; -/
abbrev kBar : Kind := Sum.inl ()
/-- the semaphore of the copy of chunk `r`; -/
abbrev kCopy (r : Fin 4) : Kind := Sum.inr (Sum.inl r)
/-- that of the copy sent at offset `k`; -/
abbrev kSend (k : Fin 31) : Kind := Sum.inr (Sum.inr (Sum.inl k))
/-- that of the copy received at offset `k`. -/
abbrev kRecv (k : Fin 31) : Kind := Sum.inr (Sum.inr (Sum.inr k))

/-- The kernel's own semaphores as the program names them; -/
def osem : Own → SemLoc sig
  | .inl r => .dma (copyS r)
  | .inr (.inl k) => .dma (sendS k)
  | .inr (.inr k) => .dma (recvS k)
/-- all 67. -/
def csem : Kind → SemLoc sig
  | .inl _ => .reg barS
  | .inr o => osem o

/-- Device `c`'s barrier; -/
abbrev barCell (c : Dev nD) : GSem nD τ sig := ((c : Thread nD τ), .reg barS)
/-- its semaphore of the copy of chunk `r`; -/
abbrev copyCell (c : Dev nD) (r : Fin 4) : GSem nD τ sig := ((c : Thread nD τ), .dma (copyS r))
/-- its semaphore of the copy that it sends at offset `k`; -/
abbrev sendCell (c : Dev nD) (k : Fin 31) : GSem nD τ sig := ((c : Thread nD τ), .dma (sendS k))
/-- its semaphore of the copy that it receives at offset `k`; -/
abbrev recvCell (c : Dev nD) (k : Fin 31) : GSem nD τ sig := ((c : Thread nD τ), .dma (recvS k))
/-- a device's semaphore of any kind. -/
abbrev kcell (ck : Dev nD × Kind) : GSem nD τ sig := ((ck.1 : Thread nD τ), csem ck.2)

/-- Which of the 67 a semaphore is, if any (the launch's three staging semaphores are none). -/
def kindOf : SemLoc sig → Option Kind
  | .reg _ => some kBar
  | .dma q =>
    if q.val < 3 then none
    else if h : q.val < 7 then some (kCopy ⟨q.val - 3, by omega⟩)
    else if h : q.val < 38 then some (kSend ⟨q.val - 7, by omega⟩)
    else some (kRecv ⟨q.val - 38, by have : q.val < 69 := q.isLt; omega⟩)

/-- The barrier is of the kind of the barrier. -/
theorem kindOf_bar : kindOf (.reg barS) = some kBar := rfl
/-- The semaphore of the copy of chunk `r` is of its kind. -/
theorem kindOf_copy (r : Fin 4) : kindOf (.dma (copyS r)) = some (kCopy r) := by revert r; decide +kernel
/-- The semaphore of the copy sent at offset `k` is of its kind. -/
theorem kindOf_send (k : Fin 31) : kindOf (.dma (sendS k)) = some (kSend k) := by revert k; decide +kernel
/-- The semaphore of the copy received at offset `k` is of its kind. -/
theorem kindOf_recv (k : Fin 31) : kindOf (.dma (recvS k)) = some (kRecv k) := by revert k; decide +kernel
/-- The semaphore named by a kind is of that kind. -/
theorem kindOf_csem : ∀ κ : Kind, kindOf (csem κ) = some κ
  | .inl () => rfl
  | .inr (.inl r) => kindOf_copy r
  | .inr (.inr (.inl k)) => kindOf_send k
  | .inr (.inr (.inr k)) => kindOf_recv k

/-! ## Points-to facts -/

/-- Slot `s` of device `c`'s partial sums, holding what `f` says there. -/
def slotPts (c : Dev nD) (s : Fin 32) (f : Buf (Elt F) ((slot s).view.loc (c : Thread nD τ))) : sProp 𝕄 :=
  (slot s).view.loc (c : Thread nD τ) ↦[(slot s).view.set]{fullShare} f
/-- Chunk slot `r`. -/
def wPts (c : Dev nD) (r : Fin 4) (f : Buf (Elt F) ((wslot r).view.loc (c : Thread nD τ))) : sProp 𝕄 :=
  (wslot r).view.loc (c : Thread nD τ) ↦[(wslot r).view.set]{fullShare} f
/-- The columns chunk `r` takes, at the share lent to its copy. -/
def aPts (c : Dev nD) (r : Fin 4) : sProp 𝕄 :=
  (acols c r).view.loc (c : Thread nD τ) ↦[(acols c r).view.set]{Transfers.shareTok fullShare 4 r} m ((c : Thread nD τ).loc main_arg1)
/-- Slot 0 at the share lent to the copy sent at offset `k`. -/
def tokPts (c : Dev nD) (k : Fin 31) : sProp 𝕄 :=
  (slot 0).view.loc (c : Thread nD τ) ↦[(slot 0).view.set]{Transfers.shareTok fullShare 31 k} commBuf m c

/-- Holding a slot of partial sums can be handed over through a semaphore. -/
instance slotPts_storable (c : Dev nD) (s : Fin 32) (f) : BI.Storable (upEmb : UEmb _ 𝕄) (slotPts (F := F) c s f) := by unfold slotPts; infer_instance
/-- Holding a chunk slot can be handed over through a semaphore. -/
instance wPts_storable (c : Dev nD) (r : Fin 4) (f) : BI.Storable (upEmb : UEmb _ 𝕄) (wPts (F := F) c r f) := by unfold wPts; infer_instance
/-- Holding the columns lent to a copy can be handed over through a semaphore. -/
instance aPts_storable (c : Dev nD) (r : Fin 4) : BI.Storable (upEmb : UEmb _ 𝕄) (aPts (F := F) m c r) := by unfold aPts; infer_instance
/-- Holding the share of slot 0 lent to a copy can be handed over through a semaphore. -/
instance tokPts_storable (c : Dev nD) (k : Fin 31) : BI.Storable (upEmb : UEmb _ 𝕄) (tokPts (F := F) m c k) := by unfold tokPts; infer_instance

/-! ## The schedule -/

/-- What one copy of a slot counts. -/
abbrev NS : ℕ := (slot 0).view.dmaCredit
/-- What one copy of a chunk counts. -/
abbrev NW : ℕ := (wslot 0).view.dmaCredit
/-- A slot's copy counts something. -/
theorem NS_pos : 0 < NS := View.dmaCredit_pos _ (by decide)
/-- A chunk's copy counts something. -/
theorem NW_pos : 0 < NW := View.dmaCredit_pos _ (by decide)

/-- The duties at a semaphore: one per offset at the barrier, one at any other. -/
def dutiesK : Kind → Finset (Fin 31)
  | .inl _ => Finset.univ
  | .inr _ => {0}
/-- What each duty counts: a unit at the barrier, a copy at the others. -/
def amountK : Kind → ℕ
  | .inl _ => 1
  | .inr (.inl _) => NW
  | .inr (.inr _) => NS
/-- What a duty brings device `c`: at the barrier the peer's slot into which `c` will send; at a chunk's semaphore the chunk in its
slot and the columns back; at a send semaphore the share of slot 0 back; at a receive semaphore the slot received, filled. -/
def payK (c : Dev nD) : Kind → Fin 31 → sProp 𝕄
  | .inl _, k => iprop(∃ f, slotPts (peer c (inv k)) (inv k).succ f)
  | .inr (.inl r), _ => iprop(wPts c r (wBuf m c) ∗ aPts m c r)
  | .inr (.inr (.inl k)), _ => tokPts m c k
  | .inr (.inr (.inr k)), _ => slotPts c k.succ (commBuf m c)

/-- Every duty counts something. -/
theorem amountK_pos : ∀ κ : Kind, 0 < amountK κ
  | .inl _ => Nat.one_pos
  | .inr (.inl _) => NW_pos
  | .inr (.inr _) => NS_pos

/-- What a duty brings can be handed over through a semaphore. -/
instance payK_storable (c : Dev nD) : ∀ (κ : Kind) (d : Fin 31), BI.Storable (upEmb : UEmb _ 𝕄) (payK m c κ d)
  | .inl _, _ => by unfold payK; infer_instance
  | .inr (.inl _), _ => by unfold payK; infer_instance
  | .inr (.inr (.inl _)), _ => by unfold payK; infer_instance
  | .inr (.inr (.inr _)), _ => by unfold payK; infer_instance

/-- One round at each of the 67 semaphores of each device. -/
def rd : Rounds.Schedule (GSem nD τ sig) (Fin 31) 𝕄 where
  duties g r := if r = 0 ∧ g.1.2 = .tc then (kindOf g.2).elim ∅ dutiesK else ∅
  unitless _ := False
  amount g _ _ := (kindOf g.2).elim 1 amountK
  payload g _ d := (kindOf g.2).elim iprop(emp) fun κ => payK m g.1.1 κ d
  amount_pos g _ _ _ := by
    cases h : kindOf g.2 with
    | none => exact Nat.one_pos
    | some κ => exact amountK_pos κ

/-- So can what any duty of the schedule brings. -/
instance rd_storable (g : GSem nD τ sig) (r : ℕ) (d : Fin 31) : BI.Storable (upEmb : UEmb _ 𝕄) ((rd (F := F) m).payload g r d) := by
  show BI.Storable upEmb ((kindOf g.2).elim iprop(emp) fun κ => payK m g.1.1 κ d)
  cases kindOf g.2 with
  | none => show BI.Storable upEmb iprop(emp); infer_instance
  | some κ => exact payK_storable m g.1.1 κ d

/-- The schedule at a semaphore known to be of kind `κ`. -/
theorem duties_at (c : Dev nD) {sm : SemLoc sig} {κ : Kind} (h : kindOf sm = some κ) :
    (rd (F := F) m).duties ((c : Thread nD τ), sm) 0 = dutiesK κ := by
  dsimp only [rd]; rw [if_pos ⟨rfl, rfl⟩, h]; rfl
/-- What a duty counts at a semaphore of kind `κ`. -/
theorem amount_at (c : Dev nD) {sm : SemLoc sig} {κ : Kind} (h : kindOf sm = some κ) (d : Fin 31) :
    (rd (F := F) m).amount ((c : Thread nD τ), sm) 0 d = amountK κ := by
  dsimp only [rd]; rw [h]; rfl
/-- What a duty brings at a semaphore of kind `κ`. -/
theorem payload_at (c : Dev nD) {sm : SemLoc sig} {κ : Kind} (h : kindOf sm = some κ) (d : Fin 31) :
    (rd (F := F) m).payload ((c : Thread nD τ), sm) 0 d = payK m c κ d := by
  dsimp only [rd]; rw [h]; rfl
/-- There is no second round. -/
theorem duties_later (g : GSem nD τ sig) : ∀ r, 1 ≤ r → (rd (F := F) m).duties g r = ∅ :=
  fun r hr => by dsimp only [rd]; rw [if_neg fun h => by omega]
/-- One duty at the kernel's own semaphores. -/
theorem expect_own (c : Dev nD) {sm : SemLoc sig} {o : Own} (h : kindOf sm = some (.inr o)) :
    (rd (F := F) m).expect ((c : Thread nD τ), sm) 0 = amountK (.inr o) := by
  unfold Schedule.expect Schedule.amountOf
  rw [duties_at m c h]; show Finset.sum {(0 : Fin 31)} _ = _
  rw [Finset.sum_singleton, amount_at m c h]
/-- The barrier expects 31 units. -/
theorem expect_bar (c : Dev nD) : (rd (F := F) m).expect (barCell c) 0 = 31 := by
  unfold Schedule.expect Schedule.amountOf
  rw [duties_at m c kindOf_bar, Finset.sum_congr rfl fun d _ => amount_at m c kindOf_bar d]; rfl
/-- What the wait at one of the kernel's own semaphores brings. -/
theorem rest_own (c : Dev nD) {sm : SemLoc sig} {o : Own} (h : kindOf sm = some (.inr o)) :
    bigSep ((rd (F := F) m).duties ((c : Thread nD τ), sm) 0 \ ∅) (fun d => (rd (F := F) m).payload ((c : Thread nD τ), sm) 0 d) = payK m c (.inr o) 0 := by
  rw [Finset.sdiff_empty, duties_at m c h]; show bigSep {(0 : Fin 31)} _ = _
  rw [bigSep_singleton, payload_at m c h]
/-- What the wait at the barrier brings: of every peer the slot into which this device will send. -/
theorem rest_bar (c : Dev nD) :
    bigSep ((rd (F := F) m).duties (barCell c) 0 \ ∅) (fun d => (rd (F := F) m).payload (barCell c) 0 d)
      = bigSep Finset.univ fun k : Fin 31 => iprop(∃ f, slotPts (F := F) (peer c (inv k)) (inv k).succ f) := by
  rw [Finset.sdiff_empty, duties_at m c kindOf_bar]
  exact bigSep_congr fun k _ => payload_at m c kindOf_bar k

/-! ## What a device owes the others at launch -/

/-- A unit to the barrier of each peer at the offsets of `l`; -/
def oweB (c : Dev nD) (l : List (Fin 31)) : CellTallies nD τ sig Unit := (l.map fun k => tallyAt (barCell (peer c k)) () 1).sum
/-- a slot's copy to each of them. -/
def oweR (c : Dev nD) (l : List (Fin 31)) : CellTallies nD τ sig Unit := (l.map fun k => tallyAt (recvCell (peer c k) k) () NS).sum
/-- All that device `c` owes the others at launch. -/
def O₀ (c : Dev nD) : CellTallies nD τ sig Unit := oweR c offs + oweB c offs

/-- One more offset: one more unit, to the barrier of the peer there. -/
theorem oweB_cons (c : Dev nD) (k : Fin 31) (l : List (Fin 31)) : oweB c (k :: l) = oweB c l + tallyAt (barCell (peer c k)) () 1 := by
  unfold oweB; rw [List.map_cons, List.sum_cons, add_comm]
/-- One more offset: one more slot's copy, to the receive semaphore of the peer there. -/
theorem oweR_cons (c : Dev nD) (k : Fin 31) (l : List (Fin 31)) : oweR c (k :: l) = oweR c l + tallyAt (recvCell (peer c k) k) () NS := by
  unfold oweR; rw [List.map_cons, List.sum_cons, add_comm]
/-- No offset: no unit owed. -/
theorem oweB_nil (c : Dev nD) : oweB c [] = 0 := rfl
/-- No offset: no copy owed. -/
theorem oweR_nil (c : Dev nD) : oweR c [] = 0 := rfl

/-- Units are owed to the barriers of peers only. -/
theorem oweB_pos {c : Dev nD} {g : GSem nD τ sig} {u : Unit} : ∀ {l : List (Fin 31)}, 0 < oweB c l g u → ∃ k, g = barCell (peer c k)
  | [], h => absurd h (Nat.lt_irrefl 0)
  | k :: l, h => by
    rw [oweB_cons, Pi.add_apply, Finsupp.add_apply, tallyAt_apply] at h
    by_cases hk : g = barCell (peer c k) ∧ u = ()
    · exact ⟨k, hk.1⟩
    · rw [if_neg hk] at h; exact oweB_pos h
/-- Copies are owed to the receive semaphores of peers only. -/
theorem oweR_pos {c : Dev nD} {g : GSem nD τ sig} {u : Unit} : ∀ {l : List (Fin 31)}, 0 < oweR c l g u → ∃ k, g = recvCell (peer c k) k
  | [], h => absurd h (Nat.lt_irrefl 0)
  | k :: l, h => by
    rw [oweR_cons, Pi.add_apply, Finsupp.add_apply, tallyAt_apply] at h
    by_cases hk : g = recvCell (peer c k) k ∧ u = ()
    · exact ⟨k, hk.1⟩
    · rw [if_neg hk] at h; exact oweR_pos h

/-! ## Levels: own copies, then the barrier, then what is received -/

/-- Every semaphore of a device's core has one level. -/
def L (g : GSem nD τ sig) : Finset Unit := if g.1.2 = .tc then {()} else ∅
/-- The levels: 0 for the own copies, 1 for the barrier, 2 for what is received. -/
def levelK : Kind → ℕ
  | .inl _ => 1
  | .inr (.inr (.inr _)) => 2
  | _ => 0
/-- The level of a semaphore. -/
def lv (g : GSem nD τ sig) (_ : Unit) : ℕ := (kindOf g.2).elim 0 levelK

/-- No other thread's semaphore has a level. -/
theorem L_of_ne (g : GSem nD τ sig) (h : g.1.2 ≠ .tc) : L g = ∅ := if_neg h
/-- A core's semaphore has its one level. -/
theorem L_tc (c : Dev nD) (sm : SemLoc sig) : L ((c : Thread nD τ), sm) = {()} := if_pos rfl
/-- The barrier is at level 1. -/
theorem lv_bar (c : Dev nD) : lv (barCell c) () = 1 := rfl
/-- The receive semaphores are at level 2. -/
theorem lv_recv (c : Dev nD) (k : Fin 31) : lv (recvCell c k) () = 2 := by unfold lv; rw [kindOf_recv]; rfl

/-- A device may wait at a semaphore whose level is below those of all it owes. -/
theorem mayWait (c : Dev nD) (sm : SemLoc sig) (n : ℕ) (O : CellTallies nD τ sig Unit) (hn : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- At a semaphore of level 0 while owing copies and barrier units; -/
theorem mayWait_low (c : Dev nD) (sm : SemLoc sig) (l l' : List (Fin 31)) (hn : lv ((c : Thread nD τ), sm) () = 0) :
    (levAts L lv : sProp 𝕄) ⊢ MayWait (c : Thread nD τ) sm () (oweR c l + oweB c l') :=
  mayWait c sm 0 _ (le_of_eq hn) fun g u hg => by
    rw [Pi.add_apply, Finsupp.add_apply] at hg
    rcases Nat.eq_zero_or_pos (oweR c l g u) with h | h
    · obtain ⟨k, rfl⟩ := oweB_pos (c := c) (l := l') (g := g) (u := u) (by omega)
      exact ⟨rfl, Nat.one_pos⟩
    · obtain ⟨k, rfl⟩ := oweR_pos h
      exact ⟨rfl, by rw [show u = () from rfl, lv_recv]; exact Nat.two_pos⟩
/-- at the barrier while owing copies. -/
theorem mayWait_bar (c : Dev nD) (l : List (Fin 31)) :
    (levAts L lv : sProp 𝕄) ⊢ MayWait (c : Thread nD τ) (.reg barS) () (oweR c l) :=
  mayWait c _ 1 _ (le_of_eq (lv_bar c)) fun g u hg => by
    obtain ⟨k, rfl⟩ := oweR_pos hg
    exact ⟨rfl, by rw [show u = () from rfl, lv_recv]; exact Nat.one_lt_two⟩

end Cert.Nll

end
-- ==== Proof.Steps.lean ====
/-
The steps, one lemma per kind of step, each at a variable offset or chunk.

A step's lemma says what the step needs and what it leaves; `wp_each` turns a step's lemma into the loop's.
-/
module

public import proofs.«01_k».proof.Proof.Schedule
public import Idealize.ShloMosaic.Lib.Pipeline.BigSepL

@[expose] public section

noncomputable section

namespace Cert.Nll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program has no loop that would need a variant. -/
abbrev 𝒱₀ : Variants := Variants.none

/-- What a program of device `c` needs for its result to satisfy `Q`. -/
abbrev WP (c : Dev nD) {α : Type} (p : KProg F α) (Q : α → sProp 𝕄) : sProp 𝕄 :=
  wp frame (wpE (defs₀ (F := F)) 𝒱₀ (c : Thread nD τ) none) Set.univ p Q

/-- A loop, from its step: `I l` is held while the members of `l` are still to do; a member takes its `A` and leaves its `B`. -/
theorem wp_each {J : Type} (c : Dev nD) (f : J → KProg F PUnit) (I : List J → sProp 𝕄) (A B : J → sProp 𝕄)
    (step : ∀ (k : J) (l : List J) (Q : PUnit → sProp 𝕄), iprop(I (k :: l) ∗ A k ∗ ((I l ∗ B k) -∗ Q ⟨⟩)) ⊢ WP c (f k) Q) :
    ∀ (l : List J) (Q : PUnit → sProp 𝕄), iprop(I l ∗ bigSepL l A ∗ ((I [] ∗ bigSepL l B) -∗ Q ⟨⟩)) ⊢ WP c (each f l) Q
  | [], Q => by
    unfold each; rw [WP, wp_pure]
    iintro ⟨HI, -, HQ⟩
    imodintro
    iapply HQ
    isplitl [HI]; · iexact HI
    iempintro
  | k :: l, Q => by
    unfold each; rw [WP, wp_bind]
    rw [bigSepL_cons', bigSepL_cons']
    iintro ⟨HI, ⟨HA, HAs⟩, HQ⟩
    iapply (step k l)
    isplitl [HI]; · iexact HI
    isplitl [HA]; · iexact HA
    iintro ⟨HI, HB⟩
    iapply (wp_each c f I A B step l Q)
    isplitl [HI]; · iexact HI
    isplitl [HAs]; · iexact HAs
    iintro ⟨HI, HBs⟩
    iapply HQ
    isplitl [HI]; · iexact HI
    isplitl [HB]; · iexact HB
    iexact HBs

/-- One of many. -/
theorem one_of {I : Type} [DecidableEq I] [Fintype I] (i : I) (Φ : I → sProp 𝕄) : (bigSep Finset.univ Φ : sProp 𝕄) ⊢ Φ i :=
  bigSep_elim (Finset.mem_univ i)

variable (m : (ℓ : Loc nD τ sig) → Buf (Elt F) ℓ) (K : Dev nD × Kind → ℕ)

/-! ## What everybody knows: each semaphore's protocol is in force, and its round is open -/

/-- What everybody knows of all the 67 semaphores of all the devices. -/
def records : sProp 𝕄 :=
  iprop((bigSep Finset.univ fun ck : Dev nD × Kind => cellInv ER (rd m) (K ck) (kcell ck))
    ∗ bigSep Finset.univ fun ck : Dev nD × Kind => reached ER (kcell ck) 0)

/-- Knowing it does not use it up. -/
instance records_persistent : BI.Persistent (records m K) := by unfold records; infer_instance

/-- Each protocol is in force. -/
theorem records_inv (ck : Dev nD × Kind) : records m K ⊢ cellInv ER (rd m) (K ck) (kcell ck) := by
  unfold records
  iintro ⟨HI, -⟩
  iapply (one_of ck fun ck : Dev nD × Kind => cellInv ER (rd m) (K ck) (kcell ck)); iexact HI
/-- Each first round is open. -/
theorem records_reached (ck : Dev nD × Kind) : records m K ⊢ reached ER (kcell ck) 0 := by
  unfold records
  iintro ⟨-, HI⟩
  iapply (one_of (F := F) ck fun ck : Dev nD × Kind => reached ER (kcell ck) 0); iexact HI

/-! ## Signalling a peer -/

/-- Signalling the peer at offset `k` pays the unit owed there, and hands over the slot into which that peer will send. -/
theorem step_sig (c : Dev nD) (k : Fin 31) (l : List (Fin 31)) (Q : PUnit → sProp 𝕄) :
    iprop((records m K ∗ ∃ W, owes (c : Thread nD τ) (oweR c offs + oweB c (k :: l)) W)
        ∗ (dutyTok ER (barCell (peer c k)) 0 k ∗ ∃ f, slotPts (F := F) c (inv k).succ f)
        ∗ (((records m K ∗ ∃ W, owes (c : Thread nD τ) (oweR c offs + oweB c l) W) ∗ emp) -∗ Q ⟨⟩))
      ⊢ WP c (sigStep c k) Q := by
  unfold sigStep
  simp only [semSignalWord]
  rw [sigDev_eq]
  iintro ⟨⟨#HR, ⟨%W, HO⟩⟩, ⟨Ht, ⟨%f, Hs⟩⟩, HQ⟩
  iapply (Rounds.wp_signal 𝒱₀ ER (rd m) (c : Thread nD τ) none (dst := (peer c k : Thread nD τ)) (κ := K (peer c k, kBar))
      (d := k) (by rw [duties_at m _ kindOf_bar]; exact Finset.mem_univ _) ((amount_at m (peer c k) kindOf_bar k).trans (by decide)) () (O₀ := oweR c offs + oweB c (k :: l)) (oweR c offs + oweB c l)
      (by rw [oweB_cons, ← add_assoc]; rfl))
    $$ [HO Ht Hs]
  · isplitr; · iapply (records_inv m K (peer c k, kBar)); iexact HR
    isplitl [HO]; · iexact HO
    isplitl [Ht]; · iexact Ht
    isplitl [Hs]
    · rw [payload_at m (peer c k) kindOf_bar, show payK m (peer c k) kBar k = iprop(∃ f, slotPts (F := F) (peer (peer c k) (inv k)) (inv k).succ f) from rfl, peer_inv]
      iexists f; iexact Hs
    iapply (records_reached m K (peer c k, kBar)); iexact HR
  iintro HO
  rw [wp_ret]; imodintro
  iapply HQ
  isplitl [HO]
  · isplitr; · iexact HR
    iexists W; iexact HO
  iempintro

/-! ## Starting the copy of a chunk -/

/-- The copy of chunk `r`, as an operation: it takes the columns, the slot and the duty's token, and gives the credit for its wait. -/
theorem wp_copyFrom (c : Dev nD) (r : Fin 4) {hsrc : (acols c r).view.WordExact} {hdst : (wslot r).view.WordExact}
    {hsem : DmaTarget.Typed (nD := nD) .hbm (.dma (copyS r)) (.here (p := (c : Thread nD τ).2) (wslot r))}
    {α : Type} {Q : α → sProp 𝕄} {kt : PUnit → KProg F α} (f : Buf (Elt F) ((wslot r).view.loc (c : Thread nD τ))) :
    iprop(cellInv ER (rd m) (K (c, kCopy r)) (copyCell c r) ∗ aPts m c r ∗ wPts c r f
        ∗ dutyTok ER (copyCell c r) 0 0 ∗ reached ER (copyCell c r) 0)
      ⊢ iprop((cred (tallyAt (copyCell c r) () NW) -∗ WP c (kt ⟨⟩) Q)
          -∗ WP c (.op (.enqueueDma (acols c r) (.here (wslot r)) (.dma (copyS r)) hsrc hdst hsem) kt) Q) := by
  unfold aPts wPts
  exact Rounds.wp_copy_pointsTo 𝒱₀ ER (rd m) (c : Thread nD τ) none (κ := K (c, kCopy r)) (r := 0) (d := 0) (fd := f)
    (by rw [duties_at m c (kindOf_copy r)]; exact Finset.mem_singleton_self _) () NW rfl (amount_at m c (kindOf_copy r) 0)
    (by
      rw [payload_at m c (kindOf_copy r), show payK m c (kCopy r) 0 = iprop(wPts c r (wBuf m c) ∗ aPts m c r) from rfl]
      unfold wPts aPts
      exact sep_mono_left (Entails.of_eq (pointsTo_congr fun i hi => copy_lands m c r f i hi)))

/-- The same as a step of the body. -/
theorem step_copy (c : Dev nD) (r : Fin 4) (l : List (Fin 4)) (Q : PUnit → sProp 𝕄) :
    iprop(records m K
        ∗ (dutyTok ER (copyCell c r) 0 0 ∗ aPts m c r ∗ ∃ f, wPts (F := F) c r f)
        ∗ ((records m K ∗ cred (tallyAt (copyCell c r) () NW)) -∗ Q ⟨⟩))
      ⊢ WP c (copyStep c r) Q := by
  unfold copyStep
  simp only [Prog.lift]
  iintro ⟨#HR, ⟨Ht, Ha, ⟨%f, Hw⟩⟩, HQ⟩
  iapply (wp_copyFrom m K c r f) $$ [Ht Ha Hw]
  · isplitr; · iapply (records_inv m K (c, kCopy r)); iexact HR
    isplitl [Ha]; · iexact Ha
    isplitl [Hw]; · iexact Hw
    isplitl [Ht]; · iexact Ht
    iapply (records_reached m K (c, kCopy r)); iexact HR
  iintro Hc
  rw [WP, wp_ret]; imodintro
  iapply HQ
  isplitr; · iexact HR
  iexact Hc

/-! ## Waiting at one of the device's own semaphores -/

/-- What a wait for all of an own semaphore's round leaves: its payload, and the semaphore closed at zero. -/
theorem wait_own (c : Dev nD) (sm : SemLoc sig) (o : Own) (hk : kindOf sm = some (.inr o)) (hs : kcell (c, .inr o) = ((c : Thread nD τ), sm)) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ sm (amountK (.inr o)) Kt)
    (O : CellTallies nD τ sig Unit) {α : Type} (k : PUnit → KProg F α) (Q : α → sProp 𝕄) :
    iprop(records m K ∗ (∃ W, owes (c : Thread nD τ) O W) ∗ MayWait (c : Thread nD τ) sm () O
        ∗ cred (tallyAt ((c : Thread nD τ), sm) () (amountK (.inr o))) ∗ atPos ER ((c : Thread nD τ), sm) 0 ∅ 0
        ∗ (((∃ W, owes (c : Thread nD τ) O W) ∗ payK m c (.inr o) 0 ∗ semVal ((c : Thread nD τ), sm) 0) -∗ WP c (k ⟨⟩) Q))
      ⊢ WP c (.op w k) Q := by
  iintro ⟨#HR, ⟨%W, HO⟩, HM, Hc, Ha, HQ⟩
  ihave #HI := (records_inv m K (c, .inr o)) $$ HR
  rw [hs]
  iapply (Rounds.wp_wait_rest_token 𝒱₀ ER (rd m) (c : Thread nD τ) none (κ := K (c, .inr o)) hw (Set.mem_univ _) () (O := O) (W := W) (R := 0) (m := 0) (T := ∅)
      (by rw [Nat.zero_add, expect_own m c hk])) $$ [Hc HO HM Ha]
  · isplitr; · iexact HI
    isplitl [Hc]; · iexact Hc
    isplitl [HO]; · iexact HO
    isplitl [HM]; · iexact HM
    iexact Ha
  iintro ⟨HO, Ha, -, Hp⟩
  ihave Hp := (Entails.of_eq (rest_own m c hk)) $$ Hp
  imod (Rounds.cell_close ER (rd m) (Set.mem_univ (K (c, .inr o))) (fun h => h) (R := 0 + 1) (duties_later m ((c : Thread nD τ), sm))) $$ [Ha] with Hz
  · isplitr; · iexact HI
    iexact Ha
  iapply HQ
  isplitl [HO]; · iexists _; iexact HO
  isplitl [Hp]; · iexact Hp
  iexact Hz

/-! ## Loading a chunk -/

/-- Loading the staged features whole reads their contents. -/
theorem read_x (f : (cc0_stg0_0 : Ref sig .tc).ty.Contents (Elt F)) :
    (xM : Memref sig .tc .vmem S512x1024 .f32).view.readAt (Elt F) (Rect.unit (s := S512x1024) ![0, 0] S512x1024.size inb_S512x1024_S512x1024_0_0).toLoadRect f = f :=
  Memref.readAt_unit_zero (Elt F) cc0_stg0_0 (funext fun a => by fin_cases a <;> rfl) _ f
/-- Loading the staged labels whole reads their contents. -/
theorem read_lab (f : (cc0_stg1_0 : Ref sig .tc).ty.Contents (Elt F)) :
    (labM : Memref sig .tc .vmem S512 .i32).view.readAt (Elt F) (Rect.unit (s := S512) ![0] S512.size inb_S512_S512_0).toLoadRect f = f :=
  Memref.readAt_unit_zero (Elt F) cc0_stg1_0 (funext fun a => by fin_cases a; rfl) _ f

/-- A chunk's load stays in its slot. -/
theorem chunk_sub (r : Fin 4) :
    (wM : Memref sig .tc .vmem S4x1024x256 .f32).view.setOn (Rect.unit (s := S4x1024x256) ![r.val, 0, 0] S1x1024x256.size (wslot_inb r)).toLoadRect.set ⊆ (wslot r).view.set := by
  intro i hi
  rw [show (wslot r).view.set = _ from Memref.set_view_squeeze _ _]
  erw [View.set_slice]
  exact hi

/-- Waiting for chunk `r` and loading it: the values loaded are the staged features, the chunk's columns and the staged labels; the
slot and the columns are back. -/
theorem step_fetch (c : Dev nD) (r : Fin 4) (Q : Vec F S512x1024 .f32 × Vec F S1x1024x256 .f32 × Vec F S512 .i32 → sProp 𝕄) :
    iprop(records m K ∗ levAts L lv ∗ (∃ W, owes (c : Thread nD τ) (oweR c offs) W)
        ∗ ((c : Thread nD τ).loc cc0_stg0_0 ↦{fullShare} xstg m c) ∗ ((c : Thread nD τ).loc cc0_stg1_0 ↦{fullShare} labstg m c)
        ∗ cred (tallyAt (copyCell c r) () NW) ∗ atPos ER (copyCell c r) 0 ∅ 0
        ∗ (((∃ W, owes (c : Thread nD τ) (oweR c offs) W)
            ∗ ((c : Thread nD τ).loc cc0_stg0_0 ↦{fullShare} xstg m c) ∗ ((c : Thread nD τ).loc cc0_stg1_0 ↦{fullShare} labstg m c)
            ∗ wPts c r (wBuf m c) ∗ aPts m c r ∗ semVal (copyCell c r) 0) -∗ Q (xstg m c, chunk m c r, labstg m c)))
      ⊢ WP c (fetch c r) Q := by
  unfold fetch
  simp only [Prog.lift, Prog.bind_op, Prog.bind_ret, Prog.pure_eq_ret]
  refine (show _ ⊢ _ from ?_).trans (wait_own m K c (.dma (copyS r)) (.inl r) (kindOf_copy r) rfl (by exact wpE_waitDma2_eq 𝒱₀ (c : Thread nD τ) none Set.univ) (oweR c offs) _ _)
  iintro ⟨#HR, #Hlev, HO, Hx, Hl, Hc, Ha, HQ⟩
  isplitr; · iexact HR
  isplitl [HO]; · iexact HO
  isplitr
  · have hlv : lv ((c : Thread nD τ), (.dma (copyS r) : SemLoc sig)) () = 0 := by unfold lv; rw [kindOf_copy]; rfl
    have h := mayWait_low (F := F) c (.dma (copyS r)) offs [] hlv
    rw [oweB_nil, add_zero] at h
    iapply h; iexact Hlev
  isplitl [Hc]; · iexact Hc
  isplitl [Ha]; · iexact Ha
  iintro ⟨HO, Hp, Hz⟩
  unfold payK
  icases Hp with ⟨Hw, HA⟩
  iapply (wp_load 𝒱₀ (c : Thread nD τ) none Set.univ (m := xM) (Finset.subset_univ _)) $$ Hx; iintro Hx
  rw [read_x]
  unfold wPts
  iapply (wp_load 𝒱₀ (c : Thread nD τ) none Set.univ (m := wM) (chunk_sub r)) $$ Hw; iintro Hw
  iapply (wp_load 𝒱₀ (c : Thread nD τ) none Set.univ (m := labM) (Finset.subset_univ _)) $$ Hl; iintro Hl
  rw [read_lab, show (wM : Memref sig .tc .vmem S4x1024x256 .f32).view.readAt (Elt F) _ (wBuf m c) = chunk m c r from rfl, wp_ret]
  imodintro
  iapply HQ
  isplitl [HO]; · iexact HO
  isplitl [Hx]; · iexact Hx
  isplitl [Hl]; · iexact Hl
  isplitl [Hw]; · iexact Hw
  isplitl [HA]; · iexact HA
  iexact Hz

/-! ## Storing the device's own partial sums -/

/-- Storing the device's two sums in slot 0, whatever was there, leaves in it what `commBuf` says. -/
theorem step_store (c : Dev nD) (Q : PUnit → sProp 𝕄) :
    iprop((∃ f, slotPts (F := F) c 0 f) ∗ (slotPts c 0 (commBuf m c) -∗ Q ⟨⟩))
      ⊢ WP c (storeOwn (rowS (xstg m c) (chunk m c)) (rowG c (xstg m c) (chunk m c) (labstg m c))) Q := by
  unfold storeOwn
  simp only [Prog.lift, Prog.bind_op, Prog.bind_ret]
  have hl (r : Rect S32x2x512) (h : r.set ⊆ slotSet 0) : (commM : Memref sig .tc .vmem S32x2x512 .f32).view.setOn r.toLoadRect.set ⊆ (slot 0).view.set :=
    fun i hi => h (by rw [← set_access r]; erw [View.set_slice]; exact hi)
  have hs (r : Rect S32x2x512) (h : r.set ⊆ slotSet 0) : ((commM : Memref sig .tc .vmem S32x2x512 .f32).access r : View sig .tc _ _ _).setOn Finset.univ ⊆ (slot 0).view.set :=
    fun i hi => h (by rw [View.setOn_univ, set_access] at hi; exact hi)
  iintro ⟨⟨%f, Hs⟩, HQ⟩
  unfold slotPts
  iapply (wp_load 𝒱₀ (c : Thread nD τ) none Set.univ (m := commM) (hl r0 r0_sub)) $$ Hs; iintro Hs
  iapply (wp_store 𝒱₀ (c : Thread nD τ) none Set.univ (m := commM) (r := r0) (Mk := Finset.univ) (hs r0 r0_sub)) $$ Hs; iintro Hs
  iapply (wp_load 𝒱₀ (c : Thread nD τ) none Set.univ (m := commM) (hl r1 r1_sub)) $$ Hs; iintro Hs
  iapply (wp_store 𝒱₀ (c : Thread nD τ) none Set.univ (m := commM) (r := r1) (Mk := Finset.univ) (hs r1 r1_sub)) $$ Hs; iintro Hs
  rw [wp_ret]; imodintro
  iapply HQ
  iapply (Entails.of_eq (pointsTo_congr fun i hi => own_lands m c f i hi)); iexact Hs

/-! ## Waiting for everybody's signal -/

/-- Waiting at the barrier for 31 units brings, of every peer, the slot into which this device will send. -/
theorem step_barrier (c : Dev nD) (Q : PUnit → sProp 𝕄) :
    iprop(records m K ∗ levAts L lv ∗ (∃ W, owes (c : Thread nD τ) (oweR c offs) W)
        ∗ cred (tallyAt (barCell c) () 31) ∗ atPos ER (barCell c) 0 ∅ 0
        ∗ (((∃ W, owes (c : Thread nD τ) (oweR c offs) W) ∗ semVal (barCell c) 0
            ∗ bigSep Finset.univ fun k : Fin 31 => iprop(∃ f, slotPts (F := F) (peer c (inv k)) (inv k).succ f)) -∗ Q ⟨⟩))
      ⊢ WP c (semWaitWord barS 31#32) Q := by
  simp only [semWaitWord]
  iintro ⟨#HR, #Hlev, ⟨%W, HO⟩, Hc, Ha, HQ⟩
  ihave #HI := (records_inv m K (c, kBar)) $$ HR
  iapply (Rounds.wp_wait_rest_token 𝒱₀ ER (rd m) (c : Thread nD τ) none (κ := K (c, kBar)) (wpE_semWait_eq 𝒱₀ (c : Thread nD τ) none Set.univ) (Set.mem_univ _) ()
      (O := oweR c offs) (W := W) (R := 0) (m := 0) (T := ∅) (by rw [expect_bar]; decide)) $$ [Hc HO Ha]
  · isplitr; · iexact HI
    isplitl [Hc]; · iexact Hc
    isplitl [HO]; · iexact HO
    isplitr; · iapply (mayWait_bar (F := F) c offs); iexact Hlev
    iexact Ha
  iintro ⟨HO, Ha, -, Hp⟩
  ihave Hp := (Entails.of_eq (rest_bar m c)) $$ Hp
  imod (Rounds.cell_close ER (rd m) (Set.mem_univ (K (c, kBar))) (fun h => h) (R := 0 + 1) (duties_later m (barCell c))) $$ [Ha] with Hz
  · isplitr; · iexact HI
    iexact Ha
  rw [wp_ret]; imodintro
  iapply HQ
  isplitl [HO]; · iexists _; iexact HO
  isplitl [Hz]; · iexact Hz
  iexact Hp

/-! ## Sending to a peer -/

/-- The copy to a device known to be the peer. -/
theorem wp_sendTo (c n : Dev nD) (k : Fin 31) (hn : n = peer c k) {hsc : (slot k.succ : Memref sig (Dev.tc n : Thread nD τ).2.kind .vmem S2x512 .f32).view.ref.isScScratch = false}
    {hsrc : (slot 0).view.WordExact} {hdst : (slot k.succ).view.WordExact}
    {hsem : DmaTarget.Typed .vmem (.dma (recvS k)) (.remote (Dev.tc n : Thread nD τ) (slot k.succ) (.dma (sendS k)) hsc)}
    {α : Type} {Q : α → sProp 𝕄} {kt : PUnit → KProg F α}
    (fn : Buf (Elt F) ((slot k.succ).view.loc (peer c k : Thread nD τ))) (O : CellTallies nD τ sig Unit) (W : Waits sig Unit) :
    iprop(cellInv ER (rd m) (K (c, kSend k)) (sendCell c k) ∗ cellInv ER (rd m) (K (peer c k, kRecv k)) (recvCell (peer c k) k)
        ∗ tokPts m c k ∗ slotPts (peer c k) k.succ fn
        ∗ owes (c : Thread nD τ) (O + tallyAt (recvCell (peer c k) k) () NS) W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () NS) ∗ owes (c : Thread nD τ) O W) -∗ WP c (kt ⟨⟩) Q)
          -∗ WP c (.op (.enqueueDma (slot 0) (.remote (Dev.tc n : Thread nD τ) (slot k.succ) (.dma (sendS k)) hsc) (.dma (recvS k)) hsrc hdst hsem) kt) Q) := by
  subst hn
  unfold tokPts slotPts
  exact Rounds.wp_send_pointsTo 𝒱₀ ER (rd m) (c : Thread nD τ) none (κ₁ := K (c, kSend k)) (κ₂ := K (peer c k, kRecv k))
    (r₁ := 0) (r₂ := 0) (d₁ := 0) (d₂ := 0) (fd := fn)
    (by rw [duties_at m c (kindOf_send k)]; exact Finset.mem_singleton_self _) (by rw [duties_at m (peer c k) (kindOf_recv k)]; exact Finset.mem_singleton_self _)
    () () NS rfl (amount_at m c (kindOf_send k) 0) (amount_at m (peer c k) (kindOf_recv k) 0) O rfl (W := W)
    (by rw [payload_at m c (kindOf_send k)]; exact BI.Entails.refl _)
    (by
      rw [payload_at m (peer c k) (kindOf_recv k)]
      unfold payK slotPts
      exact Entails.of_eq (pointsTo_congr fun i hi => send_lands m c k fn i hi))

/-- Sending slot 0 at offset `k` pays the copy owed there, and gives the credit for the wait of the sender. -/
theorem step_send (c : Dev nD) (k : Fin 31) (l : List (Fin 31)) (Q : PUnit → sProp 𝕄) :
    iprop((records m K ∗ ∃ W, owes (c : Thread nD τ) (oweR c (k :: l)) W)
        ∗ (dutyTok ER (sendCell c k) 0 0 ∗ dutyTok ER (recvCell (peer c k) k) 0 0 ∗ tokPts m c k ∗ ∃ f, slotPts (F := F) (peer c k) k.succ f)
        ∗ (((records m K ∗ ∃ W, owes (c : Thread nD τ) (oweR c l) W) ∗ cred (tallyAt (sendCell c k) () NS)) -∗ Q ⟨⟩))
      ⊢ WP c (sendStep c k) Q := by
  unfold sendStep
  simp only [Prog.lift]
  rw [oweR_cons]
  iintro ⟨⟨#HR, ⟨%W, HO⟩⟩, ⟨Hts, Htr, Htok, ⟨%f, Hs⟩⟩, HQ⟩
  iapply (wp_sendTo m K c _ k (sndDev_eq c k) f (oweR c l) W) $$ [HO Hts Htr Htok Hs]
  · isplitr; · iapply (records_inv m K (c, kSend k)); iexact HR
    isplitr; · iapply (records_inv m K (peer c k, kRecv k)); iexact HR
    isplitl [Htok]; · iexact Htok
    isplitl [Hs]; · iexact Hs
    isplitl [HO]; · iexact HO
    isplitl [Hts]; · iexact Hts
    isplitr; · iapply (records_reached m K (c, kSend k)); iexact HR
    isplitl [Htr]; · iexact Htr
    iapply (records_reached m K (peer c k, kRecv k)); iexact HR
  iintro ⟨Hc, HO⟩
  rw [WP, wp_ret]; imodintro
  iapply HQ
  isplitl [HO]
  · isplitr; · iexact HR
    iexists W; iexact HO
  iexact Hc

/-! ## Waiting for the copies received and sent -/

/-- Waiting for the copy received at offset `k` brings the slot, filled with the sender's sums. -/
theorem step_recvWait (c : Dev nD) (k : Fin 31) (l : List (Fin 31)) (Q : PUnit → sProp 𝕄) :
    iprop((records m K ∗ ∃ W, owes (c : Thread nD τ) 0 W)
        ∗ (cred (tallyAt (recvCell c k) () NS) ∗ atPos ER (recvCell c k) 0 ∅ 0)
        ∗ (((records m K ∗ ∃ W, owes (c : Thread nD τ) 0 W) ∗ (slotPts c k.succ (commBuf m c) ∗ semVal (recvCell c k) 0)) -∗ Q ⟨⟩))
      ⊢ WP c (recvWait k) Q := by
  unfold recvWait
  simp only [Prog.lift]
  refine (show _ ⊢ _ from ?_).trans (wait_own m K c (.dma (recvS k)) (.inr (.inr k)) (kindOf_recv k) rfl (by exact wpE_waitDma2_eq 𝒱₀ (c : Thread nD τ) none Set.univ) 0 _ _)
  iintro ⟨⟨#HR, HO⟩, ⟨Hc, Ha⟩, HQ⟩
  isplitr; · iexact HR
  isplitl [HO]; · iexact HO
  isplitr; · rw [MayWait_zero]; iempintro
  isplitl [Hc]; · iexact Hc
  isplitl [Ha]; · iexact Ha
  iintro ⟨HO, Hp, Hz⟩
  unfold payK
  rw [WP, wp_ret]; imodintro
  iapply HQ
  isplitl [HO]
  · isplitr; · iexact HR
    iexact HO
  isplitl [Hp]; · iexact Hp
  iexact Hz

/-- Waiting for the copy sent at offset `k` brings the share of slot 0 back. -/
theorem step_sendWait (c : Dev nD) (k : Fin 31) (l : List (Fin 31)) (Q : PUnit → sProp 𝕄) :
    iprop((records m K ∗ ∃ W, owes (c : Thread nD τ) 0 W)
        ∗ (cred (tallyAt (sendCell c k) () NS) ∗ atPos ER (sendCell c k) 0 ∅ 0)
        ∗ (((records m K ∗ ∃ W, owes (c : Thread nD τ) 0 W) ∗ (tokPts m c k ∗ semVal (sendCell c k) 0)) -∗ Q ⟨⟩))
      ⊢ WP c (sendWait k) Q := by
  unfold sendWait
  simp only [Prog.lift]
  refine (show _ ⊢ _ from ?_).trans (wait_own m K c (.dma (sendS k)) (.inr (.inl k)) (kindOf_send k) rfl (by exact wpE_waitDma2_eq 𝒱₀ (c : Thread nD τ) none Set.univ) 0 _ _)
  iintro ⟨⟨#HR, HO⟩, ⟨Hc, Ha⟩, HQ⟩
  isplitr; · iexact HR
  isplitl [HO]; · iexact HO
  isplitr; · rw [MayWait_zero]; iempintro
  isplitl [Hc]; · iexact Hc
  isplitl [Ha]; · iexact Ha
  iintro ⟨HO, Hp, Hz⟩
  unfold payK
  rw [WP, wp_ret]; imodintro
  iapply HQ
  isplitl [HO]
  · isplitr; · iexact HR
    iexact HO
  isplitl [Hp]; · iexact Hp
  iexact Hz

/-! ## The result -/

/-- The first rows of all slots as the body loads them, -/
def allS (c : Dev nD) : Vec F S32x1x512 .f32 :=
  (commM : Memref sig .tc .vmem S32x2x512 .f32).view.readAt (Elt F) (Rect.unit (s := S32x2x512) ![0, 0, 0] S32x1x512.size inb_S32x2x512_S32x1x512_0_0_0).toLoadRect (commBuf m c)
/-- the second rows, -/
def allG (c : Dev nD) : Vec F S32x1x512 .f32 :=
  (commM : Memref sig .tc .vmem S32x2x512 .f32).view.readAt (Elt F) (Rect.unit (s := S32x2x512) ![0, 1, 0] S32x1x512.size inb_S32x2x512_S32x1x512_0_1_0).toLoadRect (commBuf m c)
/-- and the result it stores. -/
def outAt (c : Dev nD) : (cc0_stg2_0 : Ref sig .tc).ty.Contents (Elt F) := k0_pay1 (k0_pay17 (allS m c)) (k0_pay18 (allG m c))

/-- Storing the whole output leaves what was stored. -/
theorem write_out (f w : (cc0_stg2_0 : Ref sig .tc).ty.Contents (Elt F)) :
    ((oM : Memref sig .tc .vmem S512 .f32).access (Rect.unit (s := S512) ![0] S512.size inb_S512_S512_0) : View sig .tc _ _ _).write (Elt F) f w Finset.univ = w :=
  Memref.write_access_unit_zero_univ (Elt F) cc0_stg2_0 (funext fun a => by fin_cases a; rfl) _ f w

/-- Loading all the slots and storing the result leaves the slots, and the output at `outAt`. -/
theorem step_finish (c : Dev nD) (Q : PUnit → sProp 𝕄) :
    iprop(((c : Thread nD τ).loc cc0_scratch1 ↦{fullShare} commBuf m c) ∗ (∃ f : Buf (Elt F) ((c : Thread nD τ).loc cc0_stg2_0), (c : Thread nD τ).loc cc0_stg2_0 ↦{fullShare} f)
        ∗ ((((c : Thread nD τ).loc cc0_scratch1 ↦{fullShare} commBuf m c) ∗ ((c : Thread nD τ).loc cc0_stg2_0 ↦{fullShare} outAt m c)) -∗ Q ⟨⟩))
      ⊢ WP c finish Q := by
  unfold finish
  simp only [Prog.lift, Prog.bind_op, Prog.bind_ret]
  iintro ⟨Hs, ⟨%f, Ho⟩, HQ⟩
  iapply (wp_load 𝒱₀ (c : Thread nD τ) none Set.univ (m := commM) (Finset.subset_univ _)) $$ Hs; iintro Hs
  iapply (wp_load 𝒱₀ (c : Thread nD τ) none Set.univ (m := commM) (Finset.subset_univ _)) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := Rect.unit (s := S512) ![0] S512.size inb_S512_S512_0) (Mk := Finset.univ) (Finset.subset_univ _)) $$ Ho; iintro Ho
  rw [write_out, wp_ret]; imodintro
  iapply HQ
  isplitl [Hs]; · iexact Hs
  iexact Ho

end Cert.Nll

end
-- ==== Proof.Body.lean ====
/-
The whole body: the steps in order, from everything a device starts with to everything it ends with.
-/
module

public import proofs.«01_k».proof.Proof.Steps

@[expose] public section

noncomputable section

namespace Cert.Nll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the kinds, the offsets and the chunks -/

/-- One per offset: one for each member of the list of offsets. -/
theorem offs_eq (Φ : Fin 31 → sProp 𝕄) : (bigSep Finset.univ Φ : sProp 𝕄) = bigSepL offs Φ :=
  bigSep_univ_eq_bigSepL offs (by decide) (by decide) Φ
/-- One per chunk: one for each member of the list of chunks. -/
theorem chunks_eq (Φ : Fin 4 → sProp 𝕄) : (bigSep Finset.univ Φ : sProp 𝕄) = bigSepL chunks Φ :=
  bigSep_univ_eq_bigSepL chunks (by decide) (by decide) Φ
/-- One for each member of the list of chunks: the four, side by side. -/
theorem four (Φ : Fin 4 → sProp 𝕄) : (bigSepL chunks Φ : sProp 𝕄) = iprop(Φ 0 ∗ Φ 1 ∗ Φ 2 ∗ Φ 3) := rfl

/-- One per own semaphore: per chunk, per copy sent, per copy received. -/
theorem sep_own (Φ : Own → sProp 𝕄) : (bigSep Finset.univ Φ : sProp 𝕄)
    = iprop((bigSep Finset.univ fun r : Fin 4 => Φ (.inl r)) ∗ (bigSep Finset.univ fun k : Fin 31 => Φ (.inr (.inl k))) ∗ bigSep Finset.univ fun k : Fin 31 => Φ (.inr (.inr k))) := by
  rw [bigSep_univ_sum, bigSep_univ_sum]; rfl
/-- One per semaphore: the barrier, and the own ones. -/
theorem sep_kind (Φ : Kind → sProp 𝕄) : (bigSep Finset.univ Φ : sProp 𝕄) = iprop(Φ kBar ∗ bigSep Finset.univ fun o : Own => Φ (.inr o)) := by
  rw [bigSep_univ_sum, show (Finset.univ : Finset Unit) = {()} from rfl, bigSep_singleton]; rfl
/-- One per slot: slot 0, and one per offset. -/
theorem sep_slot (Φ : Fin 32 → sProp 𝕄) : (bigSep Finset.univ Φ : sProp 𝕄) = iprop(Φ 0 ∗ bigSep Finset.univ fun k : Fin 31 => Φ k.succ) := by
  rw [Fin.univ_succ, Finset.cons_eq_insert, bigSep_insert (by simp [Fin.succ_ne_zero]), bigSep_map]; rfl
/-- A family, member by member. -/
theorem all_mono {I : Type} [Fintype I] {Φ Ψ : I → sProp 𝕄} (h : ∀ i, Φ i ⊢ Ψ i) : (bigSep Finset.univ Φ : sProp 𝕄) ⊢ bigSep Finset.univ Ψ :=
  bigSep_mono fun i _ => h i
/-- A family of pairs is a pair of families. -/
theorem all_sep {I : Type} [Fintype I] (Φ Ψ : I → sProp 𝕄) :
    (bigSep Finset.univ (fun i => iprop(Φ i ∗ Ψ i)) : sProp 𝕄) = iprop((bigSep Finset.univ Φ) ∗ bigSep Finset.univ Ψ) :=
  bigSep_sep _ _ _

variable (m : (ℓ : Loc nD τ sig) → Buf (Elt F) ℓ) (K : Dev nD × Kind → ℕ)

/-! ## Taking the buffers apart and putting them together -/

/-- Holding the buffer of partial sums is holding its slot 0 and its 31 slots at the offsets. -/
theorem comm_slots (c : Dev nD) (f : Buf (Elt F) ((c : Thread nD τ).loc cc0_scratch1)) :
    ((c : Thread nD τ).loc cc0_scratch1 ↦{fullShare} f : sProp 𝕄) = iprop(slotPts c 0 f ∗ bigSep Finset.univ fun k : Fin 31 => slotPts c k.succ f) := by
  have h := pointsTo_biUnion (ℓ := (c : Thread nD τ).loc cc0_scratch1) (q := fullShare) (f := f) (Ix := Unit) (Name := ℕ) (U := UU) (Lvl := ℕ) Finset.univ slotSet (fun t _ t' _ h => slot_disjoint h)
  rw [slots_univ] at h
  exact h.trans (sep_slot _)
/-- Holding the buffer of chunks is holding its four slots. -/
theorem w_slots (c : Dev nD) (f : Buf (Elt F) ((c : Thread nD τ).loc cc0_scratch0)) :
    ((c : Thread nD τ).loc cc0_scratch0 ↦{fullShare} f : sProp 𝕄) = bigSep Finset.univ fun r : Fin 4 => wPts c r f := by
  have h := pointsTo_biUnion (ℓ := (c : Thread nD τ).loc cc0_scratch0) (q := fullShare) (f := f) (Ix := Unit) (Name := ℕ) (U := UU) (Lvl := ℕ) Finset.univ wslotSet (fun t _ t' _ h => wslot_disjoint h)
  rw [wslots_univ] at h
  exact h

/-- What stays of slot 0 while its shares are lent to the copies. -/
def slotRest (c : Dev nD) : sProp 𝕄 :=
  (slot 0).view.loc (c : Thread nD τ) ↦[(slot 0).view.set]{Transfers.shareDrop fullShare 31} commBuf m c
/-- Slot 0 is what stays of it and the shares lent to the 31 copies sent. -/
theorem slot_toks (c : Dev nD) : slotPts c 0 (commBuf m c) ⊣⊢ iprop(slotRest m c ∗ bigSep Finset.univ fun k : Fin 31 => tokPts m c k) := by
  unfold slotPts slotRest tokPts
  exact Transfers.pointsTo_toks fullShare 31

/-- What stays of the weights while the chunks' columns are lent to the copies. -/
def aRest (c : Dev nD) : sProp 𝕄 :=
  iprop(((c : Thread nD τ).loc main_arg1 ↦{Transfers.shareDrop fullShare 4} m ((c : Thread nD τ).loc main_arg1))
    ∗ bigSep Finset.univ fun r : Fin 4 => ((c : Thread nD τ).loc main_arg1 ↦[Finset.univ \ (acols c r).view.set]{Transfers.shareTok fullShare 4 r} m ((c : Thread nD τ).loc main_arg1) : sProp 𝕄))
/-- The weights are what stays of them and the columns lent to the four copies of chunks. -/
theorem a_toks (c : Dev nD) : ((c : Thread nD τ).loc main_arg1 ↦{fullShare} m ((c : Thread nD τ).loc main_arg1) : sProp 𝕄)
    ⊣⊢ iprop(aRest m c ∗ bigSep Finset.univ fun r : Fin 4 => aPts m c r) := by
  have hr (r : Fin 4) : ((c : Thread nD τ).loc main_arg1 ↦[Finset.univ]{Transfers.shareTok fullShare 4 r} m ((c : Thread nD τ).loc main_arg1) : sProp 𝕄)
      ⊣⊢ iprop(((c : Thread nD τ).loc main_arg1 ↦[Finset.univ \ (acols c r).view.set]{Transfers.shareTok fullShare 4 r} m ((c : Thread nD τ).loc main_arg1)) ∗ aPts m c r) := by
    unfold aPts
    exact (pointsTo_split_subset (Finset.subset_univ _)).trans sep_comm
  unfold aRest
  constructor
  · refine (Transfers.pointsTo_toks fullShare 4).1.trans ?_
    iintro ⟨HD, HT⟩
    ihave HT := (all_mono (fun r => (hr r).1)) $$ HT
    ihave HT := (Entails.of_eq (all_sep _ _)) $$ HT
    icases HT with ⟨HT, HA⟩
    isplitl [HD HT]
    · isplitl [HD] <;> iassumption
    iexact HA
  · refine BIBase.Entails.trans ?_ (Transfers.pointsTo_toks fullShare 4).2
    iintro ⟨⟨HD, HT⟩, HA⟩
    isplitl [HD]; · iexact HD
    iapply (all_mono (fun r => (hr r).2))
    iapply (Entails.of_eq (all_sep _ _).symm)
    isplitl [HT] <;> iassumption

/-! ## The run of the body -/

/-- The duty tokens a device pays with: of its peers' barrier and receive semaphores, and of its own copy and send semaphores. -/
def toks (c : Dev nD) : sProp 𝕄 :=
  iprop((bigSep Finset.univ fun k : Fin 31 => dutyTok ER (barCell (peer c k)) 0 k)
    ∗ (bigSep Finset.univ fun r : Fin 4 => dutyTok ER (copyCell c r) 0 0)
    ∗ (bigSep Finset.univ fun k : Fin 31 => dutyTok ER (sendCell c k) 0 0)
    ∗ bigSep Finset.univ fun k : Fin 31 => dutyTok ER (recvCell (peer c k) k) 0 0)
/-- What the device may wait for at semaphores the others pay into. -/
def creds (c : Dev nD) : sProp 𝕄 :=
  iprop(cred (tallyAt (barCell c) () 31) ∗ bigSep Finset.univ fun k : Fin 31 => cred (tallyAt (recvCell c k) () NS))
/-- The device's places at its own 67 semaphores. -/
def places (c : Dev nD) : sProp 𝕄 := bigSep Finset.univ fun κ : Kind => atPos ER (kcell (c, κ)) 0 ∅ 0

/-- The staged inputs, untouched. -/
def staged (c : Dev nD) : sProp 𝕄 :=
  iprop(((c : Thread nD τ).loc cc0_stg0_0 ↦{fullShare} xstg m c) ∗ ((c : Thread nD τ).loc cc0_stg1_0 ↦{fullShare} labstg m c))
/-- The two scratch buffers, holding anything. -/
def scratch (c : Dev nD) : sProp 𝕄 :=
  iprop((∃ f : Buf (Elt F) ((c : Thread nD τ).loc cc0_scratch0), (c : Thread nD τ).loc cc0_scratch0 ↦{fullShare} f)
    ∗ ∃ f : Buf (Elt F) ((c : Thread nD τ).loc cc0_scratch1), (c : Thread nD τ).loc cc0_scratch1 ↦{fullShare} f)
/-- The device's block of the weights, as the launch found it. -/
def arg1 (c : Dev nD) : sProp 𝕄 := (c : Thread nD τ).loc main_arg1 ↦{fullShare} m ((c : Thread nD τ).loc main_arg1)

/-- Everything the body ends with, besides what it may still owe (nothing). -/
def after (c : Dev nD) : sProp 𝕄 :=
  iprop(staged m c ∗ ((c : Thread nD τ).loc cc0_stg2_0 ↦{fullShare} outAt m c) ∗ scratch c ∗ arg1 m c
    ∗ semVal (barCell c) 0 ∗ bigSep Finset.univ fun o : Own => semVal ((c : Thread nD τ), osem o) 0)

/-- A slot that holds given contents holds some contents. -/
theorem anySlot (c : Dev nD) (s : Fin 32) (f : Buf (Elt F) ((c : Thread nD τ).loc cc0_scratch1)) : slotPts c s f ⊢ iprop(∃ f, slotPts (F := F) c s f) := by
  iintro H; iexists f; iexact H
/-- A chunk slot that holds given contents holds some contents. -/
theorem anyChunk (c : Dev nD) (r : Fin 4) (f : Buf (Elt F) ((c : Thread nD τ).loc cc0_scratch0)) : wPts c r f ⊢ iprop(∃ f, wPts (F := F) c r f) := by
  iintro H; iexists f; iexact H

/-- The slots received into, at the offsets' inverses. -/
theorem slots_inv (Φ : Fin 31 → sProp 𝕄) : (bigSep Finset.univ Φ : sProp 𝕄) = bigSep Finset.univ fun k => Φ (inv k) :=
  bigSep_univ_equiv invE Φ

/-- The whole body on device `c`: from the protocols in force, all that it owes, its places, tokens and credit, the staged inputs
and any contents of the output and the scratch, it runs to its end, owing nothing, with the output at `outAt`. -/
theorem sound_prog (c : Dev nD) (Q : PUnit → sProp 𝕄) :
    iprop(records m K ∗ levAts L lv ∗ (∃ W, owes (c : Thread nD τ) (O₀ c) W) ∗ places c ∗ toks c ∗ creds c
        ∗ staged m c ∗ (∃ f : Buf (Elt F) ((c : Thread nD τ).loc cc0_stg2_0), (c : Thread nD τ).loc cc0_stg2_0 ↦{fullShare} f) ∗ scratch c ∗ arg1 m c
        ∗ (((∃ W, owes (c : Thread nD τ) 0 W) ∗ after m c) -∗ Q ⟨⟩))
      ⊢ WP c (prog (F := F)) Q := by
  unfold prog
  simp only [Prog.lift, Prog.bind_op, Prog.bind_ret, wp_deviceId]
  unfold places toks creds staged scratch arg1 O₀
  rw [sep_kind, sep_own]
  iintro ⟨#HR, #Hlev, HO, ⟨Hpb, Hpc, Hps, Hpr⟩, ⟨Htb, Htc, Hts, Htr⟩, ⟨Hcb, Hcr⟩, ⟨Hx, Hl⟩, Hout, ⟨⟨%fw, Hw⟩, ⟨%fs, Hs⟩⟩, Hm, HQ⟩
  -- the buffers apart
  ihave Hs := (Entails.of_eq (comm_slots c fs)) $$ Hs
  icases Hs with ⟨Hs0, Hs⟩
  ihave Hs := (all_mono fun k : Fin 31 => anySlot c k.succ fs) $$ Hs
  ihave Hs := (Entails.of_eq (slots_inv _)) $$ Hs
  ihave Hw := (Entails.of_eq (w_slots c fw)) $$ Hw
  ihave Hw := (all_mono fun r : Fin 4 => anyChunk c r fw) $$ Hw
  ihave Hm := (a_toks m c).1 $$ Hm
  icases Hm with ⟨Hm, Ha⟩
  -- the signals
  rw [wp_bind]
  iapply (wp_each c (sigStep c) (fun l => iprop(records m K ∗ ∃ W, owes (c : Thread nD τ) (oweR c offs + oweB c l) W)) _ _ (step_sig m K c) offs)
  isplitl [HO]; · isplitr; · iexact HR
                  iexact HO
  isplitl [Htb Hs]
  · iapply (Entails.of_eq (offs_eq _))
    iapply (Entails.of_eq (all_sep _ _).symm)
    isplitl [Htb] <;> iassumption
  iintro ⟨⟨-, HO⟩, -⟩
  rw [oweB_nil, add_zero]
  -- the copies of the chunks
  beta_reduce
  rw [wp_bind]
  iapply (wp_each c (copyStep c) (fun l => records m K) _ _ (step_copy m K c) chunks)
  isplitr; · iexact HR
  isplitl [Htc Ha Hw]
  · iapply (Entails.of_eq (chunks_eq _))
    iapply (Entails.of_eq (all_sep _ _).symm)
    isplitl [Htc]; · iexact Htc
    iapply (Entails.of_eq (all_sep _ _).symm)
    isplitl [Ha] <;> iassumption
  iintro ⟨-, Hcc⟩
  -- the chunks, one by one
  ihave Hpc := (Entails.of_eq (chunks_eq _)) $$ Hpc
  ihave Hpc := (Entails.of_eq (four _)) $$ Hpc
  ihave Hcc := (Entails.of_eq (four _)) $$ Hcc
  icases Hpc with ⟨Hp0, Hp1, Hp2, Hp3⟩
  icases Hcc with ⟨Hc0, Hc1, Hc2, Hc3⟩
  beta_reduce
  rw [wp_bind]
  iapply (step_fetch m K c 0)
  isplitr; · iexact HR
  isplitr; · iexact Hlev
  isplitl [HO]; · iexact HO
  isplitl [Hx]; · iexact Hx
  isplitl [Hl]; · iexact Hl
  isplitl [Hc0]; · iexact Hc0
  isplitl [Hp0]; · iexact Hp0
  iintro ⟨HO, Hx, Hl, Hw0, Ha0, Hz0⟩
  beta_reduce
  rw [wp_bind]
  iapply (step_fetch m K c 1)
  isplitr; · iexact HR
  isplitr; · iexact Hlev
  isplitl [HO]; · iexact HO
  isplitl [Hx]; · iexact Hx
  isplitl [Hl]; · iexact Hl
  isplitl [Hc1]; · iexact Hc1
  isplitl [Hp1]; · iexact Hp1
  iintro ⟨HO, Hx, Hl, Hw1, Ha1, Hz1⟩
  beta_reduce
  rw [wp_bind]
  iapply (step_fetch m K c 2)
  isplitr; · iexact HR
  isplitr; · iexact Hlev
  isplitl [HO]; · iexact HO
  isplitl [Hx]; · iexact Hx
  isplitl [Hl]; · iexact Hl
  isplitl [Hc2]; · iexact Hc2
  isplitl [Hp2]; · iexact Hp2
  iintro ⟨HO, Hx, Hl, Hw2, Ha2, Hz2⟩
  beta_reduce
  rw [wp_bind]
  iapply (step_fetch m K c 3)
  isplitr; · iexact HR
  isplitr; · iexact Hlev
  isplitl [HO]; · iexact HO
  isplitl [Hx]; · iexact Hx
  isplitl [Hl]; · iexact Hl
  isplitl [Hc3]; · iexact Hc3
  isplitl [Hp3]; · iexact Hp3
  iintro ⟨HO, Hx, Hl, Hw3, Ha3, Hz3⟩
  -- the device's own partial sums
  beta_reduce
  rw [wp_bind]
  iapply (step_store m c)
  isplitl [Hs0]; · iexists fs; iexact Hs0
  iintro Hs0
  ihave Hs0 := (slot_toks m c).1 $$ Hs0
  icases Hs0 with ⟨Hs0, Htk⟩
  -- everybody is there
  beta_reduce
  rw [wp_bind]
  iapply (step_barrier m K c)
  isplitr; · iexact HR
  isplitr; · iexact Hlev
  isplitl [HO]; · iexact HO
  isplitl [Hcb]; · iexact Hcb
  isplitl [Hpb]; · iexact Hpb
  iintro ⟨HO, Hzb, Hps'⟩
  ihave Hps' := (Entails.of_eq (slots_inv (fun k : Fin 31 => iprop(∃ f, slotPts (F := F) (peer c k) k.succ f))).symm) $$ Hps'
  -- the copies sent
  beta_reduce
  rw [wp_bind]
  iapply (wp_each c (sendStep c) (fun l => iprop(records m K ∗ ∃ W, owes (c : Thread nD τ) (oweR c l) W)) _ _ (step_send m K c) offs)
  isplitl [HO]; · isplitr; · iexact HR
                  iexact HO
  isplitl [Hts Htr Htk Hps']
  · iapply (Entails.of_eq (offs_eq _))
    iapply (Entails.of_eq (all_sep _ _).symm)
    isplitl [Hts]; · iexact Hts
    iapply (Entails.of_eq (all_sep _ _).symm)
    isplitl [Htr]; · iexact Htr
    iapply (Entails.of_eq (all_sep _ _).symm)
    isplitl [Htk] <;> iassumption
  iintro ⟨⟨-, HO⟩, Hcs⟩
  rw [oweR_nil]
  -- the copies received
  beta_reduce
  rw [wp_bind]
  iapply (wp_each c recvWait (fun l => iprop(records m K ∗ ∃ W, owes (c : Thread nD τ) 0 W)) _ _ (step_recvWait m K c) offs)
  isplitl [HO]; · isplitr; · iexact HR
                  iexact HO
  isplitl [Hcr Hpr]
  · iapply (Entails.of_eq (offs_eq _))
    iapply (Entails.of_eq (all_sep _ _).symm)
    isplitl [Hcr]; · iexact Hcr
    iexact Hpr
  iintro ⟨⟨-, HO⟩, Hrs⟩
  ihave Hrs := (Entails.of_eq (offs_eq _).symm) $$ Hrs
  ihave Hrs := (Entails.of_eq (all_sep _ _)) $$ Hrs
  icases Hrs with ⟨Hrs, Hzr⟩
  -- the copies sent are read
  beta_reduce
  rw [wp_bind]
  iapply (wp_each c sendWait (fun l => iprop(records m K ∗ ∃ W, owes (c : Thread nD τ) 0 W)) _ _ (step_sendWait m K c) offs)
  isplitl [HO]; · isplitr; · iexact HR
                  iexact HO
  isplitl [Hcs Hps]
  · iapply (Entails.of_eq (offs_eq _))
    iapply (Entails.of_eq (all_sep _ _).symm)
    isplitl [Hcs]; · iapply (Entails.of_eq (offs_eq _).symm); iexact Hcs
    iexact Hps
  iintro ⟨⟨-, HO⟩, Htk⟩
  ihave Htk := (Entails.of_eq (offs_eq _).symm) $$ Htk
  ihave Htk := (Entails.of_eq (all_sep _ _)) $$ Htk
  icases Htk with ⟨Htk, Hzs⟩
  -- the result, from all slots
  beta_reduce
  iapply (step_finish m c)
  isplitl [Hs0 Htk Hrs]
  · iapply (Entails.of_eq (comm_slots c (commBuf m c)).symm)
    isplitl [Hs0 Htk]
    · iapply (slot_toks m c).2
      isplitl [Hs0] <;> iassumption
    iexact Hrs
  isplitl [Hout]; · iexact Hout
  iintro ⟨Hs, Hout⟩
  iapply HQ
  isplitl [HO]; · iexact HO
  unfold after staged scratch arg1
  isplitl [Hx Hl]; · isplitl [Hx] <;> iassumption
  isplitl [Hout]; · iexact Hout
  isplitl [Hs Hw0 Hw1 Hw2 Hw3]
  · isplitl [Hw0 Hw1 Hw2 Hw3]
    · iexists wBuf m c
      iapply (Entails.of_eq (w_slots c (wBuf m c)).symm)
      iapply (Entails.of_eq (chunks_eq _).symm)
      iapply (Entails.of_eq (four _).symm)
      isplitl [Hw0]; · iexact Hw0
      isplitl [Hw1]; · iexact Hw1
      isplitl [Hw2]; · iexact Hw2
      iexact Hw3
    iexists commBuf m c; iexact Hs
  isplitl [Hm Ha0 Ha1 Ha2 Ha3]
  · iapply (a_toks m c).2
    isplitl [Hm]; · iexact Hm
    iapply (Entails.of_eq (chunks_eq _).symm)
    iapply (Entails.of_eq (four _).symm)
    isplitl [Ha0]; · iexact Ha0
    isplitl [Ha1]; · iexact Ha1
    isplitl [Ha2]; · iexact Ha2
    iexact Ha3
  isplitl [Hzb]; · iexact Hzb
  iapply (Entails.of_eq (sep_own _).symm)
  isplitl [Hz0 Hz1 Hz2 Hz3]
  · iapply (Entails.of_eq (chunks_eq _).symm)
    iapply (Entails.of_eq (four _).symm)
    isplitl [Hz0]; · iexact Hz0
    isplitl [Hz1]; · iexact Hz1
    isplitl [Hz2]; · iexact Hz2
    iexact Hz3
  isplitl [Hzs]; · iexact Hzs
  iexact Hzr

end Cert.Nll

end
-- ==== Proof.Dats.lean ====
/-
What the pipeline around the body is told: the arrays, the staged contents, what is owed, and the body's obligation.
-/
module

public import proofs.«01_k».proof.Proof.Body
public import proofs.«01_k».proof.Proof.Gen.KernelIdeal.Launch

@[expose] public section

noncomputable section

namespace Cert.Nll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The ghost state a device starts from, under some assignment of invariant names; -/
def ghost (c : Dev nD) : sProp 𝕄 := iprop(∃ K, records m K ∗ places c ∗ toks c)
/-- with the credits, the levels and the weights; -/
def start (c : Dev nD) : sProp 𝕄 := iprop(ghost m c ∗ creds c ∗ levAts L lv ∗ arg1 m c)
/-- with the scratch buffers, before the point; -/
def Φ₀ (c : Dev nD) : sProp 𝕄 := iprop(start m c ∗ scratch c)
/-- and after it. -/
def Φ₁ (c : Dev nD) : sProp 𝕄 :=
  iprop(scratch c ∗ arg1 m c ∗ semVal (barCell c) 0 ∗ bigSep Finset.univ fun o : Own => semVal ((c : Thread nD τ), osem o) 0)

/-- The launch's data on device `c`: the windows' arrays as found, the three staging buffers after the body, what is held before
and after the body, and what is owed then. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => labstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Owning a whole staging buffer at contents `X` is holding it with contents that equal `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The features' window is fetched. -/
theorem fetch_0 (t : Fin cfg0.N) : (cfg0.win (0 : Fin 3)).fetch t = true := by rw [fin_N0 t]; rfl
/-- The labels' window is fetched. -/
theorem fetch_1 (t : Fin cfg0.N) : (cfg0.win (1 : Fin 3)).fetch t = true := by rw [fin_N0 t]; rfl

/-- What the body starts from: what is held before it, what is owed, and the three staging buffers. -/
def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- What the body ends with: the staged inputs as they were, and the output at `outAt`. -/
def bodyPost (c : Dev nD) : sProp 𝕄 :=
  iprop(Φ₁ m c ∗ (dats m 0 c).owesAt () t0_0.succ ∗ stg c cc0_stg0_0 (xstg m c) ∗ stg c cc0_stg1_0 (labstg m c) ∗ stg c cc0_stg2_0 (outAt m c))

/-- The body takes what it starts from to what it ends with. -/
theorem sound_body (c : Dev nD) : bodyPre m c ⊢ WP c (prog (F := F)) (fun _ => bodyPost m c) := by
  unfold bodyPre Φ₀ start ghost Pipeline.Dat.owesAt Pipeline.owesWithin
  iintro ⟨⟨⟨⟨%K, #HR, Hp, Ht⟩, Hc, #Hlev, Ha⟩, Hs⟩, ⟨%W, -, HO⟩, ⟨%dx, %fx, %hfx, Hx⟩, ⟨%dl, %fl, %hfl, Hl⟩, ⟨%do', %fo, -, Hout⟩⟩
  iapply (sound_prog m K c (fun _ => bodyPost m c))
  isplitr; · iexact HR
  isplitr; · iexact Hlev
  isplitl [HO]; · iexists W; iexact HO
  isplitl [Hp]; · iexact Hp
  isplitl [Ht]; · iexact Ht
  isplitl [Hc]; · iexact Hc
  isplitl [Hx Hl]
  · unfold staged
    have hx : fx = xstg m c := hfx.trans (if_pos (fetch_0 t0_0))
    have hl : fl = labstg m c := hfl.trans (if_pos (fetch_1 t0_0))
    rw [hx, hl]
    isplitl [Hx] <;> iassumption
  isplitl [Hout]; · iexists fo; iexact Hout
  isplitl [Hs]; · iexact Hs
  isplitl [Ha]; · iexact Ha
  unfold after staged
  iintro ⟨⟨%W', HO⟩, ⟨Hx, Hl⟩, Hout, Hs, Ha, Hzb, Hz⟩
  unfold bodyPost Φ₁ Pipeline.Dat.owesAt Pipeline.owesWithin
  isplitl [Hs Ha Hzb Hz]
  · isplitl [Hs]; · iexact Hs
    isplitl [Ha]; · iexact Ha
    isplitl [Hzb] <;> iassumption
  isplitl [HO]
  · iexists W'
    isplitr; · ipureintro; exact fun _ _ => Or.inl trivial
    iexact HO
  isplitl [Hx]
  · iexists _; isplitr; · (ipureintro; rfl)
    iexact Hx
  isplitl [Hl]
  · iexists _; isplitr; · (ipureintro; rfl)
    iexact Hl
  iexists _; isplitr; · (ipureintro; rfl)
  iexact Hout

set_option maxRecDepth 65536 in
/-- The body's obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ WP c (cc0_body (F := F) xM (hstage0_0 0) aM (Memref.isWhole_whole _) labM (hstage0_1 0) oM (hstage0_2 0) wM (Memref.isWhole_whole _)
    commM (Memref.isWhole_whole _) cc0_scratch2 cc0_scratch3 cc0_scratch4) (fun _ => bodyPost m c)
  rw [body_eq]
  exact sound_body m c

/-- Every window's array is held whole. -/
theorem share_eq (c : Dev nD) (w : Fin cfg0.W) : (dats m 0 c).share w = fullShare := by unfold Dat.share; split <;> rfl

/-- The launch's waits for its staging copies. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ offs offs (by fin_cases w <;> fin_cases s <;> rfl)
    · rw [show (dats m 0 c).owed _ = 0 from rfl, MayWait_zero]; iintro -; iempintro

end Cert.Nll

end
-- ==== Proof.Launch.lean ====
/-
The launch: the ghost state minted and dealt to the devices, and the whole program's run.
-/
module

public import proofs.«01_k».proof.Proof.Dats
public import Idealize.ShloMosaic.Lib.Pipeline.CollectiveSegs
public import Idealize.ShloMosaic.Lib.Pipeline.Launch
public import Idealize.ShloMosaic.Lib.Pipeline.Kit
public import Idealize.ShloMosaic.Lib.Quiescent

@[expose] public section

noncomputable section

namespace Cert.Nll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

/-- The 67 kinds name 67 different semaphores. -/
theorem csem_injective : Function.Injective csem := fun κ κ' h =>
  Option.some.inj ((kindOf_csem κ).symm.trans ((congrArg kindOf h).trans (kindOf_csem κ')))
/-- A semaphore of a device names its device and its kind. -/
theorem kcell_injective : Function.Injective (kcell : Dev nD × Kind → GSem nD τ sig) := by
  rintro ⟨c, κ⟩ ⟨c', κ'⟩ h
  have h1 : c = c' := congrArg (fun g : GSem nD τ sig => g.1.1) h
  have h2 : κ = κ' := csem_injective (congrArg Prod.snd h)
  rw [h1, h2]
/-- The 67 semaphores of all the devices. -/
def allCells : Finset (GSem nD τ sig) := Finset.univ.map ⟨kcell, kcell_injective⟩

/-- A device's own duties: one per offset at its barrier, one at each own semaphore. -/
abbrev tokOf (cj : Dev nD × (Fin 31 ⊕ Own)) : GSem nD τ sig × ℕ × Fin 31 :=
  match cj.2 with
  | .inl k => (barCell cj.1, 0, k)
  | .inr o => (kcell (cj.1, .inr o), 0, 0)
/-- Different duties have different tokens. -/
theorem tokOf_injective : Function.Injective tokOf := by
  rintro ⟨c, j⟩ ⟨c', j'⟩ h
  have hc : kcell (c, j.elim (fun _ => kBar) .inr) = kcell (c', j'.elim (fun _ => kBar) .inr) := by
    have := congrArg (fun x : GSem nD τ sig × ℕ × Fin 31 => x.1) h
    rcases j with k | o <;> rcases j' with k' | o' <;> exact this
  have hp := kcell_injective hc
  have h1 : c = c' := congrArg Prod.fst hp
  have h2 := congrArg Prod.snd hp
  subst h1
  rcases j with k | o <;> rcases j' with k' | o'
  · have : k = k' := congrArg (fun x : GSem nD τ sig × ℕ × Fin 31 => x.2.2) h
    rw [this]
  · cases h2
  · cases h2
  · have : o = o' := Sum.inr.inj h2
    rw [this]
/-- The tokens of all the duties of all the devices. -/
def allToks : Finset (GSem nD τ sig × ℕ × Fin 31) := Finset.univ.map ⟨tokOf, tokOf_injective⟩

/-- What the launch mints: its own staging protocol's state, and the state of the 67 protocols of each device. -/
def u₀ : UU :=
  (initOf (Pipeline.cells cfgs cellOf_inj) (Pipeline.launchToks cfgs cellOf_inj), initOf allCells allToks)

/-- The tokens of a device's own semaphores. -/
def ownToks (c : Dev nD) : sProp 𝕄 := bigSep Finset.univ fun j : Fin 31 ⊕ Own => dutyTok ER (tokOf (c, j)).1 (tokOf (c, j)).2.1 (tokOf (c, j)).2.2

/-- What is minted for a device, -/
def G (c : Dev nD) : sProp 𝕄 :=
  iprop((bigSep Finset.univ fun κ : Kind => roundState ER (rd m) (kcell (c, κ)) 0)
    ∗ (bigSep Finset.univ fun κ : Kind => iprop(atPos ER (kcell (c, κ)) 0 ∅ 0 ∗ reached ER (kcell (c, κ)) 0)) ∗ ownToks c)

/-- Out of the minted state every device gets its own. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun κ : Kind => Φ (kcell (c, κ)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The protocols put in force -/

/-- The kernel's own semaphores are all different, and none of them is one of the launch's staging semaphores. -/
theorem ownSemFacts : Pipeline.OwnSemFacts cfg0.spec osem := by decide +kernel

/-- The one semaphore outside the launch is the barrier. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores at zero are the 67 at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun κ : Kind => semVal (kcell (c, κ)) 0 : sProp 𝕄) := by
  rw [unscopedSems0_eq, sep_kind]
  unfold Pipeline.ownSems0
  iintro ⟨HS, HB⟩
  isplitl [HB]; · iexact HB
  iexact HS

/-- With its semaphores at zero and what was minted for it, a device puts its 67 protocols in force. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun κ : Kind => iprop(∃ ν : ℕ, cellInv ER (rd m) ν (kcell (c, κ))))
          ∗ (bigSep Finset.univ fun κ : Kind => iprop(atPos ER (kcell (c, κ)) 0 ∅ 0 ∗ reached ER (kcell (c, κ)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun κ : Kind => semVal (kcell (c, κ)) 0) ∗ bigSep Finset.univ fun κ : Kind => roundState ER (rd m) (kcell (c, κ)) 0)
      ⊢ (|={Set.univ}=> bigSep Finset.univ fun κ : Kind => iprop(∃ ν : ℕ, cellInv ER (rd m) ν (kcell (c, κ))) : sProp 𝕄) from by
        rw [← bigSep_sep']
        exact (bigSep_mono fun κ _ => (Rounds.body_intro ER (rd m) (kcell (c, κ))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those who pay with them -/

/-- The tokens of a device's own semaphores, by kind: at the barrier, at the chunk copies, at the copies sent and at those received. -/
theorem ownToks_eq (c : Dev nD) : (ownToks c : sProp 𝕄)
    = iprop((bigSep Finset.univ fun k : Fin 31 => dutyTok ER (barCell c) 0 k) ∗ (bigSep Finset.univ fun r : Fin 4 => dutyTok ER (copyCell c r) 0 0)
      ∗ (bigSep Finset.univ fun k : Fin 31 => dutyTok ER (sendCell c k) 0 0) ∗ bigSep Finset.univ fun k : Fin 31 => dutyTok ER (recvCell c k) 0 0) := by
  unfold ownToks
  rw [bigSep_univ_sum, sep_own]
  rfl

/-- One per device and offset, held by the device or by its peer at the offset: the same altogether. -/
theorem dealt (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (peer c k) k := by
  rw [BI.bigSep_univ_comm, BI.bigSep_univ_comm (fun (c : Dev nD) (k : Fin 31) => Φ (peer c k) k)]
  exact bigSep_congr fun k _ => bigSep_univ_equiv (peerE k) fun c => Φ c k

/-- All the devices' tokens, dealt to those who pay with them: the barrier's and the receive semaphores' to the peers. -/
theorem toks_dealt : (bigSep Finset.univ fun c : Dev nD => (ownToks c : sProp 𝕄)) ⊢ bigSep Finset.univ fun c : Dev nD => toks c := by
  simp only [ownToks_eq]
  unfold toks
  simp only [bigSep_sep']
  rw [dealt (fun c k => dutyTok ER (barCell c) 0 k), dealt (fun c k => dutyTok ER (recvCell c k) 0 0)]

/-- What everybody knows may be used for each member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What the devices have put in force, made known to all, with the tokens dealt: each device has what its body starts from. -/
theorem regroup :
    (bigSep Finset.univ fun c : Dev nD => iprop((bigSep Finset.univ fun κ : Kind => iprop(∃ ν : ℕ, cellInv ER (rd m) ν (kcell (c, κ))))
          ∗ (bigSep Finset.univ fun κ : Kind => iprop(atPos ER (kcell (c, κ)) 0 ∅ 0 ∗ reached ER (kcell (c, κ)) 0)) ∗ ownToks c) : sProp 𝕄)
      ⊢ bigSep Finset.univ (ghost m) := by
  rw [bigSep_sep', bigSep_sep', ← bigSep_univ_prod (fun ck : Dev nD × Kind => iprop(∃ ν : ℕ, cellInv ER (rd m) ν (kcell ck))),
    bigSep_congr (s := Finset.univ) (fun (c : Dev nD) _ => bigSep_sep' Finset.univ (fun κ : Kind => (atPos ER (kcell (c, κ)) 0 ∅ 0 : sProp 𝕄)) (fun κ => reached ER (kcell (c, κ)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (ν : ℕ) => (cellInv ER (rd m) ν (kcell ck) : sProp 𝕄))) $$ HI
  icases HK with ⟨%K, #HI⟩
  ihave Htk := (toks_dealt (F := F)) $$ Htok
  iapply (with_persistent (R := records m K) (Φ := fun c => iprop(places c ∗ toks c)) (Ψ := ghost m) fun c _ => by
    unfold ghost
    iintro ⟨#HR, Hp⟩
    iexists K
    isplitr; · iexact HR
    iexact Hp)
  isplitr
  · unfold records; isplitl; · iexact HI
    iexact HR
  · iapply (Entails.of_eq (bigSep_sep' Finset.univ (fun c : Dev nD => places (F := F) c) toks).symm)
    isplitl [Hat]; · unfold places; iexact Hat
    iexact Htk

/-- All devices' protocols put in force at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

/-- Two semaphores are one only if their devices are one and their kinds are. -/
theorem kcell_eq_iff (a b : Dev nD) (κ κ' : Kind) : kcell (a, κ) = kcell (b, κ') ↔ a = b ∧ κ = κ' :=
  ⟨fun h => ⟨congrArg Prod.fst (kcell_injective h), congrArg Prod.snd (kcell_injective h)⟩, fun h => by rw [h.1, h.2]⟩

/-- Device `d` owes the barrier of `c` a unit for each offset of the list that leads from `d` to `c`. -/
theorem oweB_bar (d c : Dev nD) : ∀ l : List (Fin 31), oweB d l (barCell c) () = (l.map fun k => if d = peer c (inv k) then 1 else 0).sum
  | [] => rfl
  | k :: l => by
    rw [oweB_cons, Pi.add_apply, Finsupp.add_apply, tallyAt_apply, oweB_bar d c l, List.map_cons, List.sum_cons, add_comm]
    congr 1
    refine if_congr ?_ rfl rfl
    rw [← peer_eq_iff]
    exact ⟨fun h => ((kcell_eq_iff _ _ kBar kBar).mp h.1).1.symm, fun h => ⟨(kcell_eq_iff _ _ kBar kBar).mpr ⟨h.symm, rfl⟩, rfl⟩⟩
/-- No unit for a barrier is owed to a receive semaphore. -/
theorem oweB_recv (d c : Dev nD) (k : Fin 31) : oweB d offs (recvCell c k) () = 0 := by
  by_contra h
  obtain ⟨j, hj⟩ := oweB_pos (Nat.pos_of_ne_zero h)
  exact absurd ((kcell_eq_iff c (peer d j) (kRecv k) kBar).mp hj).2 (by simp)
/-- No copy is owed to a barrier. -/
theorem oweR_bar (d c : Dev nD) : oweR d offs (barCell c) () = 0 := by
  by_contra h
  obtain ⟨j, hj⟩ := oweR_pos (Nat.pos_of_ne_zero h)
  exact absurd ((kcell_eq_iff c (peer d j) kBar (kRecv j)).mp hj).2 (by simp)
/-- Device `d` owes the receive semaphore `k` of `c` one slot's copy if `k` is in the list and leads from `d` to `c`. -/
theorem oweR_recv (d c : Dev nD) (k : Fin 31) : ∀ l : List (Fin 31), oweR d l (recvCell c k) () = (l.map fun j => if j = k ∧ d = peer c (inv k) then NS else 0).sum
  | [] => rfl
  | j :: l => by
    rw [oweR_cons, Pi.add_apply, Finsupp.add_apply, tallyAt_apply, oweR_recv d c k l, List.map_cons, List.sum_cons, add_comm]
    congr 1
    refine if_congr ?_ rfl rfl
    constructor
    · rintro ⟨h, -⟩
      obtain ⟨h1, h2⟩ := (kcell_eq_iff c (peer d j) (kRecv k) (kRecv j)).mp h
      have hj : j = k := by simpa using h2.symm
      subst hj
      exact ⟨rfl, peer_eq_iff.mp h1.symm⟩
    · rintro ⟨rfl, h⟩
      exact ⟨(kcell_eq_iff c (peer d j) (kRecv j) (kRecv j)).mpr ⟨(peer_eq_iff.mpr h).symm, rfl⟩, rfl⟩

/-- A sum over the list of offsets is the sum over the offsets. -/
theorem offs_sum (f : Fin 31 → ℕ) : (offs.map f).sum = ∑ k, f k := by
  rw [Fin.sum_univ_def]; rfl

/-- All the devices together owe a barrier 31 units. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h (d : Dev nD) : O₀ d (barCell c) () = ∑ k : Fin 31, if d = peer c (inv k) then 1 else 0 := by
    unfold O₀; rw [Pi.add_apply, Finsupp.add_apply, oweR_bar, zero_add, oweB_bar, offs_sum]
  rw [Finset.sum_congr rfl fun d _ => h d, Finset.sum_comm]
  simp
/-- All the devices together owe a receive semaphore one slot's copy. -/
theorem launch_recv (c : Dev nD) (k : Fin 31) :
    tallyOn (recvCell c k) (launchCredit (Pipeline.owing O₀) 0 (recvCell c k)) = (tallyAt (recvCell c k) () NS : CellTallies nD τ sig Unit) := by
  unfold tallyAt; refine congrArg _ (Finsupp.ext fun u => ?_); cases u
  rw [Pipeline.launchCredit_owing, Finsupp.single_eq_same]
  have h (d : Dev nD) : O₀ d (recvCell c k) () = ∑ j : Fin 31, if j = k then (if d = peer c (inv k) then NS else 0) else 0 := by
    unfold O₀; rw [Pi.add_apply, Finsupp.add_apply, oweB_recv, add_zero, oweR_recv, offs_sum]
    exact Finset.sum_congr rfl fun j _ => by rw [ite_and]
  rw [Finset.sum_congr rfl fun d _ => h d, Finset.sum_comm]
  rw [Finset.sum_eq_single k (fun j _ hj => by simp [hj]) (fun h => absurd (Finset.mem_univ k) h)]
  simp only [if_true]
  rw [Finset.sum_ite_eq' Finset.univ (peer c (inv k)) fun _ => NS, if_pos (Finset.mem_univ _)]

/-- So the launch gives a device the credit for its waits at its barrier and its receive semaphores. -/
theorem creds_intro (c : Dev nD) : (Pipeline.launchCred O₀ c : sProp 𝕄) ⊢ creds c := by
  have hinj : Function.Injective fun k : Fin 31 => (SemLoc.dma (recvS k) : SemLoc sig) := fun k k' h => by
    have := csem_injective (show csem (kRecv k) = csem (kRecv k') from h)
    simpa using this
  unfold Pipeline.launchCred creds
  rw [bigSep_univ_at _ (SemLoc.reg barS), launch_bar]
  refine sep_mono_right ?_
  refine BIBase.Entails.trans (bigSep_subset (s := Finset.univ.erase (SemLoc.reg barS)) (t := Finset.univ.map ⟨_, hinj⟩) ?_) ?_
  · intro x hx
    obtain ⟨k, -, rfl⟩ := Finset.mem_map.mp hx
    exact Finset.mem_erase.mpr ⟨fun h => (by cases h), Finset.mem_univ _⟩
  · rw [bigSep_map]
    exact Entails.of_eq (bigSep_congr fun k _ => congrArg cred (launch_recv c k))

/-! ## The side conditions -/

/-- What the launch hands a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  imodintro
  unfold start arg1
  isplitl
  · isplitl [HG]; · iexact HG
    isplitl [Hc]; · iexact Hc
    isplitl [Hlev]; · iexact Hlev
    iexact Ha
  · iempintro

/-- Together with the scratch, that is what is held before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is held after the body gives the scratch and the semaphores at zero back, and keeps the weights. -/
theorem phi1_exit (c : Dev nD) :
    (dats m 0 c).Φ (Fin.last cfg0.N) ⊢ iprop((unscopedSems0 c ∗ arg1 m c) ∗ Pipeline.ownSems0 osem c ∗ Pipeline.scopedRest cfg0.spec c) := by
  rw [show (dats m 0 c).Φ (Fin.last cfg0.N) = Φ₁ m c from rfl, scopedRest0_eq, unscopedSems0_eq]
  unfold Φ₁ scratch Pipeline.ownSems0
  iintro ⟨Hr, Ha, HzB, Hz⟩
  isplitl [HzB Ha]
  · isplitl [HzB] <;> iassumption
  isplitl [Hz]; · iexact Hz
  iexact Hr

/-! ## The run -/

/-- Window `w`'s array on device `c` after the run. -/
def finalA (c : Dev nD) (w : Fin cfg0.W) : Buf (Elt F) ((cfg0.win w).arr.view.loc (c : Thread nD τ)) := (dats m 0 c).arrAt w cfg0.N

/-- The windows' arrays at what the pipeline leaves there, and the weights as they were. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 65536 in
/-- From any memory with all counters at zero, for any float values: every fair run of the program on all devices ends, with
each device's arrays at their computed contents, the weights unchanged and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ arg1 m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold arg1
      iintro ⟨⟨Hu, Ha⟩, -, HSI⟩
      icombine HSI Ha gives %h1
      imod (Pipeline.unscopedSems0_read (X := unscopedSems0 c) (c := c) fupd_intro s') $$ [Hu HSI] with ⟨%h2, HSI⟩
      · isplitl [Hu] <;> iassumption
      imodintro
      isplitr; · ipureintro; exact ⟨h2, Buf.eq_of_forall_mem_univ h1⟩
      iexact HSI)
    (hQ := fun _ h hs => ⟨fun c => ⟨fun w => (h c).1 w, (h c).2.2.2⟩, sem_eq_zero hs fun c => (h c).2.2.1⟩)

end Cert.Nll

end
-- ==== Proof.Frames.lean ====
/-
The frames of the kernel at both readings: the run's post, read at the argument arrays.
-/
module

public import proofs.«01_k».proof.Defs
public import proofs.«01_k».proof.Proof.Launch
public import proofs.«01_k».proof.Proof.Gen.Kernel

@[expose] public section

noncomputable section

namespace Cert.Nll

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The features' array is never written. -/
theorem finalA_x (c : Dev nD) : finalA m c (0 : Fin 3) = m ((c : Thread nD τ).loc main_arg0) := (dats (F := F) m 0 c).arrAt_in (0 : Fin 3) rfl _
/-- The labels' array is never written. -/
theorem finalA_lab (c : Dev nD) : finalA m c (1 : Fin 3) = m ((c : Thread nD τ).loc main_arg2) := (dats (F := F) m 0 c).arrAt_in (1 : Fin 3) rfl _

/-- The run's post at the three argument arrays: each is as it was. -/
theorem args_kept {r : PUnit × MemSt nD τ sig (Elt F)} (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).1 0).trans (finalA_x m c), (h c).2, ((h c).1 1).trans (finalA_lab m c)⟩

/-- The idealized program's frame. -/
theorem frame_ideal : Cert.quiescent_KernelIdeal := fun m ρ _ =>
  (θ_run Cert.KernelIdeal.defs _ _).mono (fun _ h => ⟨fun c => args_kept m h.1 c, h.2⟩) (run_main (F := Ideal) m ρ)

set_option maxRecDepth 65536 in
/-- The printed program's kernel body is the idealized one's, text for text, -/
theorem bodies_eq : Cert.Kernel.defs₀ (F := Bits) = Cert.KernelIdeal.defs₀ (F := Bits) := by
  unfold Cert.Kernel.defs₀ Cert.KernelIdeal.defs₀
  refine congrArg _ (funext fun ℓ => funext fun a => ?_)
  match ℓ, a with
  | 0, (t, s) => rfl

set_option maxRecDepth 65536 in
/-- and so is its whole body table. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

set_option maxRecDepth 65536 in
/-- The printed program's frame: its run is the idealized text's run over bit patterns. -/
theorem frame_bits : Cert.quiescent_Kernel := by
  intro m ρ _
  rw [defs_eq]
  exact (θ_run Cert.KernelIdeal.defs _ _).mono (fun _ h => ⟨fun c => args_kept (F := Bits) m h.1 c, h.2⟩) (run_main (F := Bits) m ρ)

end Cert.Nll

end
-- ==== Proof.Reference.lean ====
/-
The reference's run.
-/
module

public import proofs.«01_k».proof.Defs
public import proofs.«01_k».proof.Proof.Gen.ReferenceIdeal
public import Idealize.ShloMosaic.Lib.Claim
public import Idealize.ShloMosaic.Lib.Quiescent

@[expose] public section

noncomputable section

namespace Cert.Nll

open Idealize.ShloMosaic
open Idealize.ShloMosaic.TcCoe
open Idealize.SL.Sem

/-- The reference's frame. -/
theorem frame_reference : Cert.quiescent_ReferenceIdeal := by
  intro m g _
  hlo_run
  · exact fun _ => ⟨trivial, trivial, trivial⟩
  · exact sem_eq_zero_of_no_sems (sig := Cert.ReferenceIdeal.sig) rfl _

end Cert.Nll

end
-- ==== Proof.Columns.lean ====
/-
  The vocabulary's columns as the devices hold them. A ring slot, a chunk of 256 columns and a lane name one
  of the 32768 columns, and every column once; so the sums that the devices make, chunk by chunk and slot by
  slot, are sums over the vocabulary.
-/
module

public import Mathlib.Algebra.BigOperators.Group.Finset.Basic
public import Mathlib.Algebra.BigOperators.Group.Finset.Sigma
public import Mathlib.Data.Fintype.BigOperators
public import Mathlib.Data.Fintype.Prod
public import Mathlib.Data.Fintype.EquivFin
public import Mathlib.Tactic.NormNum

@[expose] public section

namespace Cert.Nll

open scoped BigOperators

/-- The column of the vocabulary at lane `j` of chunk `r` on device `d`: the device's block of 8192 columns,
    its part of 1024 columns within the block, the chunk within the part, the lane within the chunk. -/
def colOf (d : Fin 32) (r : Fin 4) (j : Fin 256) : Fin 32768 :=
  ⟨d.val / 4 % 4 * 8192 + (d.val / 16 % 2 * 4 + d.val % 4) * 1024 + r.val * 256 + j.val, by omega⟩

/-- Two places that hold the same column are the same place. -/
theorem colOf_injective :
    Function.Injective (fun p : Fin 32 × Fin 4 × Fin 256 => colOf p.1 p.2.1 p.2.2) := by
  rintro ⟨d, r, j⟩ ⟨d', r', j'⟩ h
  have h' : d.val / 4 % 4 * 8192 + (d.val / 16 % 2 * 4 + d.val % 4) * 1024 + r.val * 256 + j.val
      = d'.val / 4 % 4 * 8192 + (d'.val / 16 % 2 * 4 + d'.val % 4) * 1024 + r'.val * 256 + j'.val :=
    congrArg Fin.val h
  have e : ∀ n : Fin 32, n.val = n.val / 16 % 2 * 16 + n.val / 4 % 4 * 4 + n.val % 4 := by omega
  have b : ∀ n : Fin 32, n.val / 4 % 4 < 4 ∧ n.val / 16 % 2 < 2 ∧ n.val % 4 < 4 := by omega
  have ed := e d
  have ed' := e d'
  have bd := b d
  have bd' := b d'
  generalize d.val / 4 % 4 = y at h' ed bd
  generalize d.val / 16 % 2 = x at h' ed bd
  generalize d.val % 4 = w at h' ed bd
  generalize d'.val / 4 % 4 = y' at h' ed' bd'
  generalize d'.val / 16 % 2 = x' at h' ed' bd'
  generalize d'.val % 4 = w' at h' ed' bd'
  have hj : j.val = j'.val := by omega
  have hr : r.val = r'.val := by omega
  have hw : w = w' := by omega
  have hx : x = x' := by omega
  have hy : y = y' := by omega
  exact Prod.ext (Fin.ext (by simp only; omega)) (Prod.ext (Fin.ext hr) (Fin.ext hj))

/-- Every column is held at exactly one place. -/
theorem colOf_bijective :
    Function.Bijective (fun p : Fin 32 × Fin 4 × Fin 256 => colOf p.1 p.2.1 p.2.2) :=
  (Fintype.bijective_iff_injective_and_card _).2 ⟨colOf_injective, by
    simp only [Fintype.card_prod, Fintype.card_fin]⟩

/-- A sum over ring slots, chunks and lanes is the sum over the vocabulary, in whatever order `e` the slots
    name the devices. -/
theorem sum_columns {M : Type} [AddCommMonoid M] (e : Fin 32 → Fin 32) (he : Function.Bijective e)
    (f : Fin 32768 → M) :
    ∑ t : Fin 32, ∑ r : Fin 4, ∑ j : Fin 256, f (colOf (e t) r j) = ∑ v : Fin 32768, f v := by
  rw [he.sum_comp (fun d => ∑ r : Fin 4, ∑ j : Fin 256, f (colOf d r j))]
  rw [← colOf_bijective.sum_comp f, Fintype.sum_prod_type]
  exact Finset.sum_congr rfl fun d _ => by rw [Fintype.sum_prod_type]

end Cert.Nll
-- ==== Proof.ChunkValue.lean ====
/-
  What the kernel's arithmetic is at an index, over the extended reals: a chunk's logits as sums of products,
  its exponentials' row sum, the row sum of the logits under the label's mask, and the closing subtraction.
-/
module

public import proofs.«01_k».proof.Proof.Contents
public import proofs.«01_k».proof.Proof.Columns
public import Idealize.ShloMosaic.Lib.Pointwise

@[expose] public section

namespace Cert.Nll

open Idealize Idealize.ShloMosaic Cert.KernelIdeal Cert.KernelIdeal.Gen
open scoped BigOperators

/-- The logit of row `i` at lane `j` of a chunk of the weights. -/
noncomputable def logit (x : FVec Ideal S512x1024 .f32) (w : FVec Ideal S1x1024x256 .f32) (i : Fin 512)
    (j : Fin 256) : EReal :=
  ∑ k : Fin 1024, x (ix2 i k) * w (ix3 0 k j)

/-- The row sum of a chunk's exponentials. -/
noncomputable def expSum (x : FVec Ideal S512x1024 .f32) (w : FVec Ideal S1x1024x256 .f32) (i : Fin 512) : EReal :=
  ∑ j : Fin 256, Ideal.exp (logit x w i j)

/-- The row sum of a chunk's logits where the lane is the label less the chunk's first column `b`. -/
noncomputable def hitSum (x : FVec Ideal S512x1024 .f32) (w : FVec Ideal S1x1024x256 .f32) (lab : IVec S512 32)
    (b : BitVec 32) (i : Fin 512) : EReal :=
  ∑ j : Fin 256, if BitVec.ofNat 32 j.val = lab (ix1 i) - b then logit x w i j else 0

/-- A selection on the equality of two words is a case distinction on it. -/
theorem select_word_eq {α : Type} (a b : BitVec 32) (u v : α) :
    Scalar.select (IntOp.cmpi .eq a b) u v = if a = b then u else v := by
  by_cases h : a = b
  · simp [Scalar.select, IntOp.cmpi, h]
  · simp [Scalar.select, IntOp.cmpi, h, beq_eq_false_iff_ne.2 h]

variable (x : FVec Ideal S512x1024 .f32) (w : FVec Ideal S1x1024x256 .f32) (lab : IVec S512 32)
  (y p : BitVec 32) (i : Fin 512)

/-- The first chunk's row sum of exponentials. -/
theorem pay3_at : k0_pay3 (F := Ideal) x w (ix1 i) = expSum x w i := by
  pointwise [k0_pay3, k0_pay2, logit, expSum]

/-- The second chunk's. -/
theorem pay7_at : k0_pay7 (F := Ideal) x w (ix1 i) = expSum x w i := by
  pointwise [k0_pay7, k0_pay6, logit, expSum]

/-- The third chunk's. -/
theorem pay10_at : k0_pay10 (F := Ideal) x w (ix1 i) = expSum x w i := by
  pointwise [k0_pay10, k0_pay9, logit, expSum]

/-- The last chunk's. -/
theorem pay13_at : k0_pay13 (F := Ideal) x w (ix1 i) = expSum x w i := by
  pointwise [k0_pay13, k0_pay12, logit, expSum]

/-- The first chunk's row sum of logits under the mask. -/
theorem pay5_at : k0_pay5 (F := Ideal) (k0_pay2 (F := Ideal) x w) (k0_pay4 (F := Ideal) y p lab)
    (Scalar.ofBits .f32 0x00000000#32) (ix1 i) = hitSum x w lab (y * 8192#32 + p + 0#32) i := by
  pointwise [k0_pay5, k0_pay2, k0_pay4, hitSum, logit]
  exact Finset.sum_congr rfl fun j _ => select_word_eq _ _ _ _

/-- The second chunk's. -/
theorem pay8_at : k0_pay8 (F := Ideal) y p x w lab (ix1 i) = hitSum x w lab (y * 8192#32 + p + 256#32) i := by
  pointwise [k0_pay8, k0_pay6, hitSum, logit]
  exact Finset.sum_congr rfl fun j _ => select_word_eq _ _ _ _

/-- The third chunk's. -/
theorem pay11_at : k0_pay11 (F := Ideal) y p x w lab (ix1 i) = hitSum x w lab (y * 8192#32 + p + 512#32) i := by
  pointwise [k0_pay11, k0_pay9, hitSum, logit]
  exact Finset.sum_congr rfl fun j _ => select_word_eq _ _ _ _

/-- The last chunk's, added to the other three. -/
theorem pay16_at (a b c : FVec Ideal S512 .f32) :
    k0_pay16 (F := Ideal) y p a b c (k0_pay12 (F := Ideal) x w) (k0_pay14 (F := Ideal) lab) (ix3 0 0 i)
      = a (ix1 i) + b (ix1 i) + c (ix1 i) + hitSum x w lab (y * 8192#32 + p + 768#32) i := by
  pointwise [k0_pay16, k0_pay12, k0_pay14, hitSum, logit]
  exact congrArg (a (ix1 i) + b (ix1 i) + c (ix1 i) + ·)
    (Finset.sum_congr rfl fun j _ => select_word_eq _ _ _ _)

/-- The four row sums of exponentials, added. -/
theorem pay15_at (a b c d : FVec Ideal S512 .f32) :
    k0_pay15 (F := Ideal) a b c d (ix3 0 0 i) = a (ix1 i) + b (ix1 i) + c (ix1 i) + d (ix1 i) := by
  pointwise [k0_pay15]

/-- The ring's sums of exponentials, added over the slots. -/
theorem pay17_at (a : FVec Ideal S32x1x512 .f32) :
    k0_pay17 (F := Ideal) a (ix1 i) = ∑ t : Fin 32, a (ix3 t 0 i) := by
  pointwise [k0_pay17]

/-- The logarithm of the sum less the label's logit, which is added over the slots. -/
theorem pay1_at (a : FVec Ideal S512 .f32) (b : FVec Ideal S32x1x512 .f32) :
    k0_pay1 (F := Ideal) a (k0_pay18 (F := Ideal) b) (ix1 i)
      = Ideal.log (a (ix1 i)) - ∑ t : Fin 32, b (ix3 t 0 i) := by
  pointwise [k0_pay1, k0_pay18]

/-- The first column of chunk `r` on device `d`, as the kernel computes it. -/
def firstCol (d : Fin 32) (r : Fin 4) : BitVec 32 :=
  yWord d * 8192#32 + baseWord d + BitVec.ofNat 32 (256 * r.val)

/-- That word is the column of the chunk's first lane. -/
theorem firstCol_val : ∀ (d : Fin 32) (r : Fin 4), (firstCol d r).toNat = (colOf d r 0).val := by
  decide +kernel

/-- The mask keeps the lane whose column is the label. -/
theorem hit_iff (d : Fin 32) (r : Fin 4) (j : Fin 256) (l : BitVec 32) (hl : l.toNat < 32768) :
    BitVec.ofNat 32 j.val = l - firstCol d r ↔ (colOf d r j).val = l.toNat := by
  have hf := firstCol_val d r
  have hc : (colOf d r j).val = (colOf d r 0).val + j.val := by simp [colOf]
  have hj := (colOf d r j).isLt
  rw [hc] at hj ⊢
  rw [← hf] at hj ⊢
  generalize firstCol d r = f at hj ⊢
  rw [← BitVec.toNat_inj, BitVec.toNat_ofNat, BitVec.toNat_sub]
  omega

/-- A device's row sums of exponentials: over its chunks and their lanes. -/
theorem rowS_at (w : Fin 4 → FVec Ideal S1x1024x256 .f32) :
    rowS (F := Ideal) x w (ix3 0 0 i) = ∑ r : Fin 4, ∑ j : Fin 256, Ideal.exp (logit x (w r) i j) := by
  rw [rowS, pay15_at, pay3_at, pay7_at, pay10_at, pay13_at, Fin.sum_univ_four]
  rfl

/-- A device's label sums: over its chunks and lanes, the logit where the column is the label. -/
theorem rowG_at (d : Fin 32) (w : Fin 4 → FVec Ideal S1x1024x256 .f32) (hl : (lab (ix1 i)).toNat < 32768) :
    rowG (F := Ideal) d x w lab (ix3 0 0 i)
      = ∑ r : Fin 4, ∑ j : Fin 256,
          if (colOf d r j).val = (lab (ix1 i)).toNat then logit x (w r) i j else 0 := by
  have hr : ∀ r : Fin 4, hitSum x (w r) lab (firstCol d r) i
      = ∑ j : Fin 256, if (colOf d r j).val = (lab (ix1 i)).toNat then logit x (w r) i j else 0 := fun r =>
    Finset.sum_congr rfl fun j _ => if_congr (hit_iff d r j _ hl) rfl rfl
  rw [rowG, pay16_at, pay5_at, pay8_at, pay11_at, Fin.sum_univ_four, ← hr 0, ← hr 1, ← hr 2, ← hr 3]
  rfl

end Cert.Nll
-- ==== Proof.DeviceValue.lean ====
/-
  What a device computes, over the extended reals, from the arrays the devices are launched on: the staged
  blocks are the arrays, a chunk of the weights is 256 of the device's 8192 columns, and the output is the
  logarithm of the ring's sum of exponentials less the ring's label sum.
-/
module

public import proofs.«01_k».proof.Proof.ChunkValue
public import proofs.«01_k».proof.Proof.Launch

@[expose] public section

namespace Cert.Nll

open Idealize Idealize.ShloMosaic Cert.KernelIdeal Cert.KernelIdeal.Gen
open Idealize.ShloMosaic.TcCoe
open scoped BigOperators

section
variable {F : FTy → Type} [FloatOps F] (m : (ℓ : Loc nD τ sig) → Buf (Elt F) ℓ)

/-- The staged features are the device's features. -/
theorem xstg_eq (c : Dev nD) : xstg m c = m ((c : Thread nD τ).loc main_arg0) := by
  funext i
  unfold xstg
  rw [View.read_apply]
  refine congrArg (m ((c : Thread nD τ).loc main_arg0)) (funext fun a => Fin.ext ?_)
  blk_simp
  exact (congrArg (· * _ + _) ((by decide : ∀ t a, win0_0.index t a = 0) _ a)).trans
    ((congrArg (· + _) (Nat.zero_mul _)).trans (Nat.zero_add _))

/-- The staged labels are the device's labels. -/
theorem labstg_eq (c : Dev nD) : labstg m c = m ((c : Thread nD τ).loc main_arg2) := by
  funext i
  unfold labstg
  rw [View.read_apply]
  refine congrArg (m ((c : Thread nD τ).loc main_arg2)) (funext fun a => Fin.ext ?_)
  blk_simp
  exact (congrArg (· * _ + _) ((by decide : ∀ t a, win0_1.index t a = 0) _ a)).trans
    ((congrArg (· + _) (Nat.zero_mul _)).trans (Nat.zero_add _))

/-- The output array ends as the output block the body stored. -/
theorem final_out (c : Dev nD) : finalA m c (2 : Fin 3) = outAt m c := by
  refine (dats m 0 c).arrAt_eq_of_covers (2 : Fin 3) _ (by decide +kernel) fun t hf y => ?_
  blk_simp
  refine congrArg (outAt m c) (funext fun a => Fin.ext ?_)
  blk_simp
  rw [(by decide : ∀ t a, win0_2.index t a = 0) t a, Nat.zero_mul, Nat.zero_add]

/-- The first of the device's own columns that chunk `r` takes. -/
theorem off1_val : ∀ (d : Fin 32) (r : Fin 4), k0_off1 d (BitVec.ofNat 32 (256 * r.val)) 0 = 0
    ∧ k0_off1 d (BitVec.ofNat 32 (256 * r.val)) 1 = (d.val / 16 % 2 * 4 + d.val % 4) * 1024 + r.val * 256 := by
  decide +kernel

/-- A chunk at an index: the device's weights at the chunk's column. -/
theorem chunk_at (c : Dev nD) (r : Fin 4) (k : Fin 1024) (j : Fin 256) (n : Fin 8192)
    (hn : n.val = (c.val / 16 % 2 * 4 + c.val % 4) * 1024 + r.val * 256 + j.val) :
    chunk m c r (ix3 0 k j) = m ((c : Thread nD τ).loc main_arg1) (ix2 k n) := by
  have hi : (Rect.unit (s := S4x1024x256) ![r.val, 0, 0] S1x1024x256.size (wslot_inb r)).toLoadRect.idx
      (ix3 0 k j : S1x1024x256.Idx) = (ix3 r k j : S4x1024x256.Idx) := by
    refine funext fun d => Fin.ext ?_
    fin_cases d
    · exact Nat.add_zero _
    · exact (Nat.zero_add _).trans (Nat.one_mul _)
    · exact (Nat.zero_add _).trans (Nat.one_mul _)
  have he : (acols c r).view.emb (ix2 k j : S1024x256.Idx) = (ix2 k n : S1024x8192.Idx) := by
    refine funext fun d => Fin.ext ?_
    refine (ValueKit.view_emb_slice_whole_unit_val main_arg1 _ _ _ _ d).trans ?_
    fin_cases d
    · exact (congrArg (· + k.val) (off1_val c r).1).trans (Nat.zero_add _)
    · exact (congrArg (· + j.val) (off1_val c r).2).trans hn.symm
  unfold chunk
  rw [View.readAt_apply]
  refine (congrArg (wBuf m c) hi).trans ?_
  exact congrArg (m ((c : Thread nD τ).loc main_arg1)) he

end

variable (m : (ℓ : Loc nD τ sig) → Buf (Elt Ideal) ℓ)

/-- Slot `t` of the gathered sums of exponentials holds those of the device it came from. -/
theorem allS_at (c : Dev nD) (t : Fin 32) (i : Fin 512) :
    allS m c (ix3 t 0 i) = rowS (xstg m (orig c t)) (chunk m (orig c t)) (ix3 0 0 i) := by
  have hi : (Rect.unit (s := S32x2x512) ![0, 0, 0] S32x1x512.size inb_S32x2x512_S32x1x512_0_0_0).toLoadRect.idx
      (ix3 t 0 i : S32x1x512.Idx) = (ix3 t 0 i : S32x2x512.Idx) := by
    refine funext fun d => Fin.ext ?_
    fin_cases d
    · exact (Nat.zero_add _).trans (Nat.one_mul _)
    · rfl
    · exact (Nat.zero_add _).trans (Nat.one_mul _)
  unfold allS
  rw [View.readAt_apply]
  refine (congrArg (commBuf m c) hi).trans ?_
  show own m (orig c t) (ix2 0 i) = _
  unfold own
  exact if_pos rfl

/-- Slot `t` of the gathered label sums holds those of the device it came from. -/
theorem allG_at (c : Dev nD) (t : Fin 32) (i : Fin 512) :
    allG m c (ix3 t 0 i)
      = rowG (orig c t) (xstg m (orig c t)) (chunk m (orig c t)) (labstg m (orig c t)) (ix3 0 0 i) := by
  have hi : (Rect.unit (s := S32x2x512) ![0, 1, 0] S32x1x512.size inb_S32x2x512_S32x1x512_0_1_0).toLoadRect.idx
      (ix3 t 0 i : S32x1x512.Idx) = (ix3 t 1 i : S32x2x512.Idx) := by
    refine funext fun d => Fin.ext ?_
    fin_cases d
    · exact (Nat.zero_add _).trans (Nat.one_mul _)
    · rfl
    · exact (Nat.zero_add _).trans (Nat.one_mul _)
  unfold allG
  rw [View.readAt_apply]
  refine (congrArg (commBuf m c) hi).trans ?_
  show own m (orig c t) (ix2 1 i) = _
  unfold own
  exact if_neg (show ¬(1 : Fin 2).val = 0 by decide)

/-- The output of a device, when every device holds the same features and labels and the weights' columns are
    dealt by `colOf`: with `z v` the logit at column `v`, the logarithm of the sum of the exponentials less the
    logit at the label. -/
theorem outAt_at (c : Dev nD) (i : Fin 512) (X : FVec Ideal S512x1024 .f32) (W : Fin 1024 → Fin 32768 → EReal)
    (l : Fin 512 → BitVec 32) (hX : ∀ d : Dev nD, m ((d : Thread nD τ).loc main_arg0) = X)
    (hl : ∀ d : Dev nD, ∀ i : Fin 512, m ((d : Thread nD τ).loc main_arg2) (ix1 i) = l i)
    (hlt : (l i).toNat < 32768)
    (hW : ∀ (d : Dev nD) (r : Fin 4) (k : Fin 1024) (j : Fin 256), chunk m d r (ix3 0 k j) = W k (colOf d r j)) :
    outAt m c (ix1 i)
      = Ideal.log (∑ v : Fin 32768, Ideal.exp (∑ k : Fin 1024, X (ix2 i k) * W k v))
        - ∑ k : Fin 1024, X (ix2 i k) * W k ⟨(l i).toNat, hlt⟩ := by
  have hz : ∀ (d : Dev nD) (r : Fin 4) (j : Fin 256),
      logit (xstg m d) (chunk m d r) i j = ∑ k : Fin 1024, X (ix2 i k) * W k (colOf d r j) := fun d r j =>
    Finset.sum_congr rfl fun k _ => by rw [xstg_eq, hX, hW]
  unfold outAt
  rw [pay1_at, pay17_at]
  refine congrArg₂ (fun a b : EReal => a - b) (congrArg Ideal.log ?_) ?_
  · rw [← sum_columns (orig c) (orig_bijective c)
      (fun v => Ideal.exp (∑ k : Fin 1024, X (ix2 i k) * W k v))]
    refine Finset.sum_congr rfl fun t _ => ?_
    rw [allS_at, rowS_at]
    exact Finset.sum_congr rfl fun r _ => Finset.sum_congr rfl fun j _ => by rw [hz]
  · have hs := sum_columns (orig c) (orig_bijective c)
      (fun v => if v.val = (l i).toNat then ∑ k : Fin 1024, X (ix2 i k) * W k v else 0)
    refine Eq.trans (Finset.sum_congr rfl fun t _ => ?_) (hs.trans ?_)
    · have hd : labstg m (orig c t) (ix1 i) = l i := by rw [labstg_eq, hl]
      rw [allG_at, rowG_at _ _ _ _ _ (by rw [hd]; exact hlt), hd]
      exact Finset.sum_congr rfl fun r _ => Finset.sum_congr rfl fun j _ => by rw [hz]
    · rw [Finset.sum_eq_single (⟨(l i).toNat, hlt⟩ : Fin 32768)]
      · exact if_pos rfl
      · exact fun v _ hv => if_neg fun h => hv (Fin.ext h)
      · exact fun h => absurd (Finset.mem_univ _) h

end Cert.Nll
-- ==== Proof.LogSum.lean ====
/-
  The logarithm of a sum of exponentials, over extended reals that are real. Taking the maximum, or any other
  real, out of the exponents changes nothing; and a sum that keeps only the label's term is that term.
-/
module

public import Idealize.ShloMosaic.PureOps.Ideal
public import Mathlib.Analysis.SpecialFunctions.Log.Basic
public import Mathlib.Data.Finset.Fold

@[expose] public section

namespace Cert.Nll

open scoped BigOperators
open Idealize.ShloMosaic

/-- A sum of reals, read among the extended reals, is the sum of the readings. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- For real exponents, the logarithm of the sum of the exponentials is `a` plus the logarithm of the sum with
    `a` taken from every exponent. -/
theorem log_sum_shift {ι : Type} [Fintype ι] [Nonempty ι] (z : ι → ℝ) (a : ℝ) :
    Ideal.log (∑ i, Ideal.exp (z i : EReal))
      = (a : EReal) + Ideal.log (∑ i, Ideal.exp ((z i : EReal) - (a : EReal))) := by
  have h₁ : (0 : ℝ) < ∑ i, Real.exp (z i) :=
    Finset.sum_pos (fun i _ => Real.exp_pos _) Finset.univ_nonempty
  have h₂ : (0 : ℝ) < ∑ i, Real.exp (z i - a) :=
    Finset.sum_pos (fun i _ => Real.exp_pos _) Finset.univ_nonempty
  have e₁ : (∑ i, Ideal.exp (z i : EReal)) = ((∑ i, Real.exp (z i) : ℝ) : EReal) := (coe_sum _ _).symm
  have e₂ : (∑ i, Ideal.exp ((z i : EReal) - (a : EReal))) = ((∑ i, Real.exp (z i - a) : ℝ) : EReal) := by
    rw [coe_sum]
    exact Finset.sum_congr rfl fun i _ => by rw [← EReal.coe_sub, Ideal.exp_coe]
  rw [e₁, e₂, Ideal.log_coe, Ideal.log_coe, if_neg (not_le.2 h₁), if_neg (not_le.2 h₂), ← EReal.coe_add]
  have hs : ∑ i, Real.exp (z i) = Real.exp a * ∑ i, Real.exp (z i - a) := by
    rw [Finset.mul_sum]
    exact Finset.sum_congr rfl fun i _ => by rw [← Real.exp_add]; congr 1; ring
  rw [hs, Real.log_mul (Real.exp_pos a).ne' h₂.ne', Real.log_exp]

/-- The maximum of real terms, folded from minus infinity, is real. -/
theorem fold_max_real {ι : Type} [Fintype ι] [Nonempty ι] (z : ι → ℝ) :
    ∃ a : ℝ, Finset.univ.fold max (⊥ : EReal) (fun i => (z i : EReal)) = (a : EReal) := by
  have hb : Finset.univ.fold max (⊥ : EReal) (fun i => (z i : EReal)) ≠ ⊥ :=
    ((Finset.lt_fold_max _).2 (Or.inr ⟨Classical.arbitrary ι, Finset.mem_univ _, EReal.bot_lt_coe _⟩)).ne'
  have ht : Finset.univ.fold max (⊥ : EReal) (fun i => (z i : EReal)) ≠ ⊤ :=
    ((Finset.fold_max_lt _).2 ⟨bot_lt_top, fun i _ => EReal.coe_lt_top _⟩).ne
  exact ⟨_, (EReal.coe_toReal ht hb).symm⟩

/-- A sum of products of reals is real. -/
theorem dot_real {ι : Type} [Fintype ι] {x w : ι → EReal} (hx : ∀ k, ∃ r : ℝ, x k = (r : EReal))
    (hw : ∀ k, ∃ r : ℝ, w k = (r : EReal)) : ∃ r : ℝ, ∑ k, x k * w k = (r : EReal) := by
  choose a ha using hx
  choose b hb using hw
  exact ⟨∑ k, a k * b k, by
    rw [coe_sum]; exact Finset.sum_congr rfl fun k _ => by rw [ha, hb, EReal.coe_mul]⟩

end Cert.Nll
-- ==== Proof.RefValue.lean ====
/-
  What the reference computes, over the extended reals: the logits' maximum plus the logarithm of the sum of the
  exponentials of the logits less the maximum, less the logit the label names.
-/
module

public import proofs.«01_k».proof.Defs
public import proofs.«01_k».proof.Proof.Gen.ReferenceIdeal
public import proofs.«01_k».proof.Proof.LogSum
public import Idealize.ShloMosaic.Lib.Pointwise
public import Idealize.ShloMosaic.Lib.Claim

@[expose] public section

noncomputable section

namespace Cert.Nll

open Idealize Idealize.ShloMosaic Cert.ReferenceIdeal Cert.ReferenceIdeal.Gen
open Idealize.ShloMosaic.TcCoe Idealize.SL.Sem
open scoped BigOperators

/-- The logits. -/
def refLogits (x : FVec Ideal S512x1024 .f32) (w : FVec Ideal S1024x32768 .f32) : FVec Ideal S512x32768 .f32 :=
  Host.dotGeneral dot_S512x1024_S1024x32768_S512x32768_1_0_0_1_n_n none x w

/-- Their row maximum. -/
def refMax (z : FVec Ideal S512x32768 .f32) : FVec Ideal S512 .f32 :=
  Host.reduce FloatOps.maximumf z (constant S_ .f32 0xFF800000#32) reducesTo_S512x32768_S512_d1 h_S_

/-- The exponentials of the logits less the maximum. -/
def refExps (z : FVec Ideal S512x32768 .f32) : FVec Ideal S512x32768 .f32 :=
  Host.exp (subf z (broadcastInDim S512x32768 ![0, 1] bcast_S512x1_S512x32768_0_1
    (broadcastInDim S512x1 ![0] bcast_S512_S512x1_0 (refMax z))))

/-- Their row sum. -/
def refSum (z : FVec Ideal S512x32768 .f32) : FVec Ideal S512 .f32 :=
  Host.reduceAdd (refExps z) (constant S_ .f32 0x00000000#32) reducesTo_S512x32768_S512_d1 h_S_

/-- The logarithm of the row sum of exponentials, with the maximum taken out and added back. -/
def refLse (z : FVec Ideal S512x32768 .f32) : FVec Ideal S512 .f32 :=
  shapeCast S512 (addf (broadcastInDim S512x1 ![0] bcast_S512_S512x1_0 (refMax z))
    (Host.log (broadcastInDim S512x1 ![0] bcast_S512_S512x1_0 (refSum z)))) shapeCasts_S512x1_S512

/-- An index, wrapped round the axis if negative. -/
def wrapped (n : BitVec 32) (l : IVec S512 32) : IVec S512x1 32 :=
  broadcastInDim S512x1 ![0] bcast_S512_S512x1_0
    (select (cmpi .slt l (broadcastInDim S512 ![] bcast_S_S512 (constantI S_ 32 0#32)))
      (addi l (broadcastInDim S512 ![] bcast_S_S512 (constantI S_ 32 n))) l)

/-- The pairs of a row and its label. -/
def refPairs (l : IVec S512 32) : IVec S512x2 32 :=
  concatenate S512x2 1 [⟨S512x1, wrapped 512#32 (iotaInDim S512 32 0)⟩, ⟨S512x1, wrapped 32768#32 l⟩]
    concatenates_S512x1_S512x1_S512x2_d1

/-- The reference's result. -/
def refOut (x : FVec Ideal S512x1024 .f32) (w : FVec Ideal S1024x32768 .f32) (l : IVec S512 32) :
    FVec Ideal S512 .f32 :=
  subf (refLse (refLogits x w))
    (Host.gather gather_S512x32768_S512x2_S512_n_01_n_n_01_1_11 (refLogits x w) (refPairs l))

/-- The reference's run ends with that result, and keeps its arguments. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r =>
      r.2.mem (((0 : Dev nD).tc : Thread nD τ).loc main_v26)
          = refOut (m (((0 : Dev nD).tc : Thread nD τ).loc main_arg0)) (m (((0 : Dev nD).tc : Thread nD τ).loc main_arg1))
              (m (((0 : Dev nD).tc : Thread nD τ).loc main_arg2))
        ∧ r.2.mem (((0 : Dev nD).tc : Thread nD τ).loc main_arg0) = m (((0 : Dev nD).tc : Thread nD τ).loc main_arg0)
        ∧ r.2.mem (((0 : Dev nD).tc : Thread nD τ).loc main_arg1) = m (((0 : Dev nD).tc : Thread nD τ).loc main_arg1)
        ∧ r.2.mem (((0 : Dev nD).tc : Thread nD τ).loc main_arg2) = m (((0 : Dev nD).tc : Thread nD τ).loc main_arg2)) := by
  hlo_run
  rfl

/-- A logit is a sum of products. -/
theorem refLogits_at (x : FVec Ideal S512x1024 .f32) (w : FVec Ideal S1024x32768 .f32) (i : Fin 512) (v : Fin 32768) :
    refLogits x w (ix2 i v) = ∑ k : Fin 1024, x (ix2 i k) * w (ix2 k v) := by
  pointwise [refLogits]

/-- A maximum along the rows of a matrix is the maximum folded over the columns. -/
theorem max_rows {a b : Nat} {u : Shape} (z : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce FloatOps.maximumf z init h' hu (ix1 i)
      = Finset.univ.fold (max : EReal → EReal → EReal) (init (Shape.Idx.first hu)) (fun v : Fin b => z (ix2 i v)) := by
  have hl : ∀ v : Fin b, h.lift (ix1 i) v = (ix2 i v : (⟨2, ![a, b]⟩ : Shape).Idx) := fun v =>
    funext fun d => Fin.ext (by fin_cases d <;> rfl)
  refine (Host.reduce_eq_fold_single (max : EReal → EReal → EReal) z init h' h hu (ix1 i)).trans ?_
  exact Finset.fold_congr fun v _ => congrArg z (hl v)

/-- A sum along the rows of a matrix is the sum over the columns. -/
theorem sum_rows {a b : Nat} {u : Shape} (z : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i)
      = init (Shape.Idx.first hu) + ∑ v : Fin b, z (ix2 i v) := by
  have hl : ∀ v : Fin b, h.lift (ix1 i) v = (ix2 i v : (⟨2, ![a, b]⟩ : Shape).Idx) := fun v =>
    funext fun d => Fin.ext (by fin_cases d <;> rfl)
  refine (Ideal.hostReduceAdd_single h' h z (init (Shape.Idx.first hu)) (ix1 i)).trans ?_
  exact congrArg (init (Shape.Idx.first hu) + ·) (Finset.sum_congr rfl fun v _ => congrArg z (hl v))

/-- The maximum, folded from minus infinity. -/
theorem refMax_at (z : FVec Ideal S512x32768 .f32) (i : Fin 512) :
    refMax z (ix1 i) = Finset.univ.fold max (⊥ : EReal) (fun v : Fin 32768 => z (ix2 i v)) := by
  have hb : Ideal.ofBits .f32 0xFF800000#32 = (⊥ : EReal) := by simp [Ideal.ofBits, Ideal.ieee]
  refine (max_rows z _ reducesTo_S512x32768_S512_d1 (by decide) h_S_ i).trans ?_
  rw [← hb]
  rfl

/-- An exponential, at an index. -/
theorem refExps_at (z : FVec Ideal S512x32768 .f32) (i : Fin 512) (v : Fin 32768) :
    refExps z (ix2 i v) = Ideal.exp (z (ix2 i v) - refMax z (ix1 i)) := by
  pointwise [refExps]

/-- The row sum. -/
theorem refSum_at (z : FVec Ideal S512x32768 .f32) (i : Fin 512) :
    refSum z (ix1 i) = ∑ v : Fin 32768, Ideal.exp (z (ix2 i v) - refMax z (ix1 i)) := by
  refine (sum_rows (refExps z) _ reducesTo_S512x32768_S512_d1 (by decide) h_S_ i).trans ?_
  refine (congrArg (· + _) Ideal.ofBits_zero_f32).trans ((zero_add _).trans ?_)
  exact Finset.sum_congr rfl fun v _ => refExps_at z i v

/-- The sum of a maximum and a logarithm, each kept as a column, read at a row. -/
theorem lse_column (a b : FVec Ideal S512 .f32) (i : Fin 512) :
    shapeCast S512 (addf (broadcastInDim S512x1 ![0] bcast_S512_S512x1_0 a)
      (Host.log (broadcastInDim S512x1 ![0] bcast_S512_S512x1_0 b))) shapeCasts_S512x1_S512 (ix1 i)
      = a (ix1 i) + Ideal.log (b (ix1 i)) := by
  pointwise []

/-- The logarithm of the sum, at a row. -/
theorem refLse_at (z : FVec Ideal S512x32768 .f32) (i : Fin 512) :
    refLse z (ix1 i)
      = refMax z (ix1 i) + Ideal.log (∑ v : Fin 32768, Ideal.exp (z (ix2 i v) - refMax z (ix1 i))) := by
  rw [← refSum_at]
  exact lse_column (refMax z) (refSum z) i

/-- An index that is not negative is not wrapped. -/
theorem wrapped_at (n : BitVec 32) (l : IVec S512 32) (i : Fin 512) (h : (l (ix1 i)).toNat < 2 ^ 31) :
    wrapped n l (ix2 i 0) = l (ix1 i) := by
  pointwise [wrapped]
  have hs : IntOp.cmpi CmpIPredicate.slt (l (ix1 i)) 0#32 = 0#1 := by
    show BitVec.ofBool ((l (ix1 i)).slt 0#32) = 0#1
    have hn : ¬(l (ix1 i)).slt 0#32 = true := by
      rw [BitVec.slt_iff_toInt_lt, BitVec.toInt_eq_toNat_of_lt (by omega)]
      simp
    rw [Bool.eq_false_iff.2 hn]
    rfl
  rw [hs]
  rfl

/-- The pairs, read: the row. -/
theorem refPairs_row (l : IVec S512 32) (i : Fin 512) : refPairs l (ix2 i 0) = BitVec.ofNat 32 i.val := by
  pointwise [refPairs]
  have hi : ((iotaInDim S512 32 0 : IVec S512 32) (ix1 i)) = BitVec.ofNat 32 i.val := rfl
  exact (wrapped_at _ _ i (by rw [hi, BitVec.toNat_ofNat]; omega)).trans hi

/-- The label. -/
theorem refPairs_label (l : IVec S512 32) (i : Fin 512) (h : (l (ix1 i)).toNat < 2 ^ 31) :
    refPairs l (ix2 i 1) = l (ix1 i) := by
  pointwise [refPairs]
  exact wrapped_at _ _ i h

/-- The gather's start along an axis: the pair's component, clamped. -/
theorem gather_start (p : IVec S512x2 32) (i : Fin 512) (a : Fin 2) :
    gather_S512x32768_S512x2_S512_n_01_n_n_01_1_11.start (ix1 i) p a
      = min (p (ix2 i a)).toInt.toNat (S512x32768.size a - 1) := by
  unfold GatherDims.start
  have hm : a ∈ gather_S512x32768_S512x2_S512_n_01_n_n_01_1_11.startIndexMap := by
    fin_cases a <;> simp [gather_S512x32768_S512x2_S512_n_01_n_n_01_1_11]
  rw [dif_pos hm]
  have hsi : ∀ h, gather_S512x32768_S512x2_S512_n_01_n_n_01_1_11.siIdx (ix1 i)
      ⟨List.idxOf a gather_S512x32768_S512x2_S512_n_01_n_n_01_1_11.startIndexMap, h⟩ = (ix2 i a : S512x2.Idx) := by
    intro h
    funext b
    refine Fin.ext ?_
    fin_cases a <;> fin_cases b <;> rfl
  rw [hsi]
  fin_cases a <;> rfl

/-- The gathered logit: the one at the pair. -/
theorem gather_at (z : FVec Ideal S512x32768 .f32) (p : IVec S512x2 32) (i : Fin 512) (v : Fin 32768)
    (h0 : (p (ix2 i 0)).toInt.toNat = i.val) (h1 : (p (ix2 i 1)).toInt.toNat = v.val) :
    Host.gather gather_S512x32768_S512x2_S512_n_01_n_n_01_1_11 z p (ix1 i) = z (ix2 i v) := by
  unfold Host.gather
  refine congrArg z (funext fun a => Fin.ext ?_)
  show gather_S512x32768_S512x2_S512_n_01_n_n_01_1_11.start (ix1 i) p a
    + gather_S512x32768_S512x2_S512_n_01_n_n_01_1_11.batchCoord (ix1 i) a
    + gather_S512x32768_S512x2_S512_n_01_n_n_01_1_11.offCoord (ix1 i) a = _
  rw [GatherDims.batchCoord_eq_zero _ _ _ List.not_mem_nil,
    GatherDims.offCoord_eq_zero _ _ _ (fun h => ((GatherDims.mem_sKept _ _).mp h).1 (by
      fin_cases a <;> simp [gather_S512x32768_S512x2_S512_n_01_n_n_01_1_11])), gather_start]
  have hi := i.isLt
  have hv := v.isLt
  fin_cases a
  · show min (p (ix2 i 0)).toInt.toNat (512 - 1) + 0 + 0 = i.val
    omega
  · show min (p (ix2 i 1)).toInt.toNat (32768 - 1) + 0 + 0 = v.val
    omega

/-- A difference, read at a row. -/
theorem subf_row (a b : FVec Ideal S512 .f32) (i : Fin 512) : subf a b (ix1 i) = a (ix1 i) - b (ix1 i) := rfl

/-- The result at a row: where the logits are real, the logarithm of the sum of their exponentials less the one
    at the label. -/
theorem refOut_at (x : FVec Ideal S512x1024 .f32) (w : FVec Ideal S1024x32768 .f32) (l : IVec S512 32) (i : Fin 512)
    (hx : ∀ k : Fin 1024, ∃ r : ℝ, x (ix2 i k) = (r : EReal))
    (hw : ∀ (k : Fin 1024) (v : Fin 32768), ∃ r : ℝ, w (ix2 k v) = (r : EReal))
    (hl : (l (ix1 i)).toNat < 32768) :
    refOut x w l (ix1 i)
      = Ideal.log (∑ v : Fin 32768, Ideal.exp (∑ k : Fin 1024, x (ix2 i k) * w (ix2 k v)))
        - ∑ k : Fin 1024, x (ix2 i k) * w (ix2 k ⟨(l (ix1 i)).toNat, hl⟩) := by
  have hz : ∀ v : Fin 32768, ∃ r : ℝ, refLogits x w (ix2 i v) = (r : EReal) := fun v => by
    rw [refLogits_at]; exact dot_real hx fun k => hw k v
  choose z hz using hz
  obtain ⟨a, ha⟩ := fold_max_real z
  have hm : refMax (refLogits x w) (ix1 i) = (a : EReal) := by
    rw [refMax_at, ← ha]
    exact Finset.fold_congr fun v _ => hz v
  have hs : Ideal.log (∑ v : Fin 32768, Ideal.exp (∑ k : Fin 1024, x (ix2 i k) * w (ix2 k v)))
      = refLse (refLogits x w) (ix1 i) := by
    rw [refLse_at, hm]
    refine Eq.trans ?_ ((log_sum_shift z a).trans ?_)
    · exact congrArg Ideal.log (Finset.sum_congr rfl fun v _ => by rw [← hz v, refLogits_at])
    · exact congrArg (fun s => (a : EReal) + Ideal.log s) (Finset.sum_congr rfl fun v _ => by rw [hz v])
  have hi : i.val < 512 := i.isLt
  have hp0 : (refPairs l (ix2 i 0)).toInt.toNat = i.val := by
    rw [refPairs_row, BitVec.toInt_eq_toNat_of_lt (by rw [BitVec.toNat_ofNat]; omega), BitVec.toNat_ofNat]
    omega
  have hp1 : (refPairs l (ix2 i 1)).toInt.toNat = (l (ix1 i)).toNat := by
    rw [refPairs_label l i (by omega), BitVec.toInt_eq_toNat_of_lt (by omega), Int.toNat_natCast]
  rw [hs, ← refLogits_at, ← gather_at (refLogits x w) (refPairs l) i ⟨(l (ix1 i)).toNat, hl⟩ hp0 hp1]
  exact subf_row _ _ i

end Cert.Nll
-- ==== Proof.Values.lean ====
/-
  The two programs' results agree. The precondition makes every feature and weight real and every label a
  column; a device's weights are its block of the whole; so the kernel's output on every device is the
  reference's result.
-/
module

public import proofs.«01_k».proof.Proof.DeviceValue
public import proofs.«01_k».proof.Proof.RefValue
public import proofs.«01_k».proof.Proof.Frames

@[expose] public section

namespace Cert.Nll

open Idealize Idealize.ShloMosaic Idealize.ShloMosaic.TcCoe Idealize.SL.Sem
open scoped BigOperators

/-- The precondition's side conditions, for one device's blocks. -/
theorem preKernel_facts : Cert.Pre_finite_and_labelled_KernelIdeal.Facts :=
  ⟨by decide, by decide, by decide⟩

/-- And for the whole arrays. -/
theorem preReference_facts : Cert.Pre_finite_and_labelled_ReferenceIdeal.Facts :=
  ⟨by decide, by decide, by decide⟩

/-- Above minus infinity and below infinity is real. -/
theorem real_of_between (x : EReal)
    (h : IntOp.andi (Ideal.cmp .olt (-(Ideal.ofBits .f32 0x7F800000#32)) x)
      (Ideal.cmp .olt x (Ideal.ofBits .f32 0x7F800000#32)) = 1#1) : ∃ r : ℝ, x = (r : EReal) := by
  have ht : Ideal.ofBits .f32 0x7F800000#32 = (⊤ : EReal) := by simp [Ideal.ofBits, Ideal.ieee]
  rw [ht, EReal.neg_top, Ideal.cmp_olt, Ideal.cmp_olt] at h
  have hb : x ≠ ⊥ := by
    rintro rfl
    simp [IntOp.andi] at h
  have hx : x ≠ ⊤ := by
    rintro rfl
    simp [IntOp.andi] at h
  exact ⟨_, (EReal.coe_toReal hx hb).symm⟩

/-- At least zero and below 32768, both signed, is below 32768 unsigned. -/
theorem label_lt (l : BitVec 32)
    (h : IntOp.andi (IntOp.cmpi .sge l 0#32) (IntOp.cmpi .slt l 32768#32) = 1#1) : l.toNat < 32768 := by
  have h0 : (0#32).sle l = true := by
    by_contra hn
    rw [Bool.not_eq_true] at hn
    simp [IntOp.andi, IntOp.cmpi, hn] at h
  have h1 : l.slt 32768#32 = true := by
    by_contra hn
    rw [Bool.not_eq_true] at hn
    simp [IntOp.andi, IntOp.cmpi, hn] at h
  rw [BitVec.sle_iff_toInt_le] at h0
  rw [BitVec.slt_iff_toInt_lt] at h1
  have e0 : (0#32).toInt = 0 := by decide
  have e1 : (32768#32).toInt = 32768 := by decide
  rw [e0] at h0
  rw [e1] at h1
  rw [BitVec.toInt_eq_toNat_cond] at h0 h1
  split at h0 <;> omega

section
open Cert.KernelIdeal Cert.KernelIdeal.Gen

variable (m : (ℓ : Loc nD τ sig) → Buf (Elt Ideal) ℓ)

/-- A chunk of a device's weights, when they are its block of the whole: the whole's columns at `colOf`. -/
theorem chunk_whole (w : FVec Ideal ⟨2, ![1024, 32768]⟩ .f32) (d : Dev nD)
    (h : m ((d : Thread nD τ).loc main_arg1)
      = Layout.blockN ⟨2, ![1024, 8192]⟩ ⟨2, ![1024, 32768]⟩ (Layout.meshBlock [2, 4, 4] ![[], [1]] d) w)
    (r : Fin 4) (k : Fin 1024) (j : Fin 256) : chunk m d r (ix3 0 k j) = w (ix2 k (colOf d r j)) := by
  have hd : (d : Fin 32).val < 32 := d.isLt
  rw [chunk_at m d r k j ⟨(d.val / 16 % 2 * 4 + d.val % 4) * 1024 + r.val * 256 + j.val, by omega⟩ rfl, h]
  refine congrArg w (funext fun a => Fin.ext ?_)
  fin_cases a
  · exact (congrArg (· + k.val) (Nat.zero_mul _)).trans (Nat.zero_add _)
  · have hm : ∀ d : Fin 32, Layout.meshLin [2, 4, 4] d.val [1] = d.val / 4 % 4 := by decide
    show Layout.meshLin [2, 4, 4] d.val [1] * 8192
        + ((d.val / 16 % 2 * 4 + d.val % 4) * 1024 + r.val * 256 + j.val)
      = d.val / 4 % 4 * 8192 + (d.val / 16 % 2 * 4 + d.val % 4) * 1024 + r.val * 256 + j.val
    rw [hm d]
    omega

end

/-- The kernel's output on every device is the reference's result of the whole arrays. -/
theorem outputs_agree (m : (ℓ : Loc Cert.KernelIdeal.nD Cert.KernelIdeal.τ Cert.KernelIdeal.sig) → Buf (Elt Ideal) ℓ)
    (x : FVec Ideal ⟨2, ![512, 1024]⟩ .f32) (w : FVec Ideal ⟨2, ![1024, 32768]⟩ .f32) (l : IVec ⟨1, ![512]⟩ 32)
    (hpre : @Cert.Pre_KernelIdeal_finite_and_labelled_KernelIdeal preKernel_facts m)
    (hx : ∀ d : Dev Cert.KernelIdeal.nD, m ((d : Thread Cert.KernelIdeal.nD Cert.KernelIdeal.τ).loc Cert.KernelIdeal.main_arg0) = x)
    (hw : ∀ d : Dev Cert.KernelIdeal.nD, m ((d : Thread Cert.KernelIdeal.nD Cert.KernelIdeal.τ).loc Cert.KernelIdeal.main_arg1)
      = Layout.blockN ⟨2, ![1024, 8192]⟩ ⟨2, ![1024, 32768]⟩ (Layout.meshBlock [2, 4, 4] ![[], [1]] d) w)
    (hl : ∀ d : Dev Cert.KernelIdeal.nD, m ((d : Thread Cert.KernelIdeal.nD Cert.KernelIdeal.τ).loc Cert.KernelIdeal.main_arg2) = l)
    (c : Dev Cert.KernelIdeal.nD) : outAt m c = refOut x w l := by
  funext i
  obtain ⟨i, rfl⟩ : ∃ i' : Fin 512, i = ix1 i' := ⟨i 0, eq_ix1 i⟩
  have hlt : (l (ix1 i)).toNat < 32768 := label_lt _ (by
    rw [← hl c]
    exact congrFun (hpre c).2.2 (ix1 i))
  have hxr : ∀ k : Fin 1024, ∃ r : ℝ, x (ix2 i k) = (r : EReal) := fun k => real_of_between _ (by
    rw [← hx c]
    exact congrFun (hpre c).1 (ix2 i k))
  have hwr : ∀ (k : Fin 1024) (v : Fin 32768), ∃ r : ℝ, w (ix2 k v) = (r : EReal) := fun k v => by
    obtain ⟨⟨d, r, j⟩, rfl⟩ := colOf_bijective.2 v
    refine real_of_between _ ?_
    simp only
    rw [← chunk_whole m w d (hw d) r k j, chunk_at m d r k j
      ⟨(d.val / 16 % 2 * 4 + d.val % 4) * 1024 + r.val * 256 + j.val, by omega⟩ rfl]
    exact congrFun (hpre d).2.1 (ix2 k _)
  rw [refOut_at x w l i hxr hwr hlt]
  exact outAt_at m c i x (fun k v => w (ix2 k v)) (fun i => l (ix1 i)) hx (fun d i => by rw [hl]) hlt
    fun d r k j => chunk_whole m w d (hw d) r k j

/-- The kernel's output array ends, on every device, as the reference's result. -/
theorem values : Cert.algebraic_KernelIdeal_ReferenceIdeal_pre_finite_and_labelled_KernelIdeal
    (hPre_finite_and_labelled_KernelIdeal := preKernel_facts) := fun m g m' g' hpre hargs =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c =>
      ⟨(((h.1 c).1 2).trans (final_out m c)).trans
        (outputs_agree m _ _ _ hpre (fun d => (hargs d).1) (fun d => (hargs d).2.1) (fun d => (hargs d).2.2) c),
        args_kept m h.1 c⟩) (run_main (F := Ideal) m g),
    ref_run m' g'⟩

end Cert.Nll
-- ==== Proof.lean ====
/-
The certificate: the frames of the kernel as printed and as read over the reals, the frame of the reference, and the value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Reference
public import proofs.«01_k».proof.Proof.Values
public import Idealize.ShloMosaic.Adequacy
public import Idealize.ShloMosaic.Init

@[expose] public section

noncomputable section

namespace Cert.Proof

open Idealize.ShloMosaic Idealize.SL.Sem

/-- Every claim of the certificate. A frame that assumes the precondition is the frame that assumes nothing. -/
theorem claim : Cert.Claim :=
  ⟨Cert.Kernel.Gen.facts, Cert.KernelIdeal.Gen.facts, Cert.ReferenceIdeal.Gen.facts,
    Cert.Nll.preKernel_facts, Cert.Nll.preReference_facts,
    Cert.Nll.frame_bits, Cert.Nll.frame_ideal, fun m g _ => Cert.Nll.frame_ideal m g trivial,
    Cert.Nll.frame_reference, fun m g _ => Cert.Nll.frame_reference m g trivial, trivial, Cert.Nll.values⟩

end Cert.Proof

end
